-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![1, 512, 1024]⟩ ⟨3, ![1, 8192, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨3, ![1, 512, 1024]⟩ ⟨3, ![1, 8192, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)
  bcast_S_S1x2048x8x128 : S_.BroadcastsInDim S1x2048x8x128 (![] : Fin 0 → Fin S1x2048x8x128.rank)

variable [Facts]

def fn {F : FTy → Type} [FloatOps F] (main_arg0 : FVec F S1x512x1024 .f32) (main_arg1 : FVec F S1024x1024 .f32) (main_arg2 : FVec F S1x2048x8x128 .f32) (main_arg3 : FVec F S1x2048x8x128 .f32) (main_arg4 : FVec F S1024x1024 .f32) : IVec S1x512x1024 1 × IVec S1024x1024 1 × IVec S1x2048x8x128 1 :=
  let main_v0 : FVec F S1x512x1024 .f32 := Host.absf main_arg0
  let main_cst : FVec F S_ .f32 := constant S_ .f32 0x7F800000#32
  let main_v1 : FVec F S1x512x1024 .f32 := broadcastInDim S1x512x1024 ![] bcast_S_S1x512x1024 main_cst
  let main_v2 : IVec S1x512x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x2048x8x128 .f32 := Host.absf main_arg2
  let main_cst_1 : FVec F S_ .f32 := constant S_ .f32 0x7F800000#32
  let main_v7 : FVec F S1x2048x8x128 .f32 := broadcastInDim S1x2048x8x128 ![] bcast_S_S1x2048x8x128 main_cst_1
  let main_v8 : IVec S1x2048x8x128 1 := cmpf .olt main_v6 main_v7
  (main_v2, main_v5, main_v8)
-- ==== Pre_finite_inputs_ReferenceIdeal.lean ====
abbrev S1x8192x1024 : Shape := ⟨3, ![1, 8192, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x8192x1024 : S_.BroadcastsInDim S1x8192x1024 (![] : Fin 0 → Fin S1x8192x1024.rank)
  bcast_S_S1024x1024 : S_.BroadcastsInDim S1024x1024 (![] : Fin 0 → Fin S1024x1024.rank)
  bcast_S_S1x32768x8x128 : S_.BroadcastsInDim S1x32768x8x128 (![] : Fin 0 → Fin S1x32768x8x128.rank)

variable [Facts]

def fn {F : FTy → Type} [FloatOps F] (main_arg0 : FVec F S1x8192x1024 .f32) (main_arg1 : FVec F S1024x1024 .f32) (main_arg2 : FVec F S1x32768x8x128 .f32) (main_arg3 : FVec F S1x32768x8x128 .f32) (main_arg4 : FVec F S1024x1024 .f32) : IVec S1x8192x1024 1 × IVec S1024x1024 1 × IVec S1x32768x8x128 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x32768x8x128 .f32 := Host.absf main_arg2
  let main_cst_1 : FVec F S_ .f32 := constant S_ .f32 0x7F800000#32
  let main_v7 : FVec F S1x32768x8x128 .f32 := broadcastInDim S1x32768x8x128 ![] bcast_S_S1x32768x8x128 main_cst_1
  let main_v8 : IVec S1x32768x8x128 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S1x2048x8x128 : Shape := ⟨4, ![1, 2048, 8, 128]⟩
abbrev S512x1024 : Shape := ⟨2, ![512, 1024]⟩
abbrev S_ : Shape := ⟨0, ![]⟩
abbrev S512x8x128 : Shape := ⟨3, ![512, 8, 128]⟩
abbrev S8x512x128 : Shape := ⟨3, ![8, 512, 128]⟩
abbrev S2048x8x128 : Shape := ⟨3, ![2048, 8, 128]⟩
abbrev S8x2048x128 : Shape := ⟨3, ![8, 2048, 128]⟩
abbrev S8x1024x128 : Shape := ⟨3, ![8, 1024, 128]⟩
abbrev S3x8x1024x128 : Shape := ⟨4, ![3, 8, 1024, 128]⟩
abbrev S8x512x1 : Shape := ⟨3, ![8, 512, 1]⟩
abbrev S3 : Shape := ⟨1, ![3]⟩
abbrev S1 : Shape := ⟨1, ![1]⟩
abbrev S1x8x1024x128 : Shape := ⟨4, ![1, 8, 1024, 128]⟩
abbrev S1x512x128 : Shape := ⟨3, ![1, 512, 128]⟩
abbrev S512x128 : Shape := ⟨2, ![512, 128]⟩
abbrev S1x1024x128 : Shape := ⟨3, ![1, 1024, 128]⟩
abbrev S1024x128 : Shape := ⟨2, ![1024, 128]⟩
abbrev S1x512x1 : Shape := ⟨3, ![1, 512, 1]⟩
abbrev S512x1 : Shape := ⟨2, ![512, 1]⟩
abbrev S512 : Shape := ⟨1, ![512]⟩
abbrev S1x1x1024x128 : Shape := ⟨4, ![1, 1, 1024, 128]⟩

abbrev nBuf : Space → Nat
  | .hbm => 28
  | .vmem => 11
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x8x128, .f32⟩
  | .hbm, ⟨11, _⟩ => ⟨S8x512x128, .f32⟩
  | .hbm, ⟨12, _⟩ => ⟨S8x512x128, .bf16⟩
  | .hbm, ⟨13, _⟩ => ⟨S2048x8x128, .f32⟩
  | .hbm, ⟨14, _⟩ => ⟨S8x2048x128, .f32⟩
  | .hbm, ⟨15, _⟩ => ⟨S8x2048x128, .bf16⟩
  | .hbm, ⟨16, _⟩ => ⟨S2048x8x128, .f32⟩
  | .hbm, ⟨17, _⟩ => ⟨S8x2048x128, .f32⟩
  | .hbm, ⟨18, _⟩ => ⟨S8x2048x128, .bf16⟩
  | .hbm, ⟨19, _⟩ => ⟨S8x1024x128, .bf16⟩
  | .hbm, ⟨20, _⟩ => ⟨S8x1024x128, .bf16⟩
  | .hbm, ⟨21, _⟩ => ⟨S8x1024x128, .bf16⟩
  | .hbm, ⟨22, _⟩ => ⟨S8x1024x128, .bf16⟩
  | .hbm, ⟨23, _⟩ => ⟨S8x512x128, .f32⟩
  | .hbm, ⟨24, _⟩ => ⟨S512x8x128, .f32⟩
  | .hbm, ⟨25, _⟩ => ⟨S512x1024, .f32⟩
  | .hbm, ⟨26, _⟩ => ⟨S512x1024, .f32⟩
  | .hbm, ⟨27, _⟩ => ⟨S1x512x1024, .f32⟩
  | .local _ .vmem, ⟨0, _⟩ => ⟨S8x512x128, .bf16⟩
  | .local _ .vmem, ⟨1, _⟩ => ⟨S8x1024x128, .bf16⟩
  | .local _ .vmem, ⟨2, _⟩ => ⟨S8x1024x128, .bf16⟩
  | .local _ .vmem, ⟨3, _⟩ => ⟨S8x1024x128, .bf16⟩
  | .local _ .vmem, ⟨4, _⟩ => ⟨S8x1024x128, .bf16⟩
  | .local _ .vmem, ⟨5, _⟩ => ⟨S8x512x128, .f32⟩
  | .local _ .vmem, ⟨6, _⟩ => ⟨S3x8x1024x128, .bf16⟩
  | .local _ .vmem, ⟨7, _⟩ => ⟨S3x8x1024x128, .bf16⟩
  | .local _ .vmem, ⟨8, _⟩ => ⟨S3x8x1024x128, .bf16⟩
  | .local _ .vmem, ⟨9, _⟩ => ⟨S3x8x1024x128, .bf16⟩
  | .local _ .vmem, ⟨10, _⟩ => ⟨S8x512x1, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 3 30 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v36 : BitVec 32 := Scalar.muli v24 c1_i32_28
  let v37 : BitVec 32 := Scalar.addi c0_i32_29 v36
  v37.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v44 : BitVec 32 := Scalar.muli v24 c1_i32_36
  let v45 : BitVec 32 := Scalar.addi c0_i32_37 v44
  v45.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v52 : BitVec 32 := Scalar.muli v13 c1_i32_44
  let v53 : BitVec 32 := Scalar.addi c0_i32_45 v52
  v53.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_52 : BitVec 32 := 1#32
  let v60 : BitVec 32 := Scalar.muli v13 c1_i32_52
  let v61 : BitVec 32 := Scalar.addi c0_i32_53 v60
  v61.toNat
@[reducible] def k0_t1_loop : Scf.Loop 32 :=
  let c0_i32_57 : BitVec 32 := 0#32
  let c8_i32 : BitVec 32 := 8#32
  let v68 : BitVec 32 := Scalar.addi c0_i32_57 c8_i32
  let c1_i32_58 : BitVec 32 := 1#32
  ⟨c0_i32_57, v68, c1_i32_58⟩
def k0_off1 (k0_t1 : Fin k0_t1_loop.trips) : Fin 3 → Nat :=
  let c0_i32_57 : BitVec 32 := 0#32
  let c1_i32_58 : BitVec 32 := 1#32
  let arg21 : BitVec 32 := Scf.iv c0_i32_57 c1_i32_58 k0_t1
  let v123 : Index := Scalar.indexCast arg21
  let c0_150 : Index := 0#32
  let c0_151 : Index := 0#32
  ![v123.toNat, 0, 0]
def k0_off2 (k0_t1 : Fin k0_t1_loop.trips) : Fin 3 → Nat :=
  let c0_i32_57 : BitVec 32 := 0#32
  let c1_i32_58 : BitVec 32 := 1#32
  let arg21 : BitVec 32 := Scf.iv c0_i32_57 c1_i32_58 k0_t1
  let v126 : Index := Scalar.indexCast arg21
  let c0_152 : Index := 0#32
  let c0_153 : Index := 0#32
  ![v126.toNat, 0, 0]
def k0_off3 (k0_t1 : Fin k0_t1_loop.trips) : Fin 3 → Nat :=
  let c0_i32_57 : BitVec 32 := 0#32
  let c1_i32_58 : BitVec 32 := 1#32
  let arg21 : BitVec 32 := Scf.iv c0_i32_57 c1_i32_58 k0_t1
  let v134 : Index := Scalar.indexCast arg21
  let c0_157 : Index := 0#32
  let c0_158 : Index := 0#32
  ![v134.toNat, 0, 0]
@[reducible] def k0_t2_loop : Scf.Loop 32 :=
  let c0_i32_60 : BitVec 32 := 0#32
  let c8_i32_61 : BitVec 32 := 8#32
  let v69 : BitVec 32 := Scalar.addi c0_i32_60 c8_i32_61
  let c1_i32_62 : BitVec 32 := 1#32
  ⟨c0_i32_60, v69, c1_i32_62⟩
def k0_off4 (k0_t2 : Fin k0_t2_loop.trips) : Fin 3 → Nat :=
  let c0_i32_60 : BitVec 32 := 0#32
  let c1_i32_62 : BitVec 32 := 1#32
  let arg21 : BitVec 32 := Scf.iv c0_i32_60 c1_i32_62 k0_t2
  let v123 : Index := Scalar.indexCast arg21
  let c0_150 : Index := 0#32
  let c0_151 : Index := 0#32
  ![v123.toNat, 0, 0]
def k0_off5 (k0_t2 : Fin k0_t2_loop.trips) : Fin 3 → Nat :=
  let c0_i32_60 : BitVec 32 := 0#32
  let c1_i32_62 : BitVec 32 := 1#32
  let arg21 : BitVec 32 := Scf.iv c0_i32_60 c1_i32_62 k0_t2
  let v126 : Index := Scalar.indexCast arg21
  let c0_152 : Index := 0#32
  let c0_153 : Index := 0#32
  ![v126.toNat, 0, 0]
def k0_off6 (k0_t2 : Fin k0_t2_loop.trips) : Fin 3 → Nat :=
  let c0_i32_60 : BitVec 32 := 0#32
  let c1_i32_62 : BitVec 32 := 1#32
  let arg21 : BitVec 32 := Scf.iv c0_i32_60 c1_i32_62 k0_t2
  let v134 : Index := Scalar.indexCast arg21
  let c0_157 : Index := 0#32
  let c0_158 : Index := 0#32
  ![v134.toNat, 0, 0]
def k0_dev7 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_125 : BitVec 32 := 1#32
  let v110 : BitVec 32 := Scalar.muli v13 c1_i32_125
  let v111 : BitVec 32 := Scalar.addi c0_i32_126 v110
  v111.toNat
def k0_dev8 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_128 : BitVec 32 := 1#32
  let v112 : BitVec 32 := Scalar.muli v24 c1_i32_128
  let v113 : BitVec 32 := Scalar.addi c0_i32_129 v112
  v113.toNat
@[reducible] def k0_t3_loop : Scf.Loop 32 :=
  let c1_i32_130 : BitVec 32 := 1#32
  let c14_i32 : BitVec 32 := 14#32
  let v114 : BitVec 32 := Scalar.addi c1_i32_130 c14_i32
  let c1_i32_131 : BitVec 32 := 1#32
  ⟨c1_i32_130, v114, c1_i32_131⟩
def k0_off7 (k0_t3 : Fin k0_t3_loop.trips) : Fin 1 → Nat :=
  let c1_i32_130 : BitVec 32 := 1#32
  let c1_i32_131 : BitVec 32 := 1#32
  let arg21 : BitVec 32 := Scf.iv c1_i32_130 c1_i32_131 k0_t3
  let c3_i32 : BitVec 32 := 3#32
  let v123 : BitVec 32 := Scalar.remsi arg21 c3_i32
  ![v123.toNat]
def k0_off8 (k0_t3 : Fin k0_t3_loop.trips) : Fin 1 → Nat :=
  let c1_i32_130 : BitVec 32 := 1#32
  let c1_i32_131 : BitVec 32 := 1#32
  let arg21 : BitVec 32 := Scf.iv c1_i32_130 c1_i32_131 k0_t3
  let c1_i32_150 : BitVec 32 := 1#32
  let v124 : BitVec 32 := Scalar.addi arg21 c1_i32_150
  let c3_i32_151 : BitVec 32 := 3#32
  let c0_i32_152 : BitVec 32 := 0#32
  let v125 : BitVec 1 := Scalar.cmpi .eq c3_i32_151 c0_i32_152
  let c1_i32_153 : BitVec 32 := 1#32
  let v126 : BitVec 32 := Scalar.select v125 c1_i32_153 c3_i32_151
  let v127 : BitVec 32 := Scalar.remsi v124 v126
  let c0_i32_155 : BitVec 32 := 0#32
  let v129 : BitVec 1 := Scalar.cmpi .slt v127 c0_i32_155
  let c0_i32_156 : BitVec 32 := 0#32
  let v130 : BitVec 1 := Scalar.cmpi .slt v126 c0_i32_156
  let v131 : BitVec 1 := Scalar.xori v129 v130
  let c0_i32_154 : BitVec 32 := 0#32
  let v128 : BitVec 1 := Scalar.cmpi .ne v127 c0_i32_154
  let v132 : BitVec 1 := Scalar.andi v131 v128
  let v133 : BitVec 32 := Scalar.addi v127 v126
  let v134 : BitVec 32 := Scalar.select v132 v133 v127
  ![v134.toNat]
def k0_off9 (k0_t3 : Fin k0_t3_loop.trips) : Fin 4 → Nat :=
  let c1_i32_130 : BitVec 32 := 1#32
  let c1_i32_131 : BitVec 32 := 1#32
  let arg21 : BitVec 32 := Scf.iv c1_i32_130 c1_i32_131 k0_t3
  let c1_i32_150 : BitVec 32 := 1#32
  let v124 : BitVec 32 := Scalar.addi arg21 c1_i32_150
  let c3_i32_151 : BitVec 32 := 3#32
  let c0_i32_152 : BitVec 32 := 0#32
  let v125 : BitVec 1 := Scalar.cmpi .eq c3_i32_151 c0_i32_152
  let c1_i32_153 : BitVec 32 := 1#32
  let v126 : BitVec 32 := Scalar.select v125 c1_i32_153 c3_i32_151
  let v127 : BitVec 32 := Scalar.remsi v124 v126
  let c0_i32_155 : BitVec 32 := 0#32
  let v129 : BitVec 1 := Scalar.cmpi .slt v127 c0_i32_155
  let c0_i32_156 : BitVec 32 := 0#32
  let v130 : BitVec 1 := Scalar.cmpi .slt v126 c0_i32_156
  let v131 : BitVec 1 := Scalar.xori v129 v130
  let c0_i32_154 : BitVec 32 := 0#32
  let v128 : BitVec 1 := Scalar.cmpi .ne v127 c0_i32_154
  let v132 : BitVec 1 := Scalar.andi v131 v128
  let v133 : BitVec 32 := Scalar.addi v127 v126
  let v134 : BitVec 32 := Scalar.select v132 v133 v127
  let c0_i32_161 : BitVec 32 := 0#32
  let c0_i32_162 : BitVec 32 := 0#32
  let c0_i32_163 : BitVec 32 := 0#32
  ![v134.toNat, 0, 0, 0]
def k0_off10 (k0_t3 : Fin k0_t3_loop.trips) : Fin 4 → Nat :=
  let c1_i32_130 : BitVec 32 := 1#32
  let c1_i32_131 : BitVec 32 := 1#32
  let arg21 : BitVec 32 := Scf.iv c1_i32_130 c1_i32_131 k0_t3
  let c3_i32 : BitVec 32 := 3#32
  let v123 : BitVec 32 := Scalar.remsi arg21 c3_i32
  let c0_i32_164 : BitVec 32 := 0#32
  let c0_i32_165 : BitVec 32 := 0#32
  let c0_i32_166 : BitVec 32 := 0#32
  ![v123.toNat, 0, 0, 0]
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v138 : BitVec 32 := Scalar.muli v24 c1_i32_159
  let v139 : BitVec 32 := Scalar.addi c0_i32_160 v138
  v139.toNat
def k0_dev10 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_167 : BitVec 32 := 1#32
  let v148 : BitVec 32 := Scalar.muli v24 c1_i32_167
  let v149 : BitVec 32 := Scalar.addi c0_i32_168 v148
  v149.toNat
def k0_dev11 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_175 : BitVec 32 := 1#32
  let v158 : BitVec 32 := Scalar.muli v13 c1_i32_175
  let v159 : BitVec 32 := Scalar.addi c0_i32_176 v158
  v159.toNat
def k0_dev12 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_183 : BitVec 32 := 1#32
  let v168 : BitVec 32 := Scalar.muli v13 c1_i32_183
  let v169 : BitVec 32 := Scalar.addi c0_i32_184 v168
  v169.toNat
@[reducible] def k0_t4_loop : Scf.Loop 32 :=
  let c0_i32_191 : BitVec 32 := 0#32
  let c8_i32_192 : BitVec 32 := 8#32
  let v178 : BitVec 32 := Scalar.addi c0_i32_191 c8_i32_192
  let c1_i32_193 : BitVec 32 := 1#32
  ⟨c0_i32_191, v178, c1_i32_193⟩
def k0_off11 (k0_t4 : Fin k0_t4_loop.trips) : Fin 3 → Nat :=
  let c0_i32_191 : BitVec 32 := 0#32
  let c1_i32_193 : BitVec 32 := 1#32
  let arg22 : BitVec 32 := Scf.iv c0_i32_191 c1_i32_193 k0_t4
  let v239 : Index := Scalar.indexCast arg22
  let c0_260 : Index := 0#32
  let c0_261 : Index := 0#32
  ![v239.toNat, 0, 0]
def k0_off12 (k0_t3 : Fin k0_t3_loop.trips) (k0_t4 : Fin k0_t4_loop.trips) : Fin 4 → Nat :=
  let c1_i32_130 : BitVec 32 := 1#32
  let c1_i32_131 : BitVec 32 := 1#32
  let arg21 : BitVec 32 := Scf.iv c1_i32_130 c1_i32_131 k0_t3
  let c3_i32 : BitVec 32 := 3#32
  let v123 : BitVec 32 := Scalar.remsi arg21 c3_i32
  let v242 : Index := Scalar.indexCast v123
  let c0_i32_191 : BitVec 32 := 0#32
  let c1_i32_193 : BitVec 32 := 1#32
  let arg22 : BitVec 32 := Scf.iv c0_i32_191 c1_i32_193 k0_t4
  let v243 : Index := Scalar.indexCast arg22
  let c0_262 : Index := 0#32
  let c0_263 : Index := 0#32
  ![v242.toNat, v243.toNat, 0, 0]
def k0_off13 (k0_t4 : Fin k0_t4_loop.trips) : Fin 3 → Nat :=
  let c0_i32_191 : BitVec 32 := 0#32
  let c1_i32_193 : BitVec 32 := 1#32
  let arg22 : BitVec 32 := Scf.iv c0_i32_191 c1_i32_193 k0_t4
  let v252 : Index := Scalar.indexCast arg22
  let c0_267 : Index := 0#32
  let c0_268 : Index := 0#32
  ![v252.toNat, 0, 0]
@[reducible] def k0_t5_loop : Scf.Loop 32 :=
  let c0_i32_195 : BitVec 32 := 0#32
  let c8_i32_196 : BitVec 32 := 8#32
  let v179 : BitVec 32 := Scalar.addi c0_i32_195 c8_i32_196
  let c1_i32_197 : BitVec 32 := 1#32
  ⟨c0_i32_195, v179, c1_i32_197⟩
def k0_off14 (k0_t5 : Fin k0_t5_loop.trips) : Fin 3 → Nat :=
  let c0_i32_195 : BitVec 32 := 0#32
  let c1_i32_197 : BitVec 32 := 1#32
  let arg22 : BitVec 32 := Scf.iv c0_i32_195 c1_i32_197 k0_t5
  let v239 : Index := Scalar.indexCast arg22
  let c0_260 : Index := 0#32
  let c0_261 : Index := 0#32
  ![v239.toNat, 0, 0]
def k0_off15 (k0_t3 : Fin k0_t3_loop.trips) (k0_t5 : Fin k0_t5_loop.trips) : Fin 4 → Nat :=
  let c1_i32_130 : BitVec 32 := 1#32
  let c1_i32_131 : BitVec 32 := 1#32
  let arg21 : BitVec 32 := Scf.iv c1_i32_130 c1_i32_131 k0_t3
  let c3_i32 : BitVec 32 := 3#32
  let v123 : BitVec 32 := Scalar.remsi arg21 c3_i32
  let v242 : Index := Scalar.indexCast v123
  let c0_i32_195 : BitVec 32 := 0#32
  let c1_i32_197 : BitVec 32 := 1#32
  let arg22 : BitVec 32 := Scf.iv c0_i32_195 c1_i32_197 k0_t5
  let v243 : Index := Scalar.indexCast arg22
  let c0_262 : Index := 0#32
  let c0_263 : Index := 0#32
  ![v242.toNat, v243.toNat, 0, 0]
def k0_off16 (k0_t5 : Fin k0_t5_loop.trips) : Fin 3 → Nat :=
  let c0_i32_195 : BitVec 32 := 0#32
  let c1_i32_197 : BitVec 32 := 1#32
  let arg22 : BitVec 32 := Scf.iv c0_i32_195 c1_i32_197 k0_t5
  let v252 : Index := Scalar.indexCast arg22
  let c0_267 : Index := 0#32
  let c0_268 : Index := 0#32
  ![v252.toNat, 0, 0]
def k0_cond2 (k0_t3 : Fin k0_t3_loop.trips) : BitVec 1 :=
  let c1_i32_130 : BitVec 32 := 1#32
  let c1_i32_131 : BitVec 32 := 1#32
  let arg21 : BitVec 32 := Scf.iv c1_i32_130 c1_i32_131 k0_t3
  let c12_i32 : BitVec 32 := 12#32
  let v236 : BitVec 1 := Scalar.cmpi .sle arg21 c12_i32
  let v237 : BitVec 32 := Scalar.extui v236
  let c0_i32_259 : BitVec 32 := 0#32
  let v238 : BitVec 1 := Scalar.cmpi .ne v237 c0_i32_259
  v238

def k0_dev13 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_261 : BitVec 32 := 1#32
  let v239 : BitVec 32 := Scalar.muli v13 c1_i32_261
  let v240 : BitVec 32 := Scalar.addi c0_i32_262 v239
  v240.toNat
def k0_dev14 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_264 : BitVec 32 := 1#32
  let v241 : BitVec 32 := Scalar.muli v24 c1_i32_264
  let v242 : BitVec 32 := Scalar.addi c0_i32_265 v241
  v242.toNat
@[reducible] def k0_t6_loop : Scf.Loop 32 :=
  let c0_i32_133 : BitVec 32 := 0#32
  let c8_i32_134 : BitVec 32 := 8#32
  let v115 : BitVec 32 := Scalar.addi c0_i32_133 c8_i32_134
  let c1_i32_135 : BitVec 32 := 1#32
  ⟨c0_i32_133, v115, c1_i32_135⟩
def k0_off17 (k0_t6 : Fin k0_t6_loop.trips) : Fin 3 → Nat :=
  let c0_i32_133 : BitVec 32 := 0#32
  let c1_i32_135 : BitVec 32 := 1#32
  let arg21 : BitVec 32 := Scf.iv c0_i32_133 c1_i32_135 k0_t6
  let v123 : Index := Scalar.indexCast arg21
  let c0_150 : Index := 0#32
  let c0_151 : Index := 0#32
  ![v123.toNat, 0, 0]
def k0_off18 (k0_t6 : Fin k0_t6_loop.trips) : Fin 4 → Nat :=
  let c0_152 : Index := 0#32
  let c0_i32_133 : BitVec 32 := 0#32
  let c1_i32_135 : BitVec 32 := 1#32
  let arg21 : BitVec 32 := Scf.iv c0_i32_133 c1_i32_135 k0_t6
  let v126 : Index := Scalar.indexCast arg21
  let c0_153 : Index := 0#32
  let c0_154 : Index := 0#32
  ![0, v126.toNat, 0, 0]
def k0_off19 (k0_t6 : Fin k0_t6_loop.trips) : Fin 3 → Nat :=
  let c0_i32_133 : BitVec 32 := 0#32
  let c1_i32_135 : BitVec 32 := 1#32
  let arg21 : BitVec 32 := Scf.iv c0_i32_133 c1_i32_135 k0_t6
  let v134 : Index := Scalar.indexCast arg21
  let c0_159 : Index := 0#32
  let c0_160 : Index := 0#32
  ![v134.toNat, 0, 0]
@[reducible] def k0_t7_loop : Scf.Loop 32 :=
  let c0_i32_137 : BitVec 32 := 0#32
  let c8_i32_138 : BitVec 32 := 8#32
  let v116 : BitVec 32 := Scalar.addi c0_i32_137 c8_i32_138
  let c1_i32_139 : BitVec 32 := 1#32
  ⟨c0_i32_137, v116, c1_i32_139⟩
def k0_off20 (k0_t7 : Fin k0_t7_loop.trips) : Fin 3 → Nat :=
  let c0_i32_137 : BitVec 32 := 0#32
  let c1_i32_139 : BitVec 32 := 1#32
  let arg21 : BitVec 32 := Scf.iv c0_i32_137 c1_i32_139 k0_t7
  let v123 : Index := Scalar.indexCast arg21
  let c0_150 : Index := 0#32
  let c0_151 : Index := 0#32
  ![v123.toNat, 0, 0]
def k0_off21 (k0_t7 : Fin k0_t7_loop.trips) : Fin 4 → Nat :=
  let c0_152 : Index := 0#32
  let c0_i32_137 : BitVec 32 := 0#32
  let c1_i32_139 : BitVec 32 := 1#32
  let arg21 : BitVec 32 := Scf.iv c0_i32_137 c1_i32_139 k0_t7
  let v126 : Index := Scalar.indexCast arg21
  let c0_153 : Index := 0#32
  let c0_154 : Index := 0#32
  ![0, v126.toNat, 0, 0]
def k0_off22 (k0_t7 : Fin k0_t7_loop.trips) : Fin 3 → Nat :=
  let c0_i32_137 : BitVec 32 := 0#32
  let c1_i32_139 : BitVec 32 := 1#32
  let arg21 : BitVec 32 := Scf.iv c0_i32_137 c1_i32_139 k0_t7
  let v134 : Index := Scalar.indexCast arg21
  let c0_159 : Index := 0#32
  let c0_160 : Index := 0#32
  ![v134.toNat, 0, 0]
abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x8192x1024 : Shape := ⟨3, ![1, 8192, 1024]⟩
abbrev S1024x1024 : Shape := ⟨2, ![1024, 1024]⟩
abbrev S1x32768x8x128 : Shape := ⟨4, ![1, 32768, 8, 128]⟩
abbrev S1x8192x8x128 : Shape := ⟨4, ![1, 8192, 8, 128]⟩
abbrev S1x8x8192x32768 : Shape := ⟨4, ![1, 8, 8192, 32768]⟩
abbrev S_ : Shape := ⟨0, ![]⟩
abbrev S1x8x8192 : Shape := ⟨3, ![1, 8, 8192]⟩
abbrev S1x8x8192x1 : Shape := ⟨4, ![1, 8, 8192, 1]⟩
abbrev S1x8x128x8192 : Shape := ⟨4, ![1, 8, 128, 8192]⟩

abbrev nBuf : Space → Nat
  | .hbm => 29
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x8192x1024, .f32⟩
  | .hbm, ⟨6, _⟩ => ⟨S1x8192x8x128, .f32⟩
  | .hbm, ⟨7, _⟩ => ⟨S1x8x8192x32768, .f32⟩
  | .hbm, ⟨8, _⟩ => ⟨S_, .f32⟩
  | .hbm, ⟨9, _⟩ => ⟨S1x8x8192x32768, .f32⟩
  | .hbm, ⟨10, _⟩ => ⟨S1x8x8192x32768, .f32⟩
  | .hbm, ⟨11, _⟩ => ⟨S_, .f32⟩
  | .hbm, ⟨12, _⟩ => ⟨S1x8x8192, .f32⟩
  | .hbm, ⟨13, _⟩ => ⟨S_, .f32⟩
  | .hbm, ⟨14, _⟩ => ⟨S1x8x8192, .f32⟩
  | .hbm, ⟨15, _⟩ => ⟨S1x8x8192, .f32⟩
  | .hbm, ⟨16, _⟩ => ⟨S1x8x8192x1, .f32⟩
  | .hbm, ⟨17, _⟩ => ⟨S1x8x8192x32768, .f32⟩
  | .hbm, ⟨18, _⟩ => ⟨S1x8x8192x32768, .f32⟩
  | .hbm, ⟨19, _⟩ => ⟨S1x8x8192x32768, .f32⟩
  | .hbm, ⟨20, _⟩ => ⟨S_, .f32⟩
  | .hbm, ⟨21, _⟩ => ⟨S1x8x8192, .f32⟩
  | .hbm, ⟨22, _⟩ => ⟨S1x8x8192x1, .f32⟩
  | .hbm, ⟨23, _⟩ => ⟨S1x8x8192x32768, .f32⟩
  | .hbm, ⟨24, _⟩ => ⟨S1x8x8192x32768, .f32⟩
  | .hbm, ⟨25, _⟩ => ⟨S1x8x128x8192, .f32⟩
  | .hbm, ⟨26, _⟩ => ⟨S1x8192x8x128, .f32⟩
  | .hbm, ⟨27, _⟩ => ⟨S1x8192x1024, .f32⟩
  | .hbm, ⟨28, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Proto.lean ====
/-
  What every part of the proof shares: the resource algebra, the ring of sixteen devices, the kernel's buffers and
  semaphores under one numbering, and the cells of the protocol.

  Four streams run around the ring, numbered `b : Fin 4`: 0 and 1 carry the right-going half of the keys and of the values,
  2 and 3 the left-going half. Stream `b` sends from device `c` to `peer b c`. Step `t` of the kernel (`t = 0 … 14`) sends
  one block of each stream: at step 0 the device's own block, afterwards slot `t % 3` of the stream's three-slot buffer;
  the block lands in slot `(t + 1) % 3` of the peer's buffer. Send semaphore `t % 3` and receive semaphore `(t + 1) % 3` of
  the stream count it, each in its round `t / 3`.
-/
module

public import proofs.«01_k».proof.Defs
public import Idealize.ShloMosaic.Lib.Pipeline.Regions
public import Idealize.ShloMosaic.Lib.Pipeline.Kit
public import Idealize.ShloMosaic.Lib.Rounds
public import Idealize.ShloMosaic.Lib.Release
public import Idealize.ShloMosaic.Lib.Tactic
public import Idealize.ShloMosaic.Lib.Pipeline.RegionTalk
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

/-! ## The resource algebra -/

/-- The pipeline library's copy of the rounds algebra. -/
abbrev UP : Type := URounds (GSem nD τ sig) Unit
/-- The ring protocol's copy, with numbered duties. -/
abbrev UB : Type := URounds (GSem nD τ sig) ℕ
/-- A slot's key: the device whose buffer it is, the stream, and the step whose copy is to be written into it. -/
abbrev Key : Type := Dev nD × Fin 4 × ℕ
/-- The pipeline's copy beside the ring's two parts: its rounds, and its slots handed back. -/
abbrev UU : Type := UP × (UB × USlots Key)

local notation "𝕄" => MT nD τ sig ℕ (Elt F) ℕ UU ℕ

abbrev EP : Emb UP (MT nD τ sig ℕ (Elt F) ℕ UU ℕ) := embL
/-- The ring's rounds inside the whole algebra, -/
def ER : Emb UB (MT nD τ sig ℕ (Elt F) ℕ UU ℕ) :=
  (Emb.inl : Emb UB (UB × USlots Key)).trans (embR : Emb (UB × USlots Key) (MT nD τ sig ℕ (Elt F) ℕ UU ℕ))
/-- and its slots. -/
def ES : Emb (USlots Key) (MT nD τ sig ℕ (Elt F) ℕ UU ℕ) :=
  (Emb.inr : Emb (USlots Key) (UB × USlots Key)).trans (embR : Emb (UB × USlots Key) (MT nD τ sig ℕ (Elt F) ℕ UU ℕ))

instance ER_landsIn : (ER : Emb UB 𝕄).LandsIn (upEmb : UEmb _ 𝕄) := by unfold ER; infer_instance
instance ES_landsIn : (ES : Emb (USlots Key) 𝕄).LandsIn (upEmb : UEmb _ 𝕄) := by unfold ES; infer_instance

/-! ## The ring -/

set_option backward.proofsInPublic true in
/-- The neighbour a direction sends to: direction 0 to the right, direction 1 to the left. -/
def peerD (d : Fin 2) (c : Dev nD) : Dev nD := ⟨(c.val + if d = 0 then 1 else 15) % 16, Nat.mod_lt _ (by decide)⟩
set_option backward.proofsInPublic true in
/-- The neighbour a direction receives from. -/
def prevD (d : Fin 2) (c : Dev nD) : Dev nD := ⟨(c.val + if d = 0 then 15 else 1) % 16, Nat.mod_lt _ (by decide)⟩

/-- A stream's direction, -/
def dirOf : Fin 4 → Fin 2 := ![0, 0, 1, 1]
/-- the key stream of a direction, -/
def kb : Fin 2 → Fin 4 := ![0, 2]
/-- and its value stream. -/
def vb : Fin 2 → Fin 4 := ![1, 3]

abbrev peer (b : Fin 4) (c : Dev nD) : Dev nD := peerD (dirOf b) c
abbrev prev (b : Fin 4) (c : Dev nD) : Dev nD := prevD (dirOf b) c

theorem prevD_peerD (d : Fin 2) (c : Dev nD) : prevD d (peerD d c) = c := by revert d c; decide
theorem peerD_prevD (d : Fin 2) (c : Dev nD) : peerD d (prevD d c) = c := by revert d c; decide
theorem dirOf_kb (d : Fin 2) : dirOf (kb d) = d := by revert d; decide
theorem dirOf_vb (d : Fin 2) : dirOf (vb d) = d := by revert d; decide

theorem prev_kb (d : Fin 2) (c : Dev nD) : prev (kb d) c = prevD d c := by unfold prev; rw [dirOf_kb]
theorem prev_vb (d : Fin 2) (c : Dev nD) : prev (vb d) c = prevD d c := by unfold prev; rw [dirOf_vb]
theorem peer_prev (b : Fin 4) (c : Dev nD) : peer b (prev b c) = c := peerD_prevD _ c

/-- The other direction. -/
def opp : Fin 2 → Fin 2 := ![1, 0]
theorem opp_opp (d : Fin 2) : opp (opp d) = d := by revert d; decide
theorem peerD_opp (d : Fin 2) (c : Dev nD) : peerD (opp d) c = prevD d c := by revert d c; decide

/-- A direction's shift around the ring, as a permutation. -/
def ring (d : Fin 2) : Dev nD ≃ Dev nD := ⟨peerD d, prevD d, prevD_peerD d, peerD_prevD d⟩

/-- The device whose own block stream `b` holds on device `c` at step `t`. -/
def srcD (b : Fin 4) (c : Dev nD) : ℕ → Dev nD
  | 0 => c
  | t + 1 => srcD b (prev b c) t

theorem srcD_peer (b : Fin 4) (c : Dev nD) (t : ℕ) : srcD b (peer b c) (t + 1) = srcD b c t := by
  show srcD b (prevD (dirOf b) (peerD (dirOf b) c)) t = _; rw [prevD_peerD]

/-! ## Slots, buffers, semaphores -/

set_option backward.proofsInPublic true in
/-- The slot a step's number names. -/
def k3 (t : ℕ) : Fin 3 := ⟨t % 3, Nat.mod_lt _ (by decide)⟩

theorem k3_add_three (t : ℕ) : k3 (t + 3) = k3 t := Fin.ext (by simp [k3])

/-- The device's own block of each stream, in its staging buffer. -/
abbrev ownM : Fin 4 → Memref sig .tc .vmem S8x1024x128 .bf16
  | 0 => Memref.whole cc0_stg1_0
  | 1 => Memref.whole cc0_stg3_0
  | 2 => Memref.whole cc0_stg2_0
  | 3 => Memref.whole cc0_stg4_0

/-- The three-slot buffer of each stream. -/
abbrev bufR : Fin 4 → Ref sig .tc
  | 0 => cc0_scratch0
  | 1 => cc0_scratch1
  | 2 => cc0_scratch2
  | 3 => cc0_scratch3
abbrev bufM : Fin 4 → Memref sig .tc .vmem S3x8x1024x128 .bf16
  | 0 => Memref.whole cc0_scratch0
  | 1 => Memref.whole cc0_scratch1
  | 2 => Memref.whole cc0_scratch2
  | 3 => Memref.whole cc0_scratch3

theorem slot_inb (k : Fin 3) : ∀ a, (![k.val, 0, 0, 0] : Fin 4 → ℕ) a + S1x8x1024x128.size a ≤ S3x8x1024x128.size a := by
  revert k; decide

/-- Slot `k` of stream `b`'s buffer. -/
abbrev slotRect (k : Fin 3) : Rect S3x8x1024x128 := Rect.unit (s := S3x8x1024x128) ![k.val, 0, 0, 0] S1x8x1024x128.size (slot_inb k)
abbrev slotM (b : Fin 4) (k : Fin 3) : Memref sig .tc .vmem S8x1024x128 .bf16 :=
  ((bufM b).slice (slotRect k) (fun _ => rfl)).squeeze S8x1024x128 squeezes_S1x8x1024x128_S8x1024x128

/-- What stream `b` sends from at step `t`. -/
def srcM (b : Fin 4) (t : ℕ) : Memref sig .tc .vmem S8x1024x128 .bf16 := if t = 0 then ownM b else slotM b (k3 t)

set_option backward.proofsInPublic true in
/-- Send semaphore `k` of stream `b`, -/
def sendS (b : Fin 4) (k : Fin 3) : DmaSem sig := ⟨6 + 6 * b.val + k.val, by have := b.isLt; have := k.isLt; show _ < 30; omega⟩
set_option backward.proofsInPublic true in
/-- and its receive semaphore `k`. -/
def recvS (b : Fin 4) (k : Fin 3) : DmaSem sig := ⟨9 + 6 * b.val + k.val, by have := b.isLt; have := k.isLt; show _ < 30; omega⟩
set_option backward.proofsInPublic true in
/-- The credit semaphore of a direction, -/
def creditS (d : Fin 2) : Sem sig := ⟨d.val, by have := d.isLt; show _ < 3; omega⟩
set_option backward.proofsInPublic true in
/-- and the barrier. -/
def barS : Sem sig := ⟨2, by decide⟩

abbrev barCell (c : Dev nD) : GSem nD τ sig := ((c : Thread nD τ), .reg barS)
abbrev creditCell (c : Dev nD) (d : Fin 2) : GSem nD τ sig := ((c : Thread nD τ), .reg (creditS d))
abbrev sendCell (c : Dev nD) (b : Fin 4) (k : Fin 3) : GSem nD τ sig := ((c : Thread nD τ), .dma (sendS b k))
abbrev recvCell (c : Dev nD) (b : Fin 4) (k : Fin 3) : GSem nD τ sig := ((c : Thread nD τ), .dma (recvS b k))

/-- What a semaphore is in the protocol. -/
inductive Cl
  | bar
  | credit (d : Fin 2)
  | send (b : Fin 4) (k : Fin 3)
  | recv (b : Fin 4) (k : Fin 3)
  | other
  deriving DecidableEq

set_option backward.proofsInPublic true in
def cl : SemLoc sig → Cl
  | .reg s => if s.val = 2 then .bar else if s.val = 0 then .credit 0 else .credit 1
  | .dma n =>
    if n.val < 6 then .other
    else if (n.val - 6) / 3 % 2 = 0 then .send ⟨(n.val - 6) / 6 % 4, Nat.mod_lt _ (by decide)⟩ ⟨(n.val - 6) % 3, Nat.mod_lt _ (by decide)⟩
    else .recv ⟨(n.val - 6) / 6 % 4, Nat.mod_lt _ (by decide)⟩ ⟨(n.val - 6) % 3, Nat.mod_lt _ (by decide)⟩

theorem cl_bar : cl (.reg barS) = .bar := by decide
theorem cl_credit (d : Fin 2) : cl (.reg (creditS d)) = .credit d := by revert d; decide
theorem cl_send (b : Fin 4) (k : Fin 3) : cl (.dma (sendS b k)) = .send b k := by revert b k; decide
theorem cl_recv (b : Fin 4) (k : Fin 3) : cl (.dma (recvS b k)) = .recv b k := by revert b k; decide

/-- What the copy of one block credits. -/
abbrev N : ℕ := (slotM 0 0).view.dmaCredit
theorem N_pos : 0 < N := View.dmaCredit_pos _ (by decide)

theorem N_slot (b : Fin 4) (k : Fin 3) : (slotM b k).view.dmaCredit = N := by
  match b with
  | 0 => rfl
  | 1 => rfl
  | 2 => rfl
  | 3 => rfl
theorem N_own (b : Fin 4) : (ownM b).view.dmaCredit = N := by
  match b with
  | 0 => rfl
  | 1 => rfl
  | 2 => rfl
  | 3 => rfl
theorem N_src (b : Fin 4) (t : ℕ) : (srcM b t).view.dmaCredit = N := by
  unfold srcM; split
  · exact N_own b
  · exact N_slot b _

end Cert.Proof

end
-- ==== Proof.Sched.lean ====
/-
  What each semaphore of the protocol counts, and what a device hands over when it raises one.

  * Barrier, round 0: duty `d` comes from the neighbour that a device sends to in direction `d`. It says that two slots of
    each of that direction's streams are free on the neighbour for steps 0 and 1.
  * Credit of direction `d`, round 0: unit `s` says that every slot up to the one of step `s + 2` is free on the neighbour.
    Units run ahead of the waits, so the slots themselves wait in an invariant and a unit carries only the facts.
  * Send and receive semaphores: round `t / 3` belongs to step `t`. The send semaphore gives back the half share of the
    source, the receive semaphore the slot with the block that has landed.
-/
module

public import proofs.«01_k».proof.Proof.Proto

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- One block of a stream. -/
abbrev Blk (F : FTy → Type) : Type := S8x1024x128.Idx → Elt F .bf16

/-- Slot `k` of stream `b`'s buffer on device `c`, at contents not chosen. -/
def slotP (c : Dev nD) (b : Fin 4) (k : Fin 3) : sProp 𝕄 := slot ((slotM b k).view.loc (c : Thread nD τ)) (slotM b k).view.set

instance slotP_storable (c : Dev nD) (b : Fin 4) (k : Fin 3) : Storable (upEmb : UEmb _ 𝕄) (slotP (F := F) c b k) := by
  unfold slotP; infer_instance

theorem owns_slotP (c : Dev nD) (b : Fin 4) (k : Fin 3) (Y : Blk F) :
    owns (c : Thread nD τ) (slotM b k) fullShare Y ⊢ (slotP c b k : sProp 𝕄) := by
  unfold owns slotP slot
  iintro ⟨%f, -, H⟩; iexists f; iexact H

/-- What the writer `w` of stream `b` must know before its copy of step `i`: the peer has freed the slot, and the peer's
    receive semaphore has come to the step's round. -/
def fact1 (b : Fin 4) (w : Dev nD) (i : ℕ) : sProp 𝕄 :=
  iprop(released ES (peer b w, b, i) 1 ∗ reached ER (recvCell (peer b w) b (k3 (i + 1))) (i / 3))

instance fact1_persistent (b : Fin 4) (w : Dev nD) (i : ℕ) : Persistent (fact1 (F := F) b w i) := by unfold fact1; infer_instance
instance fact1_storable (b : Fin 4) (w : Dev nD) (i : ℕ) : Storable (upEmb : UEmb _ 𝕄) (fact1 (F := F) b w i) := by
  unfold fact1; infer_instance

/-- The facts of a direction's two streams, for the steps below `n`. -/
def facts (d : Fin 2) (w : Dev nD) (n : ℕ) : sProp 𝕄 :=
  bigSep (Finset.range n) fun i => iprop(fact1 (kb d) w i ∗ fact1 (vb d) w i)

instance facts_persistent (d : Fin 2) (w : Dev nD) (n : ℕ) : Persistent (facts (F := F) d w n) := by unfold facts; infer_instance
instance facts_storable (d : Fin 2) (w : Dev nD) (n : ℕ) : Storable (upEmb : UEmb _ 𝕄) (facts (F := F) d w n) := by
  unfold facts; infer_instance

theorem facts_mono (d : Fin 2) (w : Dev nD) {n n' : ℕ} (h : n ≤ n') : facts (F := F) d w n' ⊢ (facts d w n : sProp 𝕄) :=
  bigSep_subset (Finset.range_mono h)

theorem facts_succ (d : Fin 2) (w : Dev nD) (n : ℕ) :
    iprop(facts d w n ∗ fact1 (kb d) w n ∗ fact1 (vb d) w n) ⊢ (facts (F := F) d w (n + 1) : sProp 𝕄) := by
  unfold facts
  rw [Finset.range_add_one, bigSep_insert Finset.notMem_range_self]
  show _ ⊢ iprop((fact1 (kb d) w n ∗ fact1 (vb d) w n) ∗ _)
  iintro ⟨Ha, Hb⟩
  isplitl [Hb]; · iexact Hb
  iexact Ha

theorem facts_zero (d : Fin 2) (w : Dev nD) : (emp : sProp 𝕄) ⊢ facts (F := F) d w 0 := by
  unfold facts; rw [Finset.range_zero, bigSep_empty]; exact Entails.refl _

theorem facts_kb (d : Fin 2) (w : Dev nD) {n i : ℕ} (h : i < n) : facts (F := F) d w n ⊢ (fact1 (kb d) w i : sProp 𝕄) := by
  refine (bigSep_elim (Finset.mem_range.mpr h)).trans ?_
  show iprop(fact1 (kb d) w i ∗ fact1 (vb d) w i) ⊢ (_ : sProp 𝕄)
  iintro ⟨H, -⟩; iexact H
theorem facts_vb (d : Fin 2) (w : Dev nD) {n i : ℕ} (h : i < n) : facts (F := F) d w n ⊢ (fact1 (vb d) w i : sProp 𝕄) := by
  refine (bigSep_elim (Finset.mem_range.mpr h)).trans ?_
  show iprop(fact1 (kb d) w i ∗ fact1 (vb d) w i) ⊢ (_ : sProp 𝕄)
  iintro ⟨-, H⟩; iexact H

/-- What duty `d` of device `x`'s barrier hands over. -/
def barPay (x : Dev nD) (d : Fin 2) : sProp 𝕄 := iprop(facts d x 2 ∗ reached ER (creditCell (peerD d x) (opp d)) 0)

/-- The steps of a direction's credits, and of the copies. -/
abbrev nCred : ℕ := 13
abbrev nStep : ℕ := 15

variable (X : Fin 4 → Dev nD → Blk F)

/-- Stream `b`'s block on device `c` at step `t`, at share `q`. -/
def dataQ (q : PosShare TreeShare) (b : Fin 4) (c : Dev nD) (t : ℕ) : sProp 𝕄 :=
  owns (c : Thread nD τ) (srcM b t) q (X b (srcD b c t))

/-- The protocol. -/
def rd : Schedule (GSem nD τ sig) ℕ 𝕄 where
  duties g r := if g.1.2 = .tc then
      match cl g.2 with
      | .bar => if r = 0 then {0, 1} else ∅
      | .credit _ => if r = 0 then Finset.range nCred else ∅
      | .send _ _ => if r < 5 then {0} else ∅
      | .recv _ _ => if r < 5 then {0} else ∅
      | .other => ∅
    else ∅
  unitless _ := False
  amount g _ _ := match cl g.2 with
    | .send _ _ => N
    | .recv _ _ => N
    | _ => 1
  payload g r s := match cl g.2 with
    | .bar => barPay g.1.1 (if s = 0 then 0 else 1)
    | .credit d => facts d g.1.1 (s + 3)
    | .send b k => dataQ X fullShare.right b g.1.1 (3 * r + k.val)
    | .recv b k => owns (g.1.1 : Thread nD τ) (slotM b k) fullShare (X b (srcD b g.1.1 (3 * r + (k.val + 2) % 3 + 1)))
    | .other => iprop(emp)
  amount_pos g _ _ _ := by
    cases cl g.2 <;> first | exact Nat.one_pos | exact N_pos

instance rd_payload_storable (g : GSem nD τ sig) (r s : ℕ) : Storable (upEmb : UEmb _ 𝕄) ((rd X).payload g r s) := by
  dsimp only [rd]
  unfold barPay dataQ
  cases cl g.2 <;> dsimp only <;> infer_instance

section Facts

variable (c : Dev nD)

theorem duties_bar : (rd X).duties (barCell c) 0 = {0, 1} := by dsimp only [rd]; rw [if_pos rfl, cl_bar]; rfl
theorem duties_credit (d : Fin 2) : (rd X).duties (creditCell c d) 0 = Finset.range nCred := by
  dsimp only [rd]; rw [if_pos rfl, cl_credit]; rfl
theorem duties_send (b : Fin 4) (k : Fin 3) {r : ℕ} (h : r < 5) : (rd X).duties (sendCell c b k) r = {0} := by
  dsimp only [rd]; rw [if_pos rfl, cl_send]; exact if_pos h
theorem duties_recv (b : Fin 4) (k : Fin 3) {r : ℕ} (h : r < 5) : (rd X).duties (recvCell c b k) r = {0} := by
  dsimp only [rd]; rw [if_pos rfl, cl_recv]; exact if_pos h

theorem amount_bar (s : ℕ) : (rd X).amount (barCell c) 0 s = 1 := by dsimp only [rd]; rw [cl_bar]
theorem amount_credit (d : Fin 2) (s : ℕ) : (rd X).amount (creditCell c d) 0 s = 1 := by dsimp only [rd]; rw [cl_credit]
theorem amount_send (b : Fin 4) (k : Fin 3) (r s : ℕ) : (rd X).amount (sendCell c b k) r s = N := by dsimp only [rd]; rw [cl_send]
theorem amount_recv (b : Fin 4) (k : Fin 3) (r s : ℕ) : (rd X).amount (recvCell c b k) r s = N := by dsimp only [rd]; rw [cl_recv]

theorem payload_bar (d : Fin 2) : (rd X).payload (barCell c) 0 d.val = barPay c d := by
  dsimp only [rd]; rw [cl_bar]
  match d with
  | 0 => rfl
  | 1 => rfl
theorem payload_credit (d : Fin 2) (s : ℕ) : (rd X).payload (creditCell c d) 0 s = facts d c (s + 3) := by
  dsimp only [rd]; rw [cl_credit]
theorem payload_send (b : Fin 4) (t : ℕ) : (rd X).payload (sendCell c b (k3 t)) (t / 3) 0 = dataQ X fullShare.right b c t := by
  dsimp only [rd]; rw [cl_send]; dsimp only
  rw [show 3 * (t / 3) + (k3 t).val = t by show 3 * (t / 3) + t % 3 = t; omega]
theorem payload_recv (b : Fin 4) (t : ℕ) :
    (rd X).payload (recvCell c b (k3 (t + 1))) (t / 3) 0 = dataQ X fullShare b c (t + 1) := by
  dsimp only [rd]; rw [cl_recv]; dsimp only
  rw [show 3 * (t / 3) + ((k3 (t + 1)).val + 2) % 3 = t by show 3 * (t / 3) + ((t + 1) % 3 + 2) % 3 = t; omega]
  unfold dataQ srcM
  rw [if_neg (Nat.succ_ne_zero t)]

theorem expect_bar : (rd X).expect (barCell c) 0 = 2 := by
  unfold Schedule.expect Schedule.amountOf; rw [duties_bar, Finset.sum_pair (by decide)]
  rw [amount_bar, amount_bar]
theorem expect_credit (d : Fin 2) : (rd X).expect (creditCell c d) 0 = nCred := by
  unfold Schedule.expect Schedule.amountOf; rw [duties_credit, Finset.sum_congr rfl (fun s _ => amount_credit X c d s)]; rfl
theorem expect_send (b : Fin 4) (k : Fin 3) {r : ℕ} (h : r < 5) : (rd X).expect (sendCell c b k) r = N := by
  unfold Schedule.expect Schedule.amountOf; rw [duties_send X c b k h, Finset.sum_singleton, amount_send]
theorem expect_recv (b : Fin 4) (k : Fin 3) {r : ℕ} (h : r < 5) : (rd X).expect (recvCell c b k) r = N := by
  unfold Schedule.expect Schedule.amountOf; rw [duties_recv X c b k h, Finset.sum_singleton, amount_recv]

theorem rest_send (b : Fin 4) {t : ℕ} (h : t < nStep) :
    bigSep ((rd X).duties (sendCell c b (k3 t)) (t / 3) \ ∅) (fun s => (rd X).payload (sendCell c b (k3 t)) (t / 3) s)
      = dataQ X fullShare.right b c t := by
  rw [Finset.sdiff_empty, duties_send X c b _ (by simp only [nStep] at h; omega), bigSep_singleton, payload_send]
theorem rest_recv (b : Fin 4) {t : ℕ} (h : t < nStep) :
    bigSep ((rd X).duties (recvCell c b (k3 (t + 1))) (t / 3) \ ∅) (fun s => (rd X).payload (recvCell c b (k3 (t + 1))) (t / 3) s)
      = dataQ X fullShare b c (t + 1) := by
  rw [Finset.sdiff_empty, duties_recv X c b _ (by simp only [nStep] at h; omega), bigSep_singleton, payload_recv]
theorem rest_bar :
    bigSep ((rd X).duties (barCell c) 0 \ ∅) (fun s => (rd X).payload (barCell c) 0 s) = iprop(barPay c 0 ∗ barPay c 1) := by
  rw [Finset.sdiff_empty, duties_bar, bigSep_insert (by decide), bigSep_singleton]
  exact congrArg₂ _ (payload_bar X c 0) (payload_bar X c 1)

theorem later_send (b : Fin 4) (k : Fin 3) : ∀ r, 5 ≤ r → (rd X).duties (sendCell c b k) r = ∅ := fun r hr => by
  dsimp only [rd]; rw [if_pos rfl, cl_send]; exact if_neg (Nat.not_lt.mpr hr)
theorem later_recv (b : Fin 4) (k : Fin 3) : ∀ r, 5 ≤ r → (rd X).duties (recvCell c b k) r = ∅ := fun r hr => by
  dsimp only [rd]; rw [if_pos rfl, cl_recv]; exact if_neg (Nat.not_lt.mpr hr)
theorem later_bar : ∀ r, 1 ≤ r → (rd X).duties (barCell c) r = ∅ := fun r hr => by
  dsimp only [rd]; rw [if_pos rfl, cl_bar]; exact if_neg (by omega)
theorem later_credit (d : Fin 2) : ∀ r, 1 ≤ r → (rd X).duties (creditCell c d) r = ∅ := fun r hr => by
  dsimp only [rd]; rw [if_pos rfl, cl_credit]; exact if_neg (by omega)

end Facts

end Cert.Proof

end
-- ==== Proof.Owed.lean ====
/-
  What a device owes the others, step by step, and the levels of the waits: barrier at 1, the copies of step `t` at
  `2 t + 2`, the credits of step `s` at `2 s + 3`. Whatever a device still owes when it waits lies above the wait.
-/
module

public import proofs.«01_k».proof.Proof.Sched

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The index set of every TensorCore cell. -/
def L (g : GSem nD τ sig) : Finset ℕ := if g.1.2 = .tc then Finset.range nStep else ∅
/-- The level of an index at a cell. -/
def lv (g : GSem nD τ sig) (i : ℕ) : ℕ := match cl g.2 with
  | .bar => 1
  | .credit _ => 2 * i + 3
  | .recv _ _ => 2 * i + 2
  | _ => 0

theorem L_of_ne (g : GSem nD τ sig) (h : g.1.2 ≠ .tc) : L g = ∅ := if_neg h
theorem L_tc (c : Dev nD) (sm : SemLoc sig) : L ((c : Thread nD τ), sm) = Finset.range nStep := if_pos rfl

/-- The copy of stream `b` at step `t`, owed to the peer. -/
def recvTally (b : Fin 4) (c : Dev nD) (t : ℕ) : CellTallies nD τ sig ℕ := tallyAt (recvCell (peer b c) b (k3 (t + 1))) t N
/-- The credit of direction `d` at step `s`, owed to the device it receives from. -/
def credTally (d : Fin 2) (c : Dev nD) (s : ℕ) : CellTallies nD τ sig ℕ := tallyAt (creditCell (prevD d c) d) s 1
/-- The barrier unit owed in direction `d`. -/
def barTally (d : Fin 2) (c : Dev nD) : CellTallies nD τ sig ℕ := tallyAt (barCell (prevD d c)) 0 1

/-- The credits of step `t`, if it has any. -/
def credOwed (c : Dev nD) (t : ℕ) : CellTallies nD τ sig ℕ := if t < nCred then credTally 1 c t + credTally 0 c t else 0
/-- What step `t` pays. -/
def stepOwed (c : Dev nD) (t : ℕ) : CellTallies nD τ sig ℕ :=
  credOwed c t + recvTally 3 c t + recvTally 2 c t + recvTally 1 c t + recvTally 0 c t
/-- What device `c` owes at the start of step `t`. -/
def OA (c : Dev nD) (t : ℕ) : CellTallies nD τ sig ℕ := ∑ s ∈ Finset.Ico t nStep, stepOwed c s
/-- What it owes at launch. -/
def O₀ (c : Dev nD) : CellTallies nD τ sig ℕ := OA c 0 + barTally 1 c + barTally 0 c

theorem OA_succ (c : Dev nD) {t : ℕ} (h : t < nStep) : OA c t = OA c (t + 1) + stepOwed c t := by
  unfold OA; rw [Finset.sum_eq_sum_Ico_succ_bot h, add_comm]
theorem OA_end (c : Dev nD) : OA c nStep = 0 := by unfold OA; rw [Finset.Ico_self, Finset.sum_empty]

/-! ## Waiting below everything owed -/

/-- Everything in `O` lies above level `n`. -/
def Above (n : ℕ) (O : CellTallies nD τ sig ℕ) : Prop := ∀ g i, 0 < O g i → i ∈ L g ∧ n < lv g i

theorem Above.zero (n : ℕ) : Above n 0 := fun _ _ h => absurd h (Nat.lt_irrefl 0)
theorem Above.add {n : ℕ} {O O' : CellTallies nD τ sig ℕ} (h : Above n O) (h' : Above n O') : Above n (O + O') := fun g i hg => by
  rcases Nat.eq_zero_or_pos (O g i) with h0 | h0
  · exact h' g i (by have : (O + O') g i = O g i + O' g i := rfl; omega)
  · exact h g i h0
theorem Above.sum {n : ℕ} {S : Finset ℕ} {O : ℕ → CellTallies nD τ sig ℕ} (h : ∀ s ∈ S, Above n (O s)) : Above n (∑ s ∈ S, O s) := by
  induction S using Finset.induction_on with
  | empty => rw [Finset.sum_empty]; exact Above.zero n
  | insert a S ha ih =>
    rw [Finset.sum_insert ha]
    exact (h a (Finset.mem_insert_self a S)).add (ih fun s hs => h s (Finset.mem_insert_of_mem hs))
theorem Above.tallyAt {n : ℕ} {c : Dev nD} {sm : SemLoc sig} {i k : ℕ} (hi : i < nStep) (hn : n < lv ((c : Thread nD τ), sm) i) :
    Above n (tallyAt ((c : Thread nD τ), sm) i k) := fun g j hg => by
  rw [tallyAt_apply] at hg
  by_cases h : g = ((c : Thread nD τ), sm) ∧ j = i
  · rw [h.1, h.2, L_tc]; exact ⟨Finset.mem_range.mpr hi, hn⟩
  · rw [if_neg h] at hg; exact absurd hg (Nat.lt_irrefl 0)

theorem lv_bar (c : Dev nD) (i : ℕ) : lv (barCell c) i = 1 := by unfold lv; rw [cl_bar]
theorem lv_credit (c : Dev nD) (d : Fin 2) (i : ℕ) : lv (creditCell c d) i = 2 * i + 3 := by unfold lv; rw [cl_credit]
theorem lv_recv (c : Dev nD) (b : Fin 4) (k : Fin 3) (i : ℕ) : lv (recvCell c b k) i = 2 * i + 2 := by unfold lv; rw [cl_recv]
theorem lv_send (c : Dev nD) (b : Fin 4) (k : Fin 3) (i : ℕ) : lv (sendCell c b k) i = 0 := by unfold lv; rw [cl_send]

theorem above_recv {n : ℕ} (b : Fin 4) (c : Dev nD) {t : ℕ} (ht : t < nStep) (h : n < 2 * t + 2) : Above n (recvTally b c t) :=
  Above.tallyAt ht (by rw [lv_recv]; exact h)
theorem above_cred {n : ℕ} (d : Fin 2) (c : Dev nD) {s : ℕ} (hs : s < nStep) (h : n < 2 * s + 3) : Above n (credTally d c s) :=
  Above.tallyAt hs (by rw [lv_credit]; exact h)
theorem above_credOwed {n : ℕ} (c : Dev nD) {s : ℕ} (h : n < 2 * s + 3) : Above n (credOwed c s) := by
  unfold credOwed; split
  · rename_i hs
    exact (above_cred 1 c (by simp only [nStep, nCred] at *; omega) h).add (above_cred 0 c (by simp only [nStep, nCred] at *; omega) h)
  · exact Above.zero n
theorem above_step {n : ℕ} (c : Dev nD) {t : ℕ} (ht : t < nStep) (h : n < 2 * t + 2) : Above n (stepOwed c t) :=
  ((((above_credOwed c (by omega)).add (above_recv 3 c ht h)).add (above_recv 2 c ht h)).add (above_recv 1 c ht h)).add (above_recv 0 c ht h)
theorem above_OA {n : ℕ} (c : Dev nD) {t : ℕ} (h : n < 2 * t + 2) : Above n (OA c t) :=
  Above.sum fun s hs => by
    rw [Finset.mem_Ico] at hs
    exact above_step c hs.2 (by omega)

/-- A core may wait at an index of a cell no higher than everything it owes. -/
theorem mayWait {n : ℕ} (c : Dev nD) (sm : SemLoc sig) (i : ℕ) {O : CellTallies nD τ sig ℕ} (hi : i < nStep)
    (hn : lv ((c : Thread nD τ), sm) i ≤ n) (hO : Above n O) : (levAts L lv : sProp 𝕄) ⊢ MayWait (c : Thread nD τ) sm i O :=
  MayOwe.of_cut (L := L) (lev := lv) n (fun p hp => by rw [Finset.mem_singleton.mp hp, L_tc]; exact Finset.mem_range.mpr hi)
    (fun g u hg => (hO g u hg).1) (fun p hp => by rw [Finset.mem_singleton.mp hp]; exact hn) (fun g u hg => (hO g u hg).2)

end Cert.Proof

end
-- ==== Proof.Bundle.lean ====
/-
  What a device holds of the protocol at the start of step `t`: per stream its positions on its own semaphores, the tokens
  and credits of the steps to come, and its count on the slots it has still to free; per direction its place among the
  credits. The moves between these that need no instruction.
-/
module

public import proofs.«01_k».proof.Proof.Owed
public import Idealize.SL.BI.BigOpNat

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The cells and the invariants -/

/-- The kernel's own semaphores: the credits, the send and the receive semaphores. -/
abbrev Own : Type := Fin 2 ⊕ ((Fin 4 × Fin 3) ⊕ (Fin 4 × Fin 3))
def osem : Own → SemLoc sig
  | .inl d => .reg (creditS d)
  | .inr (.inl x) => .dma (sendS x.1 x.2)
  | .inr (.inr x) => .dma (recvS x.1 x.2)

theorem osem_inj : Function.Injective osem := by decide

theorem tc_inj {c c' : Dev nD} {sm sm' : SemLoc sig} (h : (((c : Thread nD τ), sm) : GSem nD τ sig) = ((c' : Thread nD τ), sm')) :
    c = c' ∧ sm = sm' := ⟨congrArg (fun g : GSem nD τ sig => g.1.1) h, congrArg (fun g : GSem nD τ sig => g.2) h⟩

set_option backward.proofsInPublic true in
def barEmb : Dev nD ↪ GSem nD τ sig := ⟨barCell, fun _ _ h => (tc_inj h).1⟩
set_option backward.proofsInPublic true in
def ownEmb : Dev nD × Own ↪ GSem nD τ sig :=
  ⟨fun x => ((x.1 : Thread nD τ), osem x.2), fun _ _ h => Prod.ext (tc_inj h).1 (osem_inj (tc_inj h).2)⟩

/-- The barriers, open from the launch. -/
def barCells : Finset (GSem nD τ sig) := Finset.univ.map barEmb
/-- The kernel's own cells, opened on entry. -/
def ownCells : Finset (GSem nD τ sig) := Finset.univ.map ownEmb

theorem mem_bar (c : Dev nD) : barCell c ∈ barCells ∪ ownCells :=
  Finset.mem_union_left _ (Finset.mem_map_of_mem barEmb (Finset.mem_univ c))
theorem mem_own (c : Dev nD) (o : Own) : ((c : Thread nD τ), osem o) ∈ barCells ∪ ownCells :=
  Finset.mem_union_right _ (Finset.mem_map_of_mem ownEmb (Finset.mem_univ (c, o)))
theorem mem_credit (c : Dev nD) (d : Fin 2) : creditCell c d ∈ barCells ∪ ownCells := mem_own c (.inl d)
theorem mem_send (c : Dev nD) (b : Fin 4) (k : Fin 3) : sendCell c b k ∈ barCells ∪ ownCells := mem_own c (.inr (.inl (b, k)))
theorem mem_recv (c : Dev nD) (b : Fin 4) (k : Fin 3) : recvCell c b k ∈ barCells ∪ ownCells := mem_own c (.inr (.inr (b, k)))

/-- The slots' keys: every device, stream and step. -/
def keys : Finset Key := Finset.univ ×ˢ (Finset.univ ×ˢ Finset.range nStep)
theorem mem_keys (c : Dev nD) (b : Fin 4) {i : ℕ} (h : i < nStep) : (c, b, i) ∈ keys :=
  Finset.mem_product.mpr ⟨Finset.mem_univ _, Finset.mem_product.mpr ⟨Finset.mem_univ _, Finset.mem_range.mpr h⟩⟩

/-- The slot a key stands for. -/
def keySlot (k : Key) : sProp 𝕄 := slotP k.1 k.2.1 (k3 (k.2.2 + 1))
instance keySlot_storable (k : Key) : Storable (upEmb : UEmb _ 𝕄) (keySlot (F := F) k) := by unfold keySlot; infer_instance

theorem slot_set_nonempty (b : Fin 4) (k : Fin 3) : (slotM b k).view.set.Nonempty := View.set_nonempty (by decide)

theorem keySlot_false (k : Key) : iprop(keySlot k ∗ keySlot k) ⊢ (False : sProp 𝕄) :=
  slot_slot_false (slot_set_nonempty _ _)

variable (X : Fin 4 → Dev nD → Blk F) (κ : GSem nD τ sig → ℕ) (ιs : Key → ℕ)

/-- All invariants, and the levels. -/
def ctx : sProp 𝕄 :=
  iprop(bigSep (barCells ∪ ownCells) (fun g => cellInv ER (rd X) (κ g) g)
    ∗ bigSep keys (fun k => slotInv ES (ιs k) k (keySlot k)) ∗ levAts L lv)

instance ctx_persistent : Persistent (ctx X κ ιs) := by unfold ctx; infer_instance

theorem ctx_cell {g : GSem nD τ sig} (h : g ∈ barCells ∪ ownCells) : ctx X κ ιs ⊢ cellInv ER (rd X) (κ g) g := by
  refine BIBase.Entails.trans ?_ (bigSep_elim h (Φ := fun g => cellInv ER (rd X) (κ g) g))
  unfold ctx; iintro ⟨H, -, -⟩; iexact H
theorem ctx_slot {k : Key} (h : k ∈ keys) : ctx X κ ιs ⊢ slotInv ES (ιs k) k (keySlot k) := by
  refine BIBase.Entails.trans ?_ (bigSep_elim h (Φ := fun k => slotInv ES (ιs k) k (keySlot k)))
  unfold ctx; iintro ⟨-, H, -⟩; iexact H
theorem ctx_lev : ctx X κ ιs ⊢ (levAts L lv : sProp 𝕄) := by
  unfold ctx; iintro ⟨-, -, H⟩; iexact H

/-! ## A stream -/

/-- The place of step `t` on the send semaphores, -/
def pS (b : Fin 4) (c : Dev nD) (t : ℕ) : sProp 𝕄 :=
  iprop(atPos ER (sendCell c b (k3 t)) (t / 3) ∅ 0 ∗ reached ER (sendCell c b (k3 t)) (t / 3))
/-- and on the receive semaphores. -/
def pR (b : Fin 4) (c : Dev nD) (t : ℕ) : sProp 𝕄 :=
  iprop(atPos ER (recvCell c b (k3 (t + 1))) (t / 3) ∅ 0 ∗ reached ER (recvCell c b (k3 (t + 1))) (t / 3))

/-- The credit for the block that step `t` brings in, -/
def credIn (b : Fin 4) (c : Dev nD) (t : ℕ) : sProp 𝕄 := cred (tallyAt (recvCell c b (k3 (t + 1))) t N)
/-- and for the one it sends out. -/
def credOut (b : Fin 4) (c : Dev nD) (t : ℕ) : sProp 𝕄 := cred (tallyAt (sendCell c b (k3 t)) t N)

/-- What step `t` uses up. -/
def tok (b : Fin 4) (c : Dev nD) (t : ℕ) : sProp 𝕄 :=
  iprop(dutyTok ER (sendCell c b (k3 t)) (t / 3) 0 ∗ dutyTok ER (recvCell (peer b c) b (k3 (t + 1))) (t / 3) 0
    ∗ credIn b c t ∗ writeTok ES (peer b c, b, t) 1)

/-- What is left after step `t` of the tokens, and the counts on the slots to be freed at its end or later. -/
def later (b : Fin 4) (c : Dev nD) (t : ℕ) : sProp 𝕄 :=
  iprop(bigSep (Finset.Ico (t + 1) nStep) (tok b c) ∗ bigSep (Finset.Ico (t + 2) nStep) (fun i => readerAt ES (c, b, i) 0))

/-- Stream `b` at the start of step `t`, -/
def Ring (b : Fin 4) (c : Dev nD) (t : ℕ) : sProp 𝕄 :=
  iprop((pS b c t ∗ pS b c (t + 1) ∗ pS b c (t + 2)) ∗ (pR b c t ∗ pR b c (t + 1) ∗ pR b c (t + 2))
    ∗ bigSep (Finset.Ico t nStep) (tok b c) ∗ bigSep (Finset.Ico (t + 2) nStep) (fun i => readerAt ES (c, b, i) 0))
/-- after its copy is under way, -/
def Sent (b : Fin 4) (c : Dev nD) (t : ℕ) : sProp 𝕄 :=
  iprop((pS b c t ∗ pS b c (t + 1) ∗ pS b c (t + 2)) ∗ (pR b c t ∗ pR b c (t + 1) ∗ pR b c (t + 2))
    ∗ credIn b c t ∗ credOut b c t ∗ later b c t)
/-- after the block has come in, -/
def Got (b : Fin 4) (c : Dev nD) (t : ℕ) : sProp 𝕄 :=
  iprop((pS b c t ∗ pS b c (t + 1) ∗ pS b c (t + 2)) ∗ (pR b c (t + 1) ∗ pR b c (t + 2) ∗ pR b c (t + 3))
    ∗ credOut b c t ∗ later b c t)
/-- and after the own one has gone out. -/
def Done (b : Fin 4) (c : Dev nD) (t : ℕ) : sProp 𝕄 :=
  iprop((pS b c (t + 1) ∗ pS b c (t + 2) ∗ pS b c (t + 3)) ∗ (pR b c (t + 1) ∗ pR b c (t + 2) ∗ pR b c (t + 3)) ∗ later b c t)

/-- Freeing a slot for the writer's copy of step `i`. -/
theorem free (b : Fin 4) (c : Dev nD) {i : ℕ} (h : i < nStep) :
    iprop(ctx X κ ιs ∗ readerAt ES (c, b, i) 0 ∗ slotP c b (k3 (i + 1)) ∗ reached ER (recvCell c b (k3 (i + 1))) (i / 3))
      ⊢ |={Set.univ}=> fact1 b (prev b c) i := by
  iintro ⟨#Hc, Hr, Hs, #Hn⟩
  imod (slot_release ES (k := (c, b, i)) (S := keySlot (c, b, i)) (ι := ιs (c, b, i)) (Set.mem_univ _) (keySlot_false _) 0) $$ [Hr Hs] with ⟨-, #Hw⟩
  · isplitr; · iapply (ctx_slot X κ ιs (mem_keys c b h)); iexact Hc
    isplitl [Hr]; · iexact Hr
    unfold keySlot; iexact Hs
  imodintro
  unfold fact1
  rw [peer_prev]
  isplitr; · iexact Hw
  iexact Hn

/-- The end of a step whose slot goes back to the writer. -/
theorem deposit (b : Fin 4) (c : Dev nD) {t : ℕ} (h : t < nCred) :
    iprop(ctx X κ ιs ∗ Done b c t ∗ slotP c b (k3 t)) ⊢ |={Set.univ}=> (Ring b c (t + 1) ∗ fact1 b (prev b c) (t + 2)) := by
  have h2 : t + 2 < nStep := by simp only [nStep, nCred] at *; omega
  unfold Done later
  rw [bigSep_Ico_succ_bot h2]
  show iprop(_ ∗ (_ ∗ _ ∗ (_ ∗ (_ ∗ _))) ∗ _) ⊢ _
  unfold pR
  iintro ⟨#Hc, ⟨HS, ⟨Ha1, ⟨Ha2, #Hr2⟩, Ha3⟩, HT, Hrd, HR⟩, Hs⟩
  imod (free X κ ιs b c h2) $$ [Hrd Hs] with #Hf
  · isplitr; · iexact Hc
    isplitl [Hrd]; · iexact Hrd
    isplitl [Hs]; · rw [show t + 2 + 1 = t + 3 from rfl, k3_add_three]; iexact Hs
    iexact Hr2
  imodintro
  isplitl [HS Ha1 Ha2 Ha3 HT HR]
  · unfold Ring pR
    isplitl [HS]; · iexact HS
    isplitl [Ha1 Ha2 Ha3]
    · isplitl [Ha1]; · iexact Ha1
      isplitl [Ha2]; · isplitl [Ha2]; · iexact Ha2
                       iexact Hr2
      iexact Ha3
    isplitl [HT]; · iexact HT
    iexact HR
  · iexact Hf

/-- The end of the last two steps. -/
theorem no_deposit (b : Fin 4) (c : Dev nD) {t : ℕ} (h : nCred ≤ t) : Done b c t ⊢ (Ring b c (t + 1) : sProp 𝕄) := by
  unfold Done Ring later
  rw [Finset.Ico_eq_empty (a := t + 2) (by simp only [nStep, nCred] at *; omega),
    Finset.Ico_eq_empty (a := t + 1 + 2) (by simp only [nStep, nCred] at *; omega)]

/-! ## A direction's credits -/

/-- `n` credits of direction `d` have been consumed. -/
def crPos (d : Fin 2) (c : Dev nD) (n : ℕ) : sProp 𝕄 :=
  if n < nCred then
    iprop(∃ T : Finset ℕ, ⌜T ⊆ Finset.range nCred ∧ n ≤ T.card⌝ ∗ atPos ER (creditCell c d) 0 T n ∗ bigSep T (fun s => facts d c (s + 3)))
  else atPos ER (creditCell c d) 1 ∅ 0

/-- The credit that step `s + 2` consumes, -/
def crIn (d : Fin 2) (c : Dev nD) (s : ℕ) : sProp 𝕄 := cred (tallyAt (creditCell c d) s 1)
/-- and the right to give the one of step `s`. -/
def crOut (d : Fin 2) (c : Dev nD) (s : ℕ) : sProp 𝕄 := dutyTok ER (creditCell (prevD d c) d) 0 s

/-- Direction `d` at the start of step `t`, -/
def Cr (d : Fin 2) (c : Dev nD) (t : ℕ) : sProp 𝕄 :=
  iprop(crPos d c (t - 2) ∗ bigSep (Finset.Ico (t - 2) nCred) (crIn d c) ∗ bigSep (Finset.Ico t nCred) (crOut d c)
    ∗ reached ER (creditCell (prevD d c) d) 0 ∗ facts d (prevD d c) (min (t + 2) nStep) ∗ facts d c 2)
/-- and once the step may send. -/
def Cr' (d : Fin 2) (c : Dev nD) (t : ℕ) : sProp 𝕄 :=
  iprop(crPos d c (t - 1) ∗ bigSep (Finset.Ico (t - 1) nCred) (crIn d c) ∗ bigSep (Finset.Ico t nCred) (crOut d c)
    ∗ reached ER (creditCell (prevD d c) d) 0 ∗ facts d (prevD d c) (min (t + 2) nStep) ∗ facts d c 2 ∗ facts d c (t + 1))

/-- Some member of a set of `n + 1` numbers is at least `n`. -/
theorem exists_ge {T : Finset ℕ} {n : ℕ} (h : n + 1 ≤ T.card) : ∃ s ∈ T, n ≤ s := by
  by_contra hn
  push Not at hn
  have := Finset.card_le_card (fun s hs => Finset.mem_range.mpr (hn s hs) : T ⊆ Finset.range n)
  rw [Finset.card_range] at this
  omega

end Cert.Proof

end
-- ==== Proof.Ops.lean ====
/-
  The protocol's instructions: what each needs and gives back, at any step and stream. The views, devices and semaphores
  come in by equations, so one statement serves every place in the program.
-/
module

public import proofs.«01_k».proof.Proof.Bundle
public import Idealize.ShloMosaic.Lib.MemrefSat

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- Loops are read step by step. -/
abbrev 𝒱₀ : Variants := Variants.none

/-- A program of device `c`, run to a post. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited for. -/
def owe (c : Dev nD) (O : CellTallies nD τ sig ℕ) : sProp 𝕄 := iprop(∃ W, owes (c : Thread nD τ) O W)

variable (X : Fin 4 → Dev nD → Blk F) (κ : GSem nD τ sig → ℕ) (ιs : Key → ℕ)
variable {α : Type} {k : PUnit → Prog (TpuEff nD τ sig (Elt F) Λ₀ .tc) α}

/-- The copy of stream `b` at step `t`. -/
theorem send_step {Q : α → sProp 𝕄} (c : Dev nD) (b : Fin 4) (t : ℕ) (ht : t < nStep) (O : CellTallies nD τ sig ℕ)
    {M₁ M₂ : Memref sig .tc .vmem S8x1024x128 .bf16} {dev : Dev nD} {s₁ s₂ : DmaSem sig}
    (h₁ : M₁ = srcM b t) (h₂ : M₂ = slotM b (k3 (t + 1))) (hdev : dev = peer b c) (hs₁ : s₁ = sendS b (k3 t)) (hs₂ : s₂ = recvS b (k3 (t + 1)))
    {hsc : M₂.view.ref.isScScratch = false} {hsrc : M₁.view.WordExact} {hdst : M₂.view.WordExact}
    {hsem : DmaTarget.Typed .vmem (.dma s₂) (.remote (dev : Thread nD τ) M₂ (.dma s₁) hsc)} :
    iprop(ctx X κ ιs ∗ Ring b c t ∗ dataQ X fullShare b c t ∗ fact1 b c t ∗ owe c (O + recvTally b c t))
      ⊢ iprop(((Sent b c t ∗ dataQ X fullShare.left b c t ∗ owe c O) -∗ run c (k ⟨⟩) Q)
          -∗ run c (.op (.enqueueDma M₁ (.remote (dev : Thread nD τ) M₂ (.dma s₁) hsc) (.dma s₂) hsrc hdst hsem) k) Q) := by
  subst h₁ h₂ hdev hs₁ hs₂
  unfold Ring
  rw [bigSep_Ico_succ_bot ht]
  unfold tok dataQ fact1 owe pS
  show iprop(_ ∗ (_ ∗ _ ∗ ((_ ∗ _ ∗ _ ∗ _) ∗ _) ∗ _) ∗ _) ⊢ _
  iintro ⟨#Hc, ⟨⟨⟨Ha0, #Hr0⟩, HS12⟩, HR, ⟨⟨Hds, Hdr, Hcr, Hw⟩, HT⟩, Hrd⟩, Hd, ⟨#Hrel, #Hr1⟩, %W, HO⟩ Hk
  imod (slot_take ES (k := (peer b c, b, t)) (S := keySlot (peer b c, b, t)) (ι := ιs (peer b c, b, t)) (Set.mem_univ _) 1) $$ [Hw] with Hs
  · isplitr; · iapply (ctx_slot X κ ιs (mem_keys (peer b c) b ht)); iexact Hc
    isplitr; · iexact Hrel
    iexact Hw
  unfold keySlot slotP slot
  icases Hs with ⟨%fd, Hs⟩
  ihave Hd' := (owns_halves (c : Thread nD τ) (srcM b t) fullShare (X b (srcD b c t))).1 $$ Hd
  icases Hd' with ⟨Hdl, Hdrt⟩
  unfold owns
  icases Hdrt with ⟨%fs, %hfs, Hdrt⟩
  iapply (Rounds.wp_send_pointsTo 𝒱₀ ER (rd X) (c : Thread nD τ) none (c' := (peer b c : Thread nD τ)) (src := srcM b t) (dst := slotM b (k3 (t + 1)))
    (sS := .dma (sendS b (k3 t))) (sem := .dma (recvS b (k3 (t + 1)))) (q := fullShare.right) (fs := fs) (fd := fd)
    (κ₁ := κ (sendCell c b (k3 t))) (κ₂ := κ (recvCell (peer b c) b (k3 (t + 1)))) (r₁ := t / 3) (r₂ := t / 3) (d₁ := 0) (d₂ := 0)
    (by rw [duties_send X c b _ (by simp only [nStep] at ht; omega)]; exact Finset.mem_singleton_self 0)
    (by rw [duties_recv X (peer b c) b _ (by simp only [nStep] at ht; omega)]; exact Finset.mem_singleton_self 0)
    t t N (N_slot b _) (amount_send X c b _ _ _) (amount_recv X (peer b c) b _ _ _) O rfl (W := W)
    (by
      rw [payload_send]; unfold dataQ owns
      iintro H; iexists fs; isplitr; · ipureintro; exact hfs
      iexact H)
    (by
      rw [payload_recv]; unfold dataQ owns srcM
      rw [if_neg (Nat.succ_ne_zero t)]
      iintro H; iexists ((slotM b (k3 (t + 1))).view.write (Elt F) fd ((srcM b t).view.read (Elt F) fs) Finset.univ); isplitr
      · ipureintro; exact (View.read_write_univ _ _).trans (hfs.trans (by rw [srcD_peer]))
      iexact H)) $$ [Hdrt Hs HO Hds Hdr]
  · isplitr; · iapply (ctx_cell X κ ιs (mem_send c b (k3 t))); iexact Hc
    isplitr; · iapply (ctx_cell X κ ιs (mem_recv (peer b c) b (k3 (t + 1)))); iexact Hc
    isplitl [Hdrt]; · iexact Hdrt
    isplitl [Hs]; · iexact Hs
    isplitl [HO]; · iexact HO
    isplitl [Hds]; · iexact Hds
    isplitr; · iexact Hr0
    isplitl [Hdr]; · iexact Hdr
    iexact Hr1
  iintro ⟨Hco, HO⟩
  iapply Hk
  unfold Sent later pS credOut
  isplitl [Ha0 HS12 HR Hcr Hco HT Hrd]
  · isplitl [Ha0 HS12]
    · isplitl [Ha0]; · isplitl [Ha0]; · iexact Ha0
                       iexact Hr0
      iexact HS12
    isplitl [HR]; · iexact HR
    isplitl [Hcr]; · iexact Hcr
    isplitl [Hco]; · iexact Hco
    isplitl [HT]; · iexact HT
    iexact Hrd
  isplitl [Hdl]; · iexact Hdl
  iexists W; iexact HO

theorem div_three (t : ℕ) : (t + 3) / 3 = t / 3 + 1 := by omega

/-- The wait for the block that step `t` brings in. -/
theorem recv_step {Q : α → sProp 𝕄} (c : Dev nD) (b : Fin 4) (t : ℕ) (ht : t < nStep) {O : CellTallies nD τ sig ℕ} (hO : Above (2 * t + 2) O)
    {s : DmaSem sig} (hs : s = recvS b (k3 (t + 1)))
    {sp sp' : Space} {sh sh' : Shape} {e e' : EltTy} {src : Memref sig .tc sp' sh' e'} {dst : Memref sig .tc sp sh e}
    (hN : dst.view.dmaCredit = N) {hsrc : src.view.WordExact} {hdst : dst.view.WordExact} :
    iprop(ctx X κ ιs ∗ Sent b c t ∗ owe c O)
      ⊢ iprop(((Got b c t ∗ dataQ X fullShare b c (t + 1) ∗ owe c O) -∗ run c (k ⟨⟩) Q)
          -∗ run c (.op (.waitDma2 s src dst hsrc hdst) k) Q) := by
  subst hs
  unfold Sent owe
  rw [show pR (F := F) b c t = iprop(atPos ER (recvCell c b (k3 (t + 1))) (t / 3) ∅ 0 ∗ reached ER (recvCell c b (k3 (t + 1))) (t / 3)) from rfl]
  iintro ⟨#Hc, ⟨HS, ⟨⟨Ha0, -⟩, HR1, HR2⟩, Hcr, Hco, HL⟩, %W, HO⟩ Hk
  iapply (Rounds.wp_wait_rest_token 𝒱₀ ER (rd X) (c : Thread nD τ) none (κ := κ (recvCell c b (k3 (t + 1))))
    (wpE_waitDma2_eq 𝒱₀ (c : Thread nD τ) none Set.univ) (Set.mem_univ _) t (O := O) (W := W) (R := t / 3) (m := 0) (T := ∅)
    (by rw [hN, expect_recv X c b _ (by simp only [nStep] at ht; omega), Nat.zero_add])) $$ [Ha0 Hcr HO]
  · isplitr; · iapply (ctx_cell X κ ιs (mem_recv c b (k3 (t + 1)))); iexact Hc
    isplitl [Hcr]; · rw [hN]; unfold credIn; iexact Hcr
    isplitl [HO]; · iexact HO
    isplitr
    · have h1 := (mayWait (F := F) c (.dma (recvS b (k3 (t + 1)))) t ht (le_of_eq (lv_recv c b _ t)) hO)
      have h2 := (ctx_lev X κ ιs).trans h1
      iapply h2
      iexact Hc
    iexact Ha0
  iintro ⟨HO, Ha, #Hr, Hd⟩
  ihave Hd' := (Entails.of_eq (rest_recv X c b ht)) $$ Hd
  iapply Hk
  unfold Got
  rw [show pR (F := F) b c (t + 3) = iprop(atPos ER (recvCell c b (k3 (t + 1))) (t / 3 + 1) ∅ 0 ∗ reached ER (recvCell c b (k3 (t + 1))) (t / 3 + 1)) by
    unfold pR; rw [show t + 3 + 1 = t + 1 + 3 from rfl, k3_add_three, div_three]]
  isplitl [HS HR1 HR2 Ha Hco HL]
  · isplitl [HS]; · iexact HS
    isplitl [HR1 HR2 Ha]
    · isplitl [HR1]; · iexact HR1
      isplitl [HR2]; · iexact HR2
      isplitl [Ha]; · iexact Ha
      iexact Hr
    isplitl [Hco]; · iexact Hco
    iexact HL
  isplitl [Hd']; · iexact Hd'
  iexists _; iexact HO

/-- The wait for the block that step `t` sends out. -/
theorem sendw_step {Q : α → sProp 𝕄} (c : Dev nD) (b : Fin 4) (t : ℕ) (ht : t < nStep) {O : CellTallies nD τ sig ℕ} (hO : Above 0 O)
    {s : DmaSem sig} (hs : s = sendS b (k3 t))
    {sp sp' : Space} {sh sh' : Shape} {e e' : EltTy} {src : Memref sig .tc sp' sh' e'} {dst : Memref sig .tc sp sh e}
    (hN : dst.view.dmaCredit = N) {hsrc : src.view.WordExact} {hdst : dst.view.WordExact} :
    iprop(ctx X κ ιs ∗ Got b c t ∗ dataQ X fullShare.left b c t ∗ owe c O)
      ⊢ iprop(((Done b c t ∗ dataQ X fullShare b c t ∗ owe c O) -∗ run c (k ⟨⟩) Q)
          -∗ run c (.op (.waitDma2 s src dst hsrc hdst) k) Q) := by
  subst hs
  unfold Got owe
  rw [show pS (F := F) b c t = iprop(atPos ER (sendCell c b (k3 t)) (t / 3) ∅ 0 ∗ reached ER (sendCell c b (k3 t)) (t / 3)) from rfl]
  iintro ⟨#Hc, ⟨⟨⟨Ha0, -⟩, HS1, HS2⟩, HR, Hco, HL⟩, Hdl, %W, HO⟩ Hk
  iapply (Rounds.wp_wait_rest_token 𝒱₀ ER (rd X) (c : Thread nD τ) none (κ := κ (sendCell c b (k3 t)))
    (wpE_waitDma2_eq 𝒱₀ (c : Thread nD τ) none Set.univ) (Set.mem_univ _) t (O := O) (W := W) (R := t / 3) (m := 0) (T := ∅)
    (by rw [hN, expect_send X c b _ (by simp only [nStep] at ht; omega), Nat.zero_add])) $$ [Ha0 Hco HO]
  · isplitr; · iapply (ctx_cell X κ ιs (mem_send c b (k3 t))); iexact Hc
    isplitl [Hco]; · rw [hN]; unfold credOut; iexact Hco
    isplitl [HO]; · iexact HO
    isplitr
    · iapply ((ctx_lev X κ ιs).trans (mayWait c (.dma (sendS b (k3 t))) t ht (le_of_eq (lv_send c b _ t)) hO)); iexact Hc
    iexact Ha0
  iintro ⟨HO, Ha, #Hr, Hd⟩
  ihave Hd' := (Entails.of_eq (rest_send X c b ht)) $$ Hd
  iapply Hk
  unfold Done
  rw [show pS (F := F) b c (t + 3) = iprop(atPos ER (sendCell c b (k3 t)) (t / 3 + 1) ∅ 0 ∗ reached ER (sendCell c b (k3 t)) (t / 3 + 1)) by
    unfold pS; rw [k3_add_three, div_three]]
  isplitl [HR HS1 HS2 Ha HL]
  · isplitl [HS1 HS2 Ha]
    · isplitl [HS1]; · iexact HS1
      isplitl [HS2]; · iexact HS2
      isplitl [Ha]; · iexact Ha
      iexact Hr
    isplitl [HR]; · iexact HR
    iexact HL
  isplitl [Hd' Hdl]
  · unfold dataQ
    iapply (owns_halves (c : Thread nD τ) (srcM b t) fullShare (X b (srcD b c t))).2
    isplitl [Hdl]; · iexact Hdl
    iexact Hd'
  iexists _; iexact HO

/-- A credit given at step `t`. -/
theorem credit_signal {Q : α → sProp 𝕄} (c : Dev nD) (d : Fin 2) (t : ℕ) (ht : t < nCred) (O : CellTallies nD τ sig ℕ)
    {dev : Dev nD} (hdev : dev = prevD d c) {s : Sem sig} (hs : s = creditS d) :
    iprop(ctx X κ ιs ∗ Cr' d c t ∗ fact1 (kb d) (prevD d c) (t + 2) ∗ fact1 (vb d) (prevD d c) (t + 2) ∗ owe c (O + credTally d c t))
      ⊢ iprop(((Cr d c (t + 1) ∗ owe c O) -∗ run c (k ⟨⟩) Q)
          -∗ run c (.op (.semSignal (dev : Thread nD τ) s (1#32 : BitVec 32).toInt) k) Q) := by
  subst hdev hs
  unfold Cr' owe
  rw [bigSep_Ico_succ_bot ht, show min (t + 2) nStep = t + 2 by simp only [nStep, nCred] at *; omega]
  iintro ⟨#Hc, ⟨Hp, Hin, ⟨Ho, Hout⟩, #Hr, #Hf, #H2, -⟩, #Hk1, #Hv1, %W, HO⟩ Hk
  ihave Hf' := (facts_succ d (prevD d c) (t + 2)) $$ [Hf Hk1 Hv1]
  · isplitr; · iexact Hf
    isplitr; · iexact Hk1
    iexact Hv1
  icases Hf' with #Hf'
  iapply (Rounds.wp_signal 𝒱₀ ER (rd X) (c : Thread nD τ) none (dst := (prevD d c : Thread nD τ)) (sem := creditS d) (r := 0) (d := t) (k' := 1)
    (κ := κ (creditCell (prevD d c) d)) (by rw [duties_credit]; exact Finset.mem_range.mpr ht) (amount_credit X (prevD d c) d t) t O rfl (W := W)) $$ [Ho HO]
  · isplitr; · iapply (ctx_cell X κ ιs (mem_credit (prevD d c) d)); iexact Hc
    isplitl [HO]; · iexact HO
    isplitl [Ho]; · unfold crOut; iexact Ho
    isplitr; · rw [payload_credit]; iexact Hf'
    iexact Hr
  iintro HO
  iapply Hk
  unfold Cr
  rw [show min (t + 1 + 2) nStep = t + 2 + 1 by simp only [nStep, nCred] at *; omega, show t + 1 - 2 = t - 1 by omega]
  isplitl [Hp Hin Hout]
  · isplitl [Hp]; · iexact Hp
    isplitl [Hin]; · iexact Hin
    isplitl [Hout]; · iexact Hout
    isplitr; · iexact Hr
    isplitr; · iexact Hf'
    iexact H2
  iexists W; iexact HO

/-- The last two steps give none. -/
theorem no_credit_signal (c : Dev nD) (d : Fin 2) (t : ℕ) (ht : nCred ≤ t) : Cr' d c t ⊢ (Cr d c (t + 1) : sProp 𝕄) := by
  unfold Cr Cr'
  rw [Finset.Ico_eq_empty (a := t) (by omega), Finset.Ico_eq_empty (a := t + 1) (by omega), show t + 1 - 2 = t - 1 by omega,
    show min (t + 2) nStep = nStep by simp only [nStep, nCred] at *; omega, show min (t + 1 + 2) nStep = nStep by simp only [nStep, nCred] at *; omega]
  iintro ⟨Hp, Hin, Hout, #Hr, #Hf, #H2, -⟩
  isplitl [Hp]; · iexact Hp
  isplitl [Hin]; · iexact Hin
  isplitl [Hout]; · iexact Hout
  isplitr; · iexact Hr
  isplitr; · iexact Hf
  iexact H2

/-- The first two steps wait for none. -/
theorem no_credit_wait (c : Dev nD) (d : Fin 2) (t : ℕ) (ht : t < 2) : Cr d c t ⊢ (Cr' d c t : sProp 𝕄) := by
  unfold Cr Cr'
  rw [show t - 1 = t - 2 by omega]
  iintro ⟨Hp, Hin, Hout, #Hr, #Hf, #H2⟩
  isplitl [Hp]; · iexact Hp
  isplitl [Hin]; · iexact Hin
  isplitl [Hout]; · iexact Hout
  isplitr; · iexact Hr
  isplitr; · iexact Hf
  isplitr; · iexact H2
  iapply (facts_mono d c (show t + 1 ≤ 2 by omega)); iexact H2

/-- A credit consumed at step `t`. -/
theorem credit_wait {Q : α → sProp 𝕄} (c : Dev nD) (d : Fin 2) (t : ℕ) (h2 : 2 ≤ t) (ht : t < nStep) {O : CellTallies nD τ sig ℕ} (hO : Above (2 * t - 1) O)
    {s : Sem sig} (hs : s = creditS d) :
    iprop(ctx X κ ιs ∗ Cr d c t ∗ owe c O)
      ⊢ iprop(((Cr' d c t ∗ owe c O) -∗ run c (k ⟨⟩) Q)
          -∗ run c (.op (.semWait s (1#32 : BitVec 32).toInt) k) Q) := by
  subst hs
  obtain ⟨n, rfl⟩ : ∃ n, t = n + 2 := ⟨t - 2, by omega⟩
  have hn : n < nCred := by simp only [nStep, nCred] at *; omega
  unfold Cr owe
  rw [show n + 2 - 2 = n from rfl, bigSep_Ico_succ_bot hn, show crPos (F := F) d c n = _ from if_pos hn]
  iintro ⟨#Hc, ⟨⟨%T, %hT, Ha, Hfs⟩, ⟨Hcr, Hin⟩, Hout, #Hr, #Hf, #H2⟩, %W, HO⟩ Hk
  have hw : (levAts L lv : sProp 𝕄) ⊢ MayWait (c : Thread nD τ) (.reg (creditS d)) n O :=
    mayWait c (.reg (creditS d)) n (by simp only [nStep, nCred] at *; omega) (le_of_eq (lv_credit c d n))
      (show Above (2 * n + 3) O from (show 2 * (n + 2) - 1 = 2 * n + 3 by omega) ▸ hO)
  rcases Nat.lt_or_ge (n + 1) nCred with h12 | h12
  · iapply (Rounds.wp_wait 𝒱₀ ER (rd X) (c : Thread nD τ) none (κ := κ (creditCell c d)) (k' := 1) (wpE_semWait_eq 𝒱₀ (c : Thread nD τ) none Set.univ)
      (Set.mem_univ _) (cr := Finsupp.single n 1) (O := O) (W := W) {(.reg (creditS d), n)} (R := 0) (m := n) (T := T)
      (by rw [Util.total_single]) (image_single_subset (.reg (creditS d)) n 1)) $$ [Ha Hcr HO]
    · isplitr; · iapply (ctx_cell X κ ιs (mem_credit c d)); iexact Hc
      isplitl [Hcr]; · unfold crIn; iexact Hcr
      isplitl [HO]; · iexact HO
      isplitr; · iapply hw; iapply (ctx_lev X κ ιs); iexact Hc
      iexact Ha
    iintro %S ⟨%hS, HO, Ha, Hnew⟩
    rw [duties_credit, expect_credit] at hS
    have hcard : n + 1 ≤ S.card := by
      have := Finset.card_sdiff_of_subset hS.2.1
      rw [Finset.card_range] at this
      have := Finset.card_le_card hS.2.1
      rw [Finset.card_range] at this
      omega
    ihave Hall := (show iprop(bigSep T (fun s => facts d c (s + 3)) ∗ bigSep (S \ T) (fun s => (rd X).payload (creditCell c d) 0 s))
        ⊢ (bigSep S (fun s => facts d c (s + 3)) : sProp 𝕄) by
      rw [bigSep_congr (s := S \ T) (fun s _ => payload_credit X c d s), bigSep_sdiff_split hS.1]; exact BIBase.Entails.refl) $$ [Hfs Hnew]
    · isplitl [Hfs]; · iexact Hfs
      iexact Hnew
    icases Hall with #Hall
    obtain ⟨s, hs, hns⟩ := exists_ge hcard
    iapply Hk
    isplitl [Ha Hin Hout]
    · unfold Cr'
      rw [show n + 2 - 1 = n + 1 from rfl, show crPos (F := F) d c (n + 1) = _ from if_pos h12]
      isplitl [Ha]
      · iexists S
        isplitr; · ipureintro; exact ⟨hS.2.1, hcard⟩
        isplitl [Ha]; · iexact Ha
        iexact Hall
      isplitl [Hin]; · iexact Hin
      isplitl [Hout]; · iexact Hout
      isplitr; · iexact Hr
      isplitr; · iexact Hf
      isplitr; · iexact H2
      have hel : bigSep S (fun s => facts d c (s + 3)) ⊢ (facts d c (n + 2 + 1) : sProp 𝕄) :=
        BIBase.Entails.trans (bigSep_elim hs) (facts_mono d c (show n + 2 + 1 ≤ s + 3 by omega))
      iapply hel $$ Hall
    iexists _; iexact HO
  · have hn12 : n = 12 := by simp only [nCred] at *; omega
    iapply (Rounds.wp_wait_rest_token 𝒱₀ ER (rd X) (c : Thread nD τ) none (κ := κ (creditCell c d)) (k' := 1) (wpE_semWait_eq 𝒱₀ (c : Thread nD τ) none Set.univ)
      (Set.mem_univ _) n (O := O) (W := W) (R := 0) (m := n) (T := T) (by rw [expect_credit, hn12])) $$ [Ha Hcr HO]
    · isplitr; · iapply (ctx_cell X κ ιs (mem_credit c d)); iexact Hc
      isplitl [Hcr]; · unfold crIn; iexact Hcr
      isplitl [HO]; · iexact HO
      isplitr; · iapply hw; iapply (ctx_lev X κ ιs); iexact Hc
      iexact Ha
    iintro ⟨HO, Ha, -, Hnew⟩
    ihave Hall := (show iprop(bigSep T (fun s => facts d c (s + 3)) ∗ bigSep ((rd X).duties (creditCell c d) 0 \ T) (fun s => (rd X).payload (creditCell c d) 0 s))
        ⊢ (bigSep (Finset.range nCred) (fun s => facts d c (s + 3)) : sProp 𝕄) by
      rw [duties_credit, bigSep_congr (s := Finset.range nCred \ T) (fun s _ => payload_credit X c d s), bigSep_sdiff_split hT.1]; exact BIBase.Entails.refl) $$ [Hfs Hnew]
    · isplitl [Hfs]; · iexact Hfs
      iexact Hnew
    icases Hall with #Hall
    iapply Hk
    isplitl [Ha Hin Hout]
    · unfold Cr'
      rw [show n + 2 - 1 = n + 1 from rfl, show crPos (F := F) d c (n + 1) = _ from if_neg (by omega)]
      isplitl [Ha]; · iexact Ha
      isplitl [Hin]; · iexact Hin
      isplitl [Hout]; · iexact Hout
      isplitr; · iexact Hr
      isplitr; · iexact Hf
      isplitr; · iexact H2
      have hel : bigSep (Finset.range nCred) (fun s => facts d c (s + 3)) ⊢ (facts d c (n + 2 + 1) : sProp 𝕄) :=
        BIBase.Entails.trans (bigSep_elim (Finset.mem_range.mpr hn)) (facts_mono d c (show n + 2 + 1 ≤ n + 3 by omega))
      iapply hel $$ Hall
    iexists _; iexact HO

/-- Raising the barrier of the device that direction `d` receives from. -/
theorem bar_signal {Q : α → sProp 𝕄} (c : Dev nD) (d : Fin 2) (O : CellTallies nD τ sig ℕ)
    {dev : Dev nD} (hdev : dev = prevD d c) {s : Sem sig} (hs : s = barS) :
    iprop(ctx X κ ιs ∗ dutyTok ER (barCell (prevD d c)) 0 d.val ∗ reached ER (barCell (prevD d c)) 0 ∗ facts d (prevD d c) 2
        ∗ reached ER (creditCell c (opp d)) 0 ∗ owe c (O + barTally d c))
      ⊢ iprop((owe c O -∗ run c (k ⟨⟩) Q)
          -∗ run c (.op (.semSignal (dev : Thread nD τ) s (1#32 : BitVec 32).toInt) k) Q) := by
  subst hdev hs
  unfold owe
  iintro ⟨#Hc, Ht, #Hr, #Hf, #Hrc, %W, HO⟩ Hk
  iapply (Rounds.wp_signal 𝒱₀ ER (rd X) (c : Thread nD τ) none (dst := (prevD d c : Thread nD τ)) (sem := barS) (r := 0) (d := d.val) (k' := 1)
    (κ := κ (barCell (prevD d c))) (by rw [duties_bar]; revert d; decide) (amount_bar X (prevD d c) d.val) 0 O rfl (W := W)) $$ [Ht HO]
  · isplitr; · iapply (ctx_cell X κ ιs (mem_bar (prevD d c))); iexact Hc
    isplitl [HO]; · iexact HO
    isplitl [Ht]; · iexact Ht
    isplitr
    · rw [payload_bar]; unfold barPay; rw [peerD_prevD]
      isplitr; · iexact Hf
      iexact Hrc
    iexact Hr
  iintro HO
  iapply Hk
  iexists W; iexact HO

/-- Waiting for both neighbours at the barrier. -/
theorem bar_wait {Q : α → sProp 𝕄} (c : Dev nD) {O : CellTallies nD τ sig ℕ} (hO : Above 1 O) {s : Sem sig} (hs : s = barS) :
    iprop(ctx X κ ιs ∗ atPos ER (barCell c) 0 ∅ 0 ∗ cred (tallyAt (barCell c) 0 2) ∗ owe c O)
      ⊢ iprop(((atPos ER (barCell c) 1 ∅ 0 ∗ barPay c 0 ∗ barPay c 1 ∗ owe c O) -∗ run c (k ⟨⟩) Q)
          -∗ run c (.op (.semWait s (2#32 : BitVec 32).toInt) k) Q) := by
  subst hs
  unfold owe
  iintro ⟨#Hc, Ha, Hcr, %W, HO⟩ Hk
  iapply (Rounds.wp_wait_rest_token 𝒱₀ ER (rd X) (c : Thread nD τ) none (κ := κ (barCell c)) (k' := 2) (wpE_semWait_eq 𝒱₀ (c : Thread nD τ) none Set.univ)
    (Set.mem_univ _) 0 (O := O) (W := W) (R := 0) (m := 0) (T := ∅) (by rw [expect_bar])) $$ [Ha Hcr HO]
  · isplitr; · iapply (ctx_cell X κ ιs (mem_bar c)); iexact Hc
    isplitl [Hcr]; · iexact Hcr
    isplitl [HO]; · iexact HO
    isplitr
    · iapply ((ctx_lev X κ ιs).trans (mayWait c (.reg barS) 0 (by decide) (le_of_eq (lv_bar c 0)) hO)); iexact Hc
    iexact Ha
  iintro ⟨HO, Ha, -, Hd⟩
  ihave Hd' := (Entails.of_eq (rest_bar X c)) $$ Hd
  icases Hd' with ⟨Hp0, Hp1⟩
  iapply Hk
  isplitl [Ha]; · iexact Ha
  isplitl [Hp0]; · iexact Hp0
  isplitl [Hp1]; · iexact Hp1
  iexists _; iexact HO

end Cert.Proof

end
-- ==== Proof.Head.lean ====
/-
  One head of one half-update: the row of scores is exponentiated, its sums go onto the denominators' row, its product
  with the values onto the output's row. The six loops of the kernel over the eight heads differ in where they load the
  keys and the values from; what a load of a row gives is stated for a half on the device's own staging and for a slot.
-/
module

public import proofs.«01_k».proof.Proof.Ops
public import Idealize.ShloMosaic.Lib.ValueLayout

@[expose] public section

set_option maxRecDepth 10000

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The values of a head -/

/-- The queries' block, the denominators and the running output. -/
abbrev QBlk (F : FTy → Type) : Type := S8x512x128.Idx → Elt F .bf16
abbrev LBlk (F : FTy → Type) : Type := S8x512x1.Idx → Elt F .f32
abbrev OBlk (F : FTy → Type) : Type := S8x512x128.Idx → Elt F .f32

set_option backward.proofsInPublic true in
/-- Row `h` of the queries' and the output's blocks, -/
theorem row_inb (h : Fin 8) : ∀ a, (![h.val, 0, 0] : Fin 3 → ℕ) a + S1x512x128.size a ≤ S8x512x128.size a := by
  revert h; decide
abbrev row (h : Fin 8) : Rect S8x512x128 := Rect.unit (s := S8x512x128) ![h.val, 0, 0] S1x512x128.size (row_inb h)
set_option backward.proofsInPublic true in
/-- of the denominators, -/
theorem rowL_inb (h : Fin 8) : ∀ a, (![h.val, 0, 0] : Fin 3 → ℕ) a + S1x512x1.size a ≤ S8x512x1.size a := by
  revert h; decide
abbrev rowL (h : Fin 8) : Rect S8x512x1 := Rect.unit (s := S8x512x1) ![h.val, 0, 0] S1x512x1.size (rowL_inb h)

/-- and of a half of the keys or the values, as a matrix. -/
def kmat (Y : Blk F) (h : Fin 8) : FVec F S1024x128 .bf16 := fun j => Y (ix3 h (j 0) (j 1))

/-- The exponentiated scores of a row of queries against the keys `K`. -/
def score (q : FVec F S1x512x128 .bf16) (K : FVec F S1024x128 .bf16) : FVec F S512x1024 .f32 :=
  exp (matmul dot_S512x128_S1024x128_S512x1024_1_1_0_0_n_n none (shapeCast S512x128 q shapeCasts_S1x512x128_S512x128) K
    (constant S512x1024 .f32 0x00000000#32))

/-- The row of the denominators afterwards, -/
def newL (q : FVec F S1x512x128 .bf16) (K : FVec F S1024x128 .bf16) (l : FVec F S1x512x1 .f32) : FVec F S1x512x1 .f32 :=
  shapeCast S1x512x1 (addf (shapeCast S512x1 l shapeCasts_S1x512x1_S512x1)
    (shapeCast S512x1 (multiReduction .add [1] S512 (score q K) 0x00000000#32 reduces_S512x1024_S512 (.inl rfl) rfl)
      shapeCasts_S512_S512x1)) shapeCasts_S512x1_S1x512x1

/-- and that of the output. -/
def newO (q : FVec F S1x512x128 .bf16) (K V : FVec F S1024x128 .bf16) (o : FVec F S1x512x128 .f32) :
    FVec F S1x512x128 .f32 :=
  shapeCast S1x512x128 (addf (shapeCast S512x128 o shapeCasts_S1x512x128_S512x128)
    (matmul dot_S512x1024_S1024x128_S512x128_1_0_0_1_n_n none (truncf .bf16 (score q K) bitsLt_bf16_f32) V
      (constant S512x128 .f32 0x00000000#32))) shapeCasts_S512x128_S1x512x128

/-- The denominators with row `h` updated, -/
def updL (fq : QBlk F) (K : FVec F S1024x128 .bf16) (h : Fin 8) (l : LBlk F) : LBlk F :=
  ((Memref.whole cc0_scratch4).access (rowL h)).write (Elt F) l
    (newL ((Memref.whole cc0_stg0_0).view.readAt (Elt F) (row h).toLoadRect fq) K
      ((Memref.whole cc0_scratch4).view.readAt (Elt F) (rowL h).toLoadRect l)) Finset.univ

/-- and the output. -/
def updO (fq : QBlk F) (K V : FVec F S1024x128 .bf16) (h : Fin 8) (o : OBlk F) : OBlk F :=
  ((Memref.whole cc0_stg5_0).access (row h)).write (Elt F) o
    (newO ((Memref.whole cc0_stg0_0).view.readAt (Elt F) (row h).toLoadRect fq) K V
      ((Memref.whole cc0_stg5_0).view.readAt (Elt F) (row h).toLoadRect o)) Finset.univ

/-- The first `n` heads of a half-update by the keys `K` and the values `V`. -/
def heads (fq : QBlk F) (K V : Blk F) (s : LBlk F × OBlk F) : ℕ → LBlk F × OBlk F
  | 0 => s
  | n + 1 => if h : n < 8 then
      (updL fq (kmat K ⟨n, h⟩) ⟨n, h⟩ (heads fq K V s n).1, updO fq (kmat K ⟨n, h⟩) (kmat V ⟨n, h⟩) ⟨n, h⟩ (heads fq K V s n).2)
    else heads fq K V s n

/-- A half-update. -/
abbrev half (fq : QBlk F) (K V : Blk F) (s : LBlk F × OBlk F) : LBlk F × OBlk F := heads fq K V s 8

/-! ## Loads of a row -/

section Rows

variable (c : Dev nD)

/-- From `P`, and giving `P` back, the load finds the matrix `M`. -/
def RowLoad (P : sProp 𝕄) {sh : Shape} (mk : Memref sig .tc .vmem sh .bf16) (r : LoadRect sh) (hl : mk.view.LoadsAt r)
    (hc : r.shape.ShapeCasts S1024x128) (M : FVec F S1024x128 .bf16) : Prop :=
  ∀ {α : Type} (k : (r.shape.Idx → Elt F .bf16) → Prog (TpuEff nD τ sig (Elt F) Λ₀ .tc) α) (Q : α → sProp 𝕄),
    P ⊢ iprop((∀ w, ⌜shapeCast S1024x128 w hc = M⌝ -∗ P -∗ run c (k w) Q) -∗ run c (.op (.load mk r hl) k) Q)

/-- Where row `h` of a half lies in the half's block, -/
theorem row_own (Y : Blk F) (h : Fin 8) (inb) (hc : S1x1024x128.ShapeCasts S1024x128) :
    shapeCast S1024x128 (fun x => Y ((Rect.unit (s := S8x1024x128) ![h.val, 0, 0] S1x1024x128.size inb).toLoadRect.idx x)) hc
      = kmat Y h := by
  funext j
  obtain ⟨x, y, rfl⟩ : ∃ x y, j = ix2 x y := ⟨_, _, eq_ix2 j⟩
  show Y (LoadRect.idx _ (Shape.reshapeEquiv _ (ix2 x y))) = Y (ix3 h x y)
  rw [reshapeEquiv_ix2_1ab]
  congr 1
  funext a
  match a with
  | 0 => exact Fin.ext (by show h.val + 1 * 0 = h.val; omega)
  | 1 => exact Fin.ext (by show 0 + 1 * x.val = x.val; omega)
  | 2 => exact Fin.ext (by show 0 + 1 * y.val = y.val; omega)

/-- and where it lies in the three slots. -/
theorem row_slot {α : Type} (g : S3x8x1024x128.Idx → α) (k : Fin 3) (h : Fin 8) (inb) (hc : S1x1x1024x128.ShapeCasts S1024x128)
    (hn : S8x1024x128.numel = S1x8x1024x128.numel) :
    shapeCast S1024x128 (fun x => g ((Rect.unit (s := S3x8x1024x128) ![k.val, h.val, 0, 0] S1x1x1024x128.size inb).toLoadRect.idx x)) hc
      = fun j => g ((slotRect k).emb (Shape.reshapeEquiv hn (ix3 h (j 0) (j 1)))) := by
  funext j
  obtain ⟨x, y, rfl⟩ : ∃ x y, j = ix2 x y := ⟨_, _, eq_ix2 j⟩
  show g (LoadRect.idx _ (Shape.reshapeEquiv _ (ix2 x y))) = g ((slotRect k).emb (Shape.reshapeEquiv hn (ix3 h x y)))
  rw [reshapeEquiv_ix2_11ab, reshapeEquiv_ix3_1abc]
  congr 1
  funext a
  match a with
  | 0 => exact Fin.ext (by show k.val + 1 * 0 = k.val + 1 * 0; omega)
  | 1 => exact Fin.ext (by show h.val + 1 * 0 = 0 + 1 * h.val; omega)
  | 2 => exact Fin.ext (by show 0 + 1 * x.val = 0 + 1 * x.val; rfl)
  | 3 => exact Fin.ext (by show 0 + 1 * y.val = 0 + 1 * y.val; rfl)

/-- The elements of row `h` of slot `k` are elements of the slot. -/
theorem row_mem (b : Fin 4) (k : Fin 3) (h : Fin 8) (inb) :
    (bufM b).view.setOn (Rect.unit (s := S3x8x1024x128) ![k.val, h.val, 0, 0] S1x1x1024x128.size inb).toLoadRect.set
      ⊆ (slotM b k).view.set := by
  intro i hi
  have h1 : (slotM b k).view.set = (bufM b).view.setOn (slotRect k).set := by
    show (((bufM b).view.slice (slotRect k)).reshape _ _).set = _
    rw [View.set_reshape, View.set_slice]; rfl
  rw [h1]
  refine Finset.map_subset_map.mpr ?_ hi
  intro y hy
  rw [Rect.mem_set_unit] at hy ⊢
  intro a
  have ha := hy a
  match a with
  | 0 => exact ha
  | 1 => exact ⟨Nat.zero_le _, by show (y 1).val < 0 + 8; have := (y 1).isLt; change (y 1).val < 8 at this; omega⟩
  | 2 => exact ha
  | 3 => exact ha

theorem rowLoad_own (b : Fin 4) (q : PosShare TreeShare) (Y : Blk F) (h : Fin 8) (off : Fin 3 → ℕ) (ho : off = ![h.val, 0, 0])
    (inb) (hl) (hc : S1x1024x128.ShapeCasts S1024x128) :
    RowLoad (F := F) c (owns (c : Thread nD τ) (ownM b) q Y) (ownM b)
      (Rect.unit (s := S8x1024x128) off S1x1024x128.size inb).toLoadRect hl hc (kmat Y h) := by
  subst ho
  intro α k Q
  unfold owns
  iintro ⟨%f, %hf, H⟩ HK
  iapply (wp_load 𝒱₀ (c : Thread nD τ) none Set.univ (S := (ownM b).view.set) (q := q) (f := f)
    (View.setOn_subset_set _ _)) $$ H
  iintro H
  have hM : shapeCast S1024x128 ((ownM b).view.readAt (Elt F)
      (Rect.unit (s := S8x1024x128) ![h.val, 0, 0] S1x1024x128.size inb).toLoadRect f) hc = kmat Y h := by
    subst hf; exact row_own _ h inb hc
  iapply HK $$ %_ [] [H]
  · ipureintro; exact hM
  · iexists f; isplitr; · ipureintro; exact hf
    iexact H

theorem rowLoad_slot (b : Fin 4) (k : Fin 3) (q : PosShare TreeShare) (Y : Blk F) (h : Fin 8) (off : Fin 4 → ℕ)
    (ho : off = ![k.val, h.val, 0, 0]) (inb) (hl) (hc : S1x1x1024x128.ShapeCasts S1024x128) :
    RowLoad (F := F) c (owns (c : Thread nD τ) (slotM b k) q Y) (bufM b)
      (Rect.unit (s := S3x8x1024x128) off S1x1x1024x128.size inb).toLoadRect hl hc (kmat Y h) := by
  subst ho
  intro α p Q
  unfold owns
  iintro ⟨%f, %hf, H⟩ HK
  iapply (wp_load 𝒱₀ (c : Thread nD τ) none Set.univ (m := bufM b) (S := (slotM b k).view.set) (q := q) (f := f)
    (row_mem b k h inb)) $$ H
  iintro H
  have hM : shapeCast S1024x128 ((bufM b).view.readAt (Elt F)
      (Rect.unit (s := S3x8x1024x128) ![k.val, h.val, 0, 0] S1x1x1024x128.size inb).toLoadRect f) hc = kmat Y h := by
    subst hf; exact row_slot ((bufM b).view.read (Elt F) f) k h inb hc _
  iapply HK $$ %_ [] [H]
  · ipureintro; exact hM
  · iexists f; isplitr; · ipureintro; exact hf
    iexact H

/-! ## The step, and the loop over the heads -/

/-- The queries, the denominators and the output on device `c`. -/
def atQ (f : QBlk F) : sProp 𝕄 := iprop((Memref.whole cc0_stg0_0).view.loc (c : Thread nD τ) ↦[Finset.univ]{fullShare} f)
def atL (f : LBlk F) : sProp 𝕄 := iprop((Memref.whole cc0_scratch4).view.loc (c : Thread nD τ) ↦[Finset.univ]{fullShare} f)
def atO (f : OBlk F) : sProp 𝕄 := iprop((Memref.whole cc0_stg5_0).view.loc (c : Thread nD τ) ↦[Finset.univ]{fullShare} f)

theorem head_step {PK PV : sProp 𝕄} {sh : Shape} (mk mv : Memref sig .tc .vmem sh .bf16) (r : LoadRect sh)
    (hl : mk.view.LoadsAt r) (hl' : mv.view.LoadsAt r) (hc : r.shape.ShapeCasts S1024x128)
    (K V : FVec F S1024x128 .bf16) (hK : RowLoad c PK mk r hl hc K) (hV : RowLoad c PV mv r hl' hc V)
    (pL : FVec F S1x512x128 .bf16 → (r.shape.Idx → Elt F .bf16) → FVec F S1x512x1 .f32 → FVec F S1x512x1 .f32)
    (hpL : ∀ q k l, pL q k l = newL q (shapeCast S1024x128 k hc) l)
    (pO : FVec F S1x512x128 .bf16 → (r.shape.Idx → Elt F .bf16) → (r.shape.Idx → Elt F .bf16) → FVec F S1x512x128 .f32 →
      FVec F S1x512x128 .f32)
    (hpO : ∀ q k v o, pO q k v o = newO q (shapeCast S1024x128 k hc) (shapeCast S1024x128 v hc) o)
    (h : Fin 8) (off : Fin 3 → ℕ) (ho : off = ![h.val, 0, 0]) (inb) (off' : Fin 3 → ℕ) (ho' : off' = ![h.val, 0, 0]) (inb')
    (fq : QBlk F) (l : LBlk F) (o : OBlk F) (Q : Unit → sProp 𝕄) :
    iprop(atQ c fq ∗ PK ∗ PV ∗ atL c l ∗ atO c o) ⊢
      iprop((iprop(atQ c fq ∗ PK ∗ PV ∗ atL c (updL fq K h l) ∗ atO c (updO fq K V h o)) -∗ Q ⟨⟩) -∗
      run c (do
        let v1 : Vec F S1x512x128 .bf16 ← Prog.lift (.load (Memref.whole cc0_stg0_0) (Rect.unit (s := S8x512x128) off S1x512x128.size inb).toLoadRect (View.loadsAt_vmem h_S1x512x128))
        let v2 ← Prog.lift (.load mk r hl)
        let v3 ← Prog.lift (.load mv r hl')
        let v4 : Vec F S1x512x1 .f32 ← Prog.lift (.load (Memref.whole cc0_scratch4) (Rect.unit (s := S8x512x1) off' S1x512x1.size inb').toLoadRect (View.loadsAt_vmem h_S1x512x1))
        let _v5 : Vec F S1x512x1 .f32 ← Prog.lift (.load (Memref.whole cc0_scratch4) (Rect.unit (s := S8x512x1) off' S1x512x1.size inb').toLoadRect (View.loadsAt_vmem h_S1x512x1))
        Prog.lift (.store (Memref.whole cc0_scratch4) (Rect.unit (s := S8x512x1) off' S1x512x1.size inb') (pL v1 v2 v4) Finset.univ (View.stores_vmem_bits_univ h_S1x512x1 rfl) (.inl rfl))
        let v6 : Vec F S1x512x128 .f32 ← Prog.lift (.load (Memref.whole cc0_stg5_0) (Rect.unit (s := S8x512x128) off S1x512x128.size inb).toLoadRect (View.loadsAt_vmem h_S1x512x128))
        let _v7 : Vec F S1x512x128 .f32 ← Prog.lift (.load (Memref.whole cc0_stg5_0) (Rect.unit (s := S8x512x128) off S1x512x128.size inb).toLoadRect (View.loadsAt_vmem h_S1x512x128))
        Prog.lift (.store (Memref.whole cc0_stg5_0) (Rect.unit (s := S8x512x128) off S1x512x128.size inb) (pO v1 v2 v3 v6) Finset.univ (View.stores_vmem_bits_univ h_S1x512x128 rfl) (.inl rfl))
        pure ⟨⟩) Q) := by
  subst ho; subst ho'
  simp only [Prog.lift, Prog.bind_op, Prog.bind_ret, Prog.pure_eq_ret]
  unfold atQ atL atO
  iintro ⟨Hq, HK, HV, Hl, Ho⟩ HQ
  iapply (wp_load 𝒱₀ (c : Thread nD τ) none Set.univ (Finset.subset_univ _)) $$ Hq
  iintro Hq
  iapply (hK _ _) $$ HK
  iintro %k %hk HK
  iapply (hV _ _) $$ HV
  iintro %v %hv HV
  iapply (wp_load 𝒱₀ (c : Thread nD τ) none Set.univ (Finset.subset_univ _)) $$ Hl
  iintro Hl
  iapply (wp_load 𝒱₀ (c : Thread nD τ) none Set.univ (Finset.subset_univ _)) $$ Hl
  iintro Hl
  iapply (wp_store 𝒱₀ (c : Thread nD τ) none Set.univ (m := Memref.whole cc0_scratch4) (r := rowL h) (Mk := Finset.univ) (Finset.subset_univ _)) $$ Hl
  iintro Hl
  iapply (wp_load 𝒱₀ (c : Thread nD τ) none Set.univ (Finset.subset_univ _)) $$ Ho
  iintro Ho
  iapply (wp_load 𝒱₀ (c : Thread nD τ) none Set.univ (Finset.subset_univ _)) $$ Ho
  iintro Ho
  iapply (wp_store 𝒱₀ (c : Thread nD τ) none Set.univ (m := Memref.whole cc0_stg5_0) (r := row h) (Mk := Finset.univ) (Finset.subset_univ _)) $$ Ho
  iintro Ho
  rw [hpL, hpO, hk, hv, wp_ret]
  imodintro
  iapply HQ
  isplitl [Hq]; · iexact Hq
  isplitl [HK]; · iexact HK
  isplitl [HV]; · iexact HV
  isplitl [Hl]; · iexact Hl
  iexact Ho

/-- A half-update under way: `n` heads are done. -/
def halfAt (PK PV : sProp 𝕄) (fq : QBlk F) (K V : Blk F) (s : LBlk F × OBlk F) (n : ℕ) : sProp 𝕄 :=
  iprop(atQ c fq ∗ PK ∗ PV ∗ atL c (heads fq K V s n).1 ∗ atO c (heads fq K V s n).2)

/-- The loop over the heads. -/
theorem half_loop (lp : Scf.Loop 32) (ok : lp.OK) (htr : lp.trips = 8)
    (body : Fin lp.trips → Unit → Prog (TpuEff nD τ sig (Elt F) Λ₀ .tc) Unit)
    {PK PV : sProp 𝕄} (fq : QBlk F) (K V : Blk F) (s : LBlk F × OBlk F)
    (hbody : ∀ (i : Fin lp.trips) (h : Fin 8), h.val = i.val → ∀ l o,
      iprop(atQ c fq ∗ PK ∗ PV ∗ atL c l ∗ atO c o) ⊢ run c (body i ⟨⟩) (fun _ =>
        iprop(atQ c fq ∗ PK ∗ PV ∗ atL c (updL fq (kmat K h) h l) ∗ atO c (updO fq (kmat K h) (kmat V h) h o))))
    {α : Type} (kk : Unit → Prog (TpuEff nD τ sig (Elt F) Λ₀ .tc) α) (Q : α → sProp 𝕄) :
    iprop(atQ c fq ∗ PK ∗ PV ∗ atL c s.1 ∗ atO c s.2) ⊢
      iprop((iprop(atQ c fq ∗ PK ∗ PV ∗ atL c (half fq K V s).1 ∗ atO c (half fq K V s).2) -∗ run c (kk ⟨⟩) Q) -∗
        run c (Scf.Loop.for lp ok ⟨⟩ body >>= kk) Q) := by
  have hb : ∀ (i : Fin lp.trips) (acc : Unit), halfAt c PK PV fq K V s i.val ⊢ run c (body i acc) (fun _ => halfAt c PK PV fq K V s (i.val + 1)) := by
    intro i acc
    have hi : i.val < 8 := htr ▸ i.isLt
    unfold halfAt
    refine (hbody i ⟨i.val, hi⟩ rfl _ _).trans (wp_mono _ _ _ fun _ => ?_)
    rw [heads, dif_pos hi]
  have h0 : iprop(atQ c fq ∗ PK ∗ PV ∗ atL c s.1 ∗ atO c s.2) = halfAt c PK PV fq K V s 0 := rfl
  rw [h0]
  iintro H HK
  iapply (Scf.wp_for_bind frame (wpE (defs₀ (F := F)) 𝒱₀ (c : Thread nD τ) none) Set.univ lp.lb lp.ub lp.st ok ⟨⟩ body
    (fun n _ => halfAt c PK PV fq K V s n) hb) $$ H
  iintro %acc H
  iapply HK
  have h8 : halfAt c PK PV fq K V s lp.trips
      = iprop(atQ c fq ∗ PK ∗ PV ∗ atL c (half fq K V s).1 ∗ atO c (half fq K V s).2) := by rw [htr]; rfl
  ihave H' := (Entails.of_eq h8) $$ H
  iexact H'

end Rows

end Cert.Proof
-- ==== Proof.Weigh.lean ====
/-
  Sums over the extended reals: which are real, and why dividing a weighted sum by the sum of its weights is weighing
  with the divided weights, shifted exponents or not.
-/
module

public import Idealize.ShloMosaic.PureOps.Ideal
public import Idealize.ShloMosaic.PureOps.Ideal.Laws

@[expose] public section

noncomputable section

namespace Cert.Proof

open Idealize.ShloMosaic

/-- The one index of an axis of extent one. -/
abbrev z1 : Fin 1 := ⟨0, Nat.one_pos⟩

/-- The extended real is a real number. -/
def IsR (x : EReal) : Prop := ∃ r : ℝ, x = (r : EReal)

theorem fin_of_abs_lt {x : EReal} (h : max x (-x) < ⊤) : IsR x := by
  induction x using EReal.rec with
  | bot => simp at h
  | top => simp at h
  | coe r => exact ⟨r, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The coercion goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} [Fintype ι] {f : ι → EReal} (h : ∀ i, IsR (f i)) : IsR (∑ i, f i) := by
  choose g hg using h
  exact ⟨∑ i, g i, by rw [coe_sum]; exact Finset.sum_congr rfl fun i _ => hg i⟩

/-- A real factor moves out of a sum of products of reals. -/
theorem sum_scaled {ι : Type} [Fintype ι] {q k : ι → EReal} {c : EReal} (hq : ∀ i, IsR (q i)) (hk : ∀ i, IsR (k i))
    (hc : IsR c) : ∑ i, (q i * c) * k i = (∑ i, q i * k i) * c := by
  choose q' hq' using hq; choose k' hk' using hk; obtain ⟨c, rfl⟩ := hc
  obtain rfl : q = fun i => (q' i : EReal) := funext hq'
  obtain rfl : k = fun i => (k' i : EReal) := funext hk'
  simp only [← EReal.coe_mul, ← coe_sum]
  congr 1
  rw [Finset.sum_mul]
  exact Finset.sum_congr rfl fun i _ => by ring

/-- A real number at least zero multiplies a sum term by term. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The greatest of finitely many reals, at least one, is real. -/
theorem fold_max_fin {n : ℕ} (hn : 0 < n) {f : Fin n → EReal} (h : ∀ i, IsR (f i)) :
    IsR ((Finset.univ : Finset (Fin n)).fold max ⊥ f) := by
  have lt : (Finset.univ : Finset (Fin n)).fold max ⊥ f < ⊤ :=
    (Finset.fold_max_lt _).mpr ⟨bot_lt_top, fun i _ => by obtain ⟨r, hr⟩ := h i; rw [hr]; exact EReal.coe_lt_top r⟩
  have gt : ⊥ < (Finset.univ : Finset (Fin n)).fold max ⊥ f :=
    (Finset.lt_fold_max _).mpr (.inr ⟨⟨0, hn⟩, Finset.mem_univ _, by obtain ⟨r, hr⟩ := h ⟨0, hn⟩; rw [hr]; exact EReal.bot_lt_coe r⟩)
  exact ⟨_, (EReal.coe_toReal lt.ne gt.ne').symm⟩

/-- The weights `e^s`, divided by their sum only after weighing, or each divided by the sum with every exponent less `M`. -/
theorem weigh {ι : Type} [Fintype ι] [Nonempty ι] {s v : ι → EReal} {M : EReal} (hs : ∀ j, IsR (s j)) (hM : IsR M) :
    ∑ j, v j * Ideal.div (Ideal.exp (s j - M)) (∑ k, Ideal.exp (s k - M))
      = Ideal.div (∑ j, Ideal.exp (s j) * v j) (∑ j, Ideal.exp (s j)) := by
  choose t ht using hs; obtain ⟨M, rfl⟩ := hM
  obtain rfl : s = fun j => (t j : EReal) := funext ht
  have pos : 0 < ∑ j, Real.exp (t j) := Finset.sum_pos (fun j _ => Real.exp_pos _) Finset.univ_nonempty
  have posM : 0 < ∑ j, Real.exp (t j - M) := Finset.sum_pos (fun j _ => Real.exp_pos _) Finset.univ_nonempty
  simp only [← EReal.coe_sub, Ideal.exp_coe, ← coe_sum]
  rw [Ideal.div_coe pos.ne', sum_mul_real _ _ (by positivity)]
  refine Finset.sum_congr rfl fun j _ => ?_
  rw [Ideal.div_coe posM.ne', ← EReal.coe_mul, mul_comm (Real.exp (t j) : EReal) (v j), mul_assoc, ← EReal.coe_mul]
  congr 2
  have e : ∀ k, Real.exp (t k - M) = Real.exp (t k) * Real.exp (-M) := fun k => by rw [sub_eq_add_neg, Real.exp_add]
  simp only [e, ← Finset.sum_mul]
  have := (Real.exp_pos (-M)).ne'
  field_simp

end Cert.Proof

end
-- ==== Proof.HalfValue.lean ====
/-
  A half-update over the extended reals, read at an index: onto a row's denominator it adds the sum of the exponentiated
  scores against the half's keys, onto a row's output the sum of those times the half's values.
-/
module

public import proofs.«01_k».proof.Proof.Head
public import proofs.«01_k».proof.Proof.Weigh
public import Idealize.ShloMosaic.Lib.Pipeline.Value
public import Idealize.ShloMosaic.PureOps.Ideal.Laws

@[expose] public section

set_option maxRecDepth 10000

noncomputable section

namespace Cert.Proof

open Cert.KernelIdeal Cert.KernelIdeal.Gen

open Idealize.ShloMosaic
open Idealize.ShloMosaic.TcCoe
open Idealize.ShloMosaic.ValueIdx

/-! ## The two products -/

abbrev dQK : DotDims S512x128 S1024x128 S512x1024 := dot_S512x128_S1024x128_S512x1024_1_1_0_0_n_n
abbrev dPV : DotDims S512x1024 S1024x128 S512x128 := dot_S512x1024_S1024x128_S512x128_1_0_0_1_n_n

theorem dQK_lhs0 (i : S512x1024.Idx) (q : dQK.contr.Idx) : (dQK.lhsIdx i q 0).val = (i 0).val := by
  unfold DotDims.lhsIdx
  rw [dif_neg (show ¬(0 : Fin S512x128.rank) ∈ dQK.lhsBatch by decide), dif_pos (show (0 : Fin S512x128.rank) ∈ dQK.lhsNonContracting by decide)]
  rfl
theorem dQK_rhs0 (i : S512x1024.Idx) (q : dQK.contr.Idx) : (dQK.rhsIdx i q 0).val = (i 1).val := by
  unfold DotDims.rhsIdx
  rw [dif_neg (show ¬(0 : Fin S1024x128.rank) ∈ dQK.rhsBatch by decide), dif_pos (show (0 : Fin S1024x128.rank) ∈ dQK.rhsNonContracting by decide)]
  rfl
theorem dPV_lhs0 (i : S512x128.Idx) (q : dPV.contr.Idx) : (dPV.lhsIdx i q 0).val = (i 0).val := by
  unfold DotDims.lhsIdx
  rw [dif_neg (show ¬(0 : Fin S512x1024.rank) ∈ dPV.lhsBatch by decide), dif_pos (show (0 : Fin S512x1024.rank) ∈ dPV.lhsNonContracting by decide)]
  rfl
theorem dPV_rhs1 (i : S512x128.Idx) (q : dPV.contr.Idx) : (dPV.rhsIdx i q 1).val = (i 1).val := by
  unfold DotDims.rhsIdx
  rw [dif_neg (show ¬(1 : Fin S1024x128.rank) ∈ dPV.rhsBatch by decide), dif_pos (show (1 : Fin S1024x128.rank) ∈ dPV.rhsNonContracting by decide)]
  rfl

/-- A score before the exponential, -/
theorem qk_apply (q : FVec Ideal S512x128 .bf16) (K : FVec Ideal S1024x128 .bf16) (i : Fin 512) (j : Fin 1024) :
    matmul dQK none q K (constant S512x1024 .f32 0x00000000#32) (ix2 i j) = ∑ d : Fin 128, q (ix2 i d) * K (ix2 j d) := by
  simp only [matmul]
  rw [Ideal.matmul_constant_zero_apply, ← Equiv.sum_comp (contrEquiv1 dQK 128 rfl rfl).symm]
  refine Finset.sum_congr rfl fun d _ => ?_
  have hd := contrEquiv1_symm_val dQK 128 rfl rfl d
  have el : dQK.lhsIdx (ix2 i j) ((contrEquiv1 dQK 128 rfl rfl).symm d) = ix2 i d := funext fun a => Fin.ext (by
    match a with
    | ⟨0, _⟩ => exact dQK_lhs0 _ _
    | ⟨1, _⟩ => exact (dQK.lhsIdx_val_of_single rfl _ _).trans hd)
  have er : dQK.rhsIdx (ix2 i j) ((contrEquiv1 dQK 128 rfl rfl).symm d) = ix2 j d := funext fun a => Fin.ext (by
    match a with
    | ⟨0, _⟩ => exact dQK_rhs0 _ _
    | ⟨1, _⟩ => exact (dQK.rhsIdx_val_of_single rfl _ _).trans hd)
  rw [el, er]

/-- and a row of exponentiated scores by the values. -/
theorem pv_apply (p : FVec Ideal S512x1024 .bf16) (V : FVec Ideal S1024x128 .bf16) (i : Fin 512) (d : Fin 128) :
    matmul dPV none p V (constant S512x128 .f32 0x00000000#32) (ix2 i d) = ∑ j : Fin 1024, p (ix2 i j) * V (ix2 j d) := by
  simp only [matmul]
  rw [Ideal.matmul_constant_zero_apply, ← Equiv.sum_comp (contrEquiv1 dPV 1024 rfl rfl).symm]
  refine Finset.sum_congr rfl fun j _ => ?_
  have hj := contrEquiv1_symm_val dPV 1024 rfl rfl j
  have el : dPV.lhsIdx (ix2 i d) ((contrEquiv1 dPV 1024 rfl rfl).symm j) = ix2 i j := funext fun a => Fin.ext (by
    match a with
    | ⟨0, _⟩ => exact dPV_lhs0 _ _
    | ⟨1, _⟩ => exact (dPV.lhsIdx_val_of_single rfl _ _).trans hj)
  have er : dPV.rhsIdx (ix2 i d) ((contrEquiv1 dPV 1024 rfl rfl).symm j) = ix2 j d := funext fun a => Fin.ext (by
    match a with
    | ⟨0, _⟩ => exact (dPV.rhsIdx_val_of_single rfl _ _).trans hj
    | ⟨1, _⟩ => exact dPV_rhs1 _ _)
  rw [el, er]

/-! ## The new rows -/

theorem score_apply (q : FVec Ideal S1x512x128 .bf16) (K : FVec Ideal S1024x128 .bf16) (i : Fin 512) (j : Fin 1024) :
    score q K (ix2 i j) = Ideal.exp (∑ d : Fin 128, q (ix3 z1 i d) * K (ix2 j d)) := by
  show Ideal.exp (matmul dQK none (shapeCast S512x128 q shapeCasts_S1x512x128_S512x128) K (constant S512x1024 .f32 0x00000000#32) (ix2 i j)) = _
  rw [qk_apply]
  refine congrArg Ideal.exp (Finset.sum_congr rfl fun d _ => congrArg (· * _) ?_)
  show q (Shape.reshapeEquiv _ (ix2 i d)) = _
  rw [reshapeEquiv_ix2_1ab]

theorem newL_apply (q : FVec Ideal S1x512x128 .bf16) (K : FVec Ideal S1024x128 .bf16) (l : FVec Ideal S1x512x1 .f32) (i : Fin 512) :
    newL q K l (ix3 z1 i z1) = l (ix3 z1 i z1) + ∑ j : Fin 1024, Ideal.exp (∑ d : Fin 128, q (ix3 z1 i d) * K (ix2 j d)) := by
  unfold newL
  rw [shapeCast_apply _ shapeCasts_S512x1_S1x512x1 (ix3 z1 i z1) (ix2 i z1)
    (by rw [Shape.rowMajor_val_two, Shape.rowMajor_val_three]; show i.val * 1 + 0 = (0 * 512 + i.val) * 1 + 0; omega)]
  show shapeCast S512x1 l _ (ix2 i z1) + shapeCast S512x1 _ _ (ix2 i z1) = _
  rw [shapeCast_apply l shapeCasts_S1x512x1_S512x1 (ix2 i z1) (ix3 z1 i z1)
    (by rw [Shape.rowMajor_val_two, Shape.rowMajor_val_three]; show (0 * 512 + i.val) * 1 + 0 = i.val * 1 + 0; omega),
    shapeCast_apply _ shapeCasts_S512_S512x1 (ix2 i z1) (ix1 i)
    (by rw [Shape.rowMajor_val_two, Shape.rowMajor_val_one]; show i.val = i.val * 1 + 0; omega)]
  refine congrArg (_ + ·) ((Ideal.multiReduction_add_single (score q K) _ reduces_S512x1024_S512 _ _ (ix1 i)).trans ?_)
  show ∑ j : Fin 1024, score q K (reduces_S512x1024_S512.lift (ix1 i) j) = _
  refine Finset.sum_congr rfl fun j _ => ?_
  rw [← score_apply]
  refine congrArg (score q K) (funext fun a => Fin.ext ?_)
  match a with
  | ⟨0, _⟩ => rfl
  | ⟨1, _⟩ => rfl

theorem newO_apply (q : FVec Ideal S1x512x128 .bf16) (K V : FVec Ideal S1024x128 .bf16) (o : FVec Ideal S1x512x128 .f32)
    (i : Fin 512) (d : Fin 128) :
    newO q K V o (ix3 z1 i d)
      = o (ix3 z1 i d) + ∑ j : Fin 1024, Ideal.exp (∑ d : Fin 128, q (ix3 z1 i d) * K (ix2 j d)) * V (ix2 j d) := by
  unfold newO
  rw [shapeCast_apply _ shapeCasts_S512x128_S1x512x128 (ix3 z1 i d) (ix2 i d)
    (by rw [Shape.rowMajor_val_two, Shape.rowMajor_val_three]; show i.val * 128 + d.val = (0 * 512 + i.val) * 128 + d.val; omega)]
  show shapeCast S512x128 o _ (ix2 i d) + matmul dPV none (score q K) V (constant S512x128 .f32 0x00000000#32) (ix2 i d) = _
  rw [shapeCast_apply o shapeCasts_S1x512x128_S512x128 (ix2 i d) (ix3 z1 i d)
    (by rw [Shape.rowMajor_val_two, Shape.rowMajor_val_three]; show (0 * 512 + i.val) * 128 + d.val = i.val * 128 + d.val; omega)]
  refine congrArg (_ + ·) ((pv_apply (score q K) V i d).trans (Finset.sum_congr rfl fun j _ => ?_))
  rw [score_apply]

/-! ## Where a row lies -/

theorem row_emb (h : Fin 8) (i : Fin 512) (d : Fin 128) : (row h).emb (ix3 z1 i d) = ix3 h i d := by
  funext a
  match a with
  | 0 => exact Fin.ext (by show h.val + 1 * 0 = h.val; omega)
  | 1 => exact Fin.ext (by show 0 + 1 * i.val = i.val; omega)
  | 2 => exact Fin.ext (by show 0 + 1 * d.val = d.val; omega)
theorem rowL_emb (h : Fin 8) (i : Fin 512) : (rowL h).emb (ix3 z1 i z1) = ix3 h i z1 := by
  funext a
  match a with
  | 0 => exact Fin.ext (by show h.val + 1 * 0 = h.val; omega)
  | 1 => exact Fin.ext (by show 0 + 1 * i.val = i.val; omega)
  | 2 => exact Fin.ext (by show 0 + 1 * 0 = 0; omega)

theorem row_other {h h' : Fin 8} (ne : h' ≠ h) (i : Fin 512) (d : Fin 128) : ix3 h' i d ∉ Set.range (row h).emb := by
  rintro ⟨x, hx⟩
  have h0 : (x 0).val < 1 := (x 0).isLt
  have e : h.val + 1 * (x 0).val = h'.val := congrArg (fun y : S8x512x128.Idx => (y 0).val) hx
  exact ne (Fin.ext (by omega))
theorem rowL_other {h h' : Fin 8} (ne : h' ≠ h) (i : Fin 512) : ix3 h' i z1 ∉ Set.range (rowL h).emb := by
  rintro ⟨x, hx⟩
  have h0 : (x 0).val < 1 := (x 0).isLt
  have e : h.val + 1 * (x 0).val = h'.val := congrArg (fun y : S8x512x1.Idx => (y 0).val) hx
  exact ne (Fin.ext (by omega))

section Written

variable {sig' : RefSig} {κ : Kind} {Val : EltTy → Type} (b : Ref sig' κ) (r : Rect b.ty.shape) (f : b.ty.Contents Val)
  (w : r.shape.Idx → Val b.ty.elt)

/-- A rectangle of a buffer written: inside it, the payload; -/
theorem write_rect (x : r.shape.Idx) : ((Memref.whole b).access r).write Val f w Finset.univ (r.emb x) = w x :=
  View.write_emb_of_mem (v := (Memref.whole b).access r) (Val := Val) f w (M := Finset.univ) (x := x) (Finset.mem_univ _)

/-- outside it, what was there. -/
theorem write_rect_other {y : b.ty.shape.Idx} (h : y ∉ Set.range r.emb) :
    ((Memref.whole b).access r).write Val f w Finset.univ y = f y :=
  View.read_slice_write_of_not_mem (v := (Memref.whole b).view) (Val := Val) r f w Finset.univ
    fun hm => h (by obtain ⟨x, -, hx⟩ := Finset.mem_map.mp hm; exact ⟨x, hx⟩)

/-- A rectangle of a buffer read. -/
theorem readAt_rect (x : r.shape.Idx) : (Memref.whole b).view.readAt Val r.toLoadRect f x = f (r.emb x) := rfl

end Written

/-! ## A head's update, and all eight -/

/-- A score of head `h`. -/
def sc (fq : QBlk Ideal) (K : Blk Ideal) (h : Fin 8) (i : Fin 512) (j : Fin 1024) : EReal :=
  ∑ d : Fin 128, fq (ix3 h i d) * K (ix3 h j d)

theorem updL_same (fq : QBlk Ideal) (K : Blk Ideal) (h : Fin 8) (l : LBlk Ideal) (i : Fin 512) :
    updL fq (kmat K h) h l (ix3 h i z1) = (l (ix3 h i z1) + ∑ j : Fin 1024, Ideal.exp (sc fq K h i j) : EReal) := by
  have e := write_rect (Val := Elt Ideal) cc0_scratch4 (rowL h) l
    (newL ((Memref.whole cc0_stg0_0).view.readAt (Elt Ideal) (row h).toLoadRect fq) (kmat K h)
      ((Memref.whole cc0_scratch4).view.readAt (Elt Ideal) (rowL h).toLoadRect l)) (ix3 z1 i z1)
  rw [newL_apply] at e
  have hl := readAt_rect (Val := Elt Ideal) cc0_scratch4 (rowL h) l (ix3 z1 i z1)
  have hq := fun d => (readAt_rect (Val := Elt Ideal) cc0_stg0_0 (row h) fq (ix3 z1 i d)).trans (congrArg fq (row_emb h i d))
  rw [rowL_emb] at e hl
  unfold updL sc
  rw [e, hl]
  exact congrArg (l (ix3 h i z1) + ·) (Finset.sum_congr rfl fun j _ => congrArg Ideal.exp
    (Finset.sum_congr rfl fun d _ => congrArg (· * K (ix3 h j d)) (hq d)))

theorem updL_other (fq : QBlk Ideal) (K : FVec Ideal S1024x128 .bf16) {h h' : Fin 8} (ne : h' ≠ h) (l : LBlk Ideal) (i : Fin 512) :
    updL fq K h l (ix3 h' i z1) = l (ix3 h' i z1) := by
  unfold updL
  exact write_rect_other (Val := Elt Ideal) cc0_scratch4 (rowL h) l _ (rowL_other ne i)

theorem updO_same (fq : QBlk Ideal) (K V : Blk Ideal) (h : Fin 8) (o : OBlk Ideal) (i : Fin 512) (d : Fin 128) :
    updO fq (kmat K h) (kmat V h) h o (ix3 h i d)
      = (o (ix3 h i d) + ∑ j : Fin 1024, Ideal.exp (sc fq K h i j) * V (ix3 h j d) : EReal) := by
  have e := write_rect (Val := Elt Ideal) cc0_stg5_0 (row h) o
    (newO ((Memref.whole cc0_stg0_0).view.readAt (Elt Ideal) (row h).toLoadRect fq) (kmat K h) (kmat V h)
      ((Memref.whole cc0_stg5_0).view.readAt (Elt Ideal) (row h).toLoadRect o)) (ix3 z1 i d)
  rw [newO_apply] at e
  have ho := readAt_rect (Val := Elt Ideal) cc0_stg5_0 (row h) o (ix3 z1 i d)
  have hq := fun d => (readAt_rect (Val := Elt Ideal) cc0_stg0_0 (row h) fq (ix3 z1 i d)).trans (congrArg fq (row_emb h i d))
  rw [row_emb] at e ho
  unfold updO sc
  rw [e, ho]
  exact congrArg (o (ix3 h i d) + ·) (Finset.sum_congr rfl fun j _ => congrArg (Ideal.exp · * V (ix3 h j d))
    (Finset.sum_congr rfl fun d _ => congrArg (· * K (ix3 h j d)) (hq d)))

theorem updO_other (fq : QBlk Ideal) (K V : FVec Ideal S1024x128 .bf16) {h h' : Fin 8} (ne : h' ≠ h) (o : OBlk Ideal)
    (i : Fin 512) (d : Fin 128) : updO fq K V h o (ix3 h' i d) = o (ix3 h' i d) := by
  unfold updO
  exact write_rect_other (Val := Elt Ideal) cc0_stg5_0 (row h) o _ (row_other ne i d)

variable (fq : QBlk Ideal) (K V : Blk Ideal) (s : LBlk Ideal × OBlk Ideal)

theorem heads_L (h : Fin 8) (i : Fin 512) : ∀ n, n ≤ 8 → (heads fq K V s n).1 (ix3 h i z1)
    = if h.val < n then (s.1 (ix3 h i z1) + ∑ j : Fin 1024, Ideal.exp (sc fq K h i j) : EReal) else s.1 (ix3 h i z1)
  | 0, _ => by rw [if_neg (Nat.not_lt_zero _)]; rfl
  | n + 1, hn => by
    rw [heads, dif_pos (by omega : n < 8)]
    have ih := heads_L h i n (by omega)
    by_cases e : h = ⟨n, by omega⟩
    · rw [if_neg (by rw [e]; exact lt_irrefl n)] at ih
      rw [if_pos (by rw [e]; exact Nat.lt_succ_self n), ← e]
      dsimp only
      rw [updL_same, ih]
    · have ne : h.val ≠ n := fun he => e (Fin.ext he)
      have o := updL_other fq (kmat K ⟨n, by omega⟩) e (heads fq K V s n).1 i
      dsimp only
      rw [o, ih]
      by_cases hlt : h.val < n
      · rw [if_pos hlt, if_pos (by omega)]
      · rw [if_neg hlt, if_neg (by omega)]

theorem heads_O (h : Fin 8) (i : Fin 512) (d : Fin 128) : ∀ n, n ≤ 8 → (heads fq K V s n).2 (ix3 h i d)
    = if h.val < n then (s.2 (ix3 h i d) + ∑ j : Fin 1024, Ideal.exp (sc fq K h i j) * V (ix3 h j d) : EReal) else s.2 (ix3 h i d)
  | 0, _ => by rw [if_neg (Nat.not_lt_zero _)]; rfl
  | n + 1, hn => by
    rw [heads, dif_pos (by omega : n < 8)]
    have ih := heads_O h i d n (by omega)
    by_cases e : h = ⟨n, by omega⟩
    · rw [if_neg (by rw [e]; exact lt_irrefl n)] at ih
      rw [if_pos (by rw [e]; exact Nat.lt_succ_self n), ← e]
      dsimp only
      rw [updO_same, ih]
    · have ne : h.val ≠ n := fun he => e (Fin.ext he)
      have o := updO_other fq (kmat K ⟨n, by omega⟩) (kmat V ⟨n, by omega⟩) e (heads fq K V s n).2 i d
      dsimp only
      rw [o, ih]
      by_cases hlt : h.val < n
      · rw [if_pos hlt, if_pos (by omega)]
      · rw [if_neg hlt, if_neg (by omega)]

/-- What a half-update adds to a denominator, -/
theorem half_L (h : Fin 8) (i : Fin 512) :
    (half fq K V s).1 (ix3 h i z1) = (s.1 (ix3 h i z1) + ∑ j : Fin 1024, Ideal.exp (sc fq K h i j) : EReal) :=
  (heads_L fq K V s h i 8 le_rfl).trans (if_pos h.isLt)

/-- and to an output. -/
theorem half_O (h : Fin 8) (i : Fin 512) (d : Fin 128) :
    (half fq K V s).2 (ix3 h i d)
      = (s.2 (ix3 h i d) + ∑ j : Fin 1024, Ideal.exp (sc fq K h i j) * V (ix3 h j d) : EReal) :=
  (heads_O fq K V s h i d 8 le_rfl).trans (if_pos h.isLt)

end Cert.Proof

end
-- ==== Proof.Halves.lean ====
/-
  The six loops over the heads: each half-update of the running denominators and outputs, by the device's own halves at
  step 0, by the blocks in the slots afterwards.
-/
module

public import proofs.«01_k».proof.Proof.Head

@[expose] public section

set_option maxRecDepth 10000

noncomputable section

namespace Cert.Proof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (X : Fin 4 → Dev nD → Blk F) (c : Dev nD)

/-- A stream's source at step 0 is the device's own half, -/
theorem dataQ_zero (q : PosShare TreeShare) (b : Fin 4) :
    dataQ X q b c 0 = owns (c : Thread nD τ) (ownM b) q (X b (srcD b c 0)) := by
  unfold dataQ srcM; rw [if_pos rfl]
/-- and later the slot the step's number names. -/
theorem dataQ_pos (q : PosShare TreeShare) (b : Fin 4) {t : ℕ} (h : t ≠ 0) :
    dataQ X q b c t = owns (c : Thread nD τ) (slotM b (k3 t)) q (X b (srcD b c t)) := by
  unfold dataQ srcM; rw [if_neg h]

variable (fq : QBlk F) (s : LBlk F × OBlk F)

/-- Before and after a half-update by the streams `b` and `b'` at step `t`, at share `q`. -/
abbrev halfPre (q : PosShare TreeShare) (b b' : Fin 4) (t : ℕ) (s : LBlk F × OBlk F) : sProp 𝕄 :=
  iprop(atQ c fq ∗ dataQ X q b c t ∗ dataQ X q b' c t ∗ atL c s.1 ∗ atO c s.2)
abbrev halfOf (b b' : Fin 4) (t : ℕ) (s : LBlk F × OBlk F) : LBlk F × OBlk F :=
  half fq (X b (srcD b c t)) (X b' (srcD b' c t)) s

set_option backward.proofsInPublic true in
theorem k3_val (t : ℕ) : (k3 t).val = t % 3 := rfl

theorem half_t1 (d0 : Dev nD) (v13 v24 : BitVec 32) {α : Type} (kk : Unit → Prog (TpuEff nD τ sig (Elt F) Λ₀ .tc) α) (Q : α → sProp 𝕄) :
    halfPre X c fq fullShare.left 0 1 0 s ⊢ iprop((halfPre X c fq fullShare.left 0 1 0 (halfOf X c fq 0 1 0 s) -∗ run c (kk ⟨⟩) Q) -∗
      run c (Scf.Loop.for k0_t1_loop k0_t1_ok ⟨⟩ (k0_t1_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24) >>= kk) Q) := by
  unfold halfPre
  rw [dataQ_zero, dataQ_zero]
  refine half_loop c k0_t1_loop k0_t1_ok (by decide) _ fq _ _ s (fun i h hi l o => ?_) kk Q
  have key := head_step c (ownM 0) (ownM 1) _ (View.loadsAt_vmem h_S1x1024x128) (View.loadsAt_vmem h_S1x1024x128)
    shapeCasts_S1x1024x128_S1024x128 _ _
    (rowLoad_own c 0 fullShare.left (X 0 (srcD 0 c 0)) h (k0_off2 i) (by rw [k0_off2_eq, hi]) (k0_off2_inb i) (View.loadsAt_vmem h_S1x1024x128) shapeCasts_S1x1024x128_S1024x128)
    (rowLoad_own c 1 fullShare.left (X 1 (srcD 1 c 0)) h (k0_off2 i) (by rw [k0_off2_eq, hi]) (k0_off2_inb i) (View.loadsAt_vmem h_S1x1024x128) shapeCasts_S1x1024x128_S1024x128)
    (k0_pay12 (F := F)) (fun _ _ _ => rfl) (k0_pay13 (F := F)) (fun _ _ _ _ => rfl) h (k0_off1 i) (by rw [k0_off1_eq, hi]) (k0_off1_inb i)
    (k0_off3 i) (by rw [k0_off3_eq, hi]) (k0_off3_inb i) fq l o
    (fun _ => iprop(atQ c fq ∗ owns (c : Thread nD τ) (ownM 0) fullShare.left (X 0 (srcD 0 c 0)) ∗ owns (c : Thread nD τ) (ownM 1) fullShare.left (X 1 (srcD 1 c 0))
      ∗ atL c (updL fq (kmat (X 0 (srcD 0 c 0)) h) h l) ∗ atO c (updO fq (kmat (X 0 (srcD 0 c 0)) h) (kmat (X 1 (srcD 1 c 0)) h) h o)))
  iintro H
  iapply key $$ H
  iintro H; iexact H

theorem half_t2 (d0 : Dev nD) (v13 v24 : BitVec 32) {α : Type} (kk : Unit → Prog (TpuEff nD τ sig (Elt F) Λ₀ .tc) α) (Q : α → sProp 𝕄) :
    halfPre X c fq fullShare.left 2 3 0 s ⊢ iprop((halfPre X c fq fullShare.left 2 3 0 (halfOf X c fq 2 3 0 s) -∗ run c (kk ⟨⟩) Q) -∗
      run c (Scf.Loop.for k0_t2_loop k0_t2_ok ⟨⟩ (k0_t2_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24) >>= kk) Q) := by
  unfold halfPre
  rw [dataQ_zero, dataQ_zero]
  refine half_loop c k0_t2_loop k0_t2_ok (by decide) _ fq _ _ s (fun i h hi l o => ?_) kk Q
  have key := head_step c (ownM 2) (ownM 3) _ (View.loadsAt_vmem h_S1x1024x128) (View.loadsAt_vmem h_S1x1024x128)
    shapeCasts_S1x1024x128_S1024x128 _ _
    (rowLoad_own c 2 fullShare.left (X 2 (srcD 2 c 0)) h (k0_off5 i) (by rw [k0_off5_eq, hi]) (k0_off5_inb i) (View.loadsAt_vmem h_S1x1024x128) shapeCasts_S1x1024x128_S1024x128)
    (rowLoad_own c 3 fullShare.left (X 3 (srcD 3 c 0)) h (k0_off5 i) (by rw [k0_off5_eq, hi]) (k0_off5_inb i) (View.loadsAt_vmem h_S1x1024x128) shapeCasts_S1x1024x128_S1024x128)
    (k0_pay15 (F := F)) (fun _ _ _ => rfl) (k0_pay16 (F := F)) (fun _ _ _ _ => rfl) h (k0_off4 i) (by rw [k0_off4_eq, hi]) (k0_off4_inb i)
    (k0_off6 i) (by rw [k0_off6_eq, hi]) (k0_off6_inb i) fq l o
    (fun _ => iprop(atQ c fq ∗ owns (c : Thread nD τ) (ownM 2) fullShare.left (X 2 (srcD 2 c 0)) ∗ owns (c : Thread nD τ) (ownM 3) fullShare.left (X 3 (srcD 3 c 0))
      ∗ atL c (updL fq (kmat (X 2 (srcD 2 c 0)) h) h l) ∗ atO c (updO fq (kmat (X 2 (srcD 2 c 0)) h) (kmat (X 3 (srcD 3 c 0)) h) h o)))
  iintro H
  iapply key $$ H
  iintro H; iexact H

theorem half_t4 (d0 : Dev nD) (v13 v24 : BitVec 32) (t3 : Fin k0_t3_loop.trips) (v123 : BitVec 32) {α : Type} (kk : Unit → Prog (TpuEff nD τ sig (Elt F) Λ₀ .tc) α) (Q : α → sProp 𝕄) :
    halfPre X c fq fullShare.left 0 1 (t3.val + 1) s ⊢ iprop((halfPre X c fq fullShare.left 0 1 (t3.val + 1) (halfOf X c fq 0 1 (t3.val + 1) s) -∗ run c (kk ⟨⟩) Q) -∗
      run c (Scf.Loop.for k0_t4_loop k0_t4_ok ⟨⟩ (k0_t4_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24 t3 v123) >>= kk) Q) := by
  unfold halfPre
  rw [dataQ_pos X c _ _ (by omega), dataQ_pos X c _ _ (by omega)]
  refine half_loop c k0_t4_loop k0_t4_ok (by decide) _ fq _ _ s (fun i h hi l o => ?_) kk Q
  have key := head_step c (bufM 0) (bufM 1) _ (View.loadsAt_vmem h_S1x1x1024x128) (View.loadsAt_vmem h_S1x1x1024x128)
    shapeCasts_S1x1x1024x128_S1024x128 _ _
    (rowLoad_slot c 0 (k3 (t3.val + 1)) fullShare.left (X 0 (srcD 0 c (t3.val + 1))) h (k0_off12 t3 i) (by rw [k0_off12_eq, hi]; rfl) (k0_off12_inb t3 i) (View.loadsAt_vmem h_S1x1x1024x128) shapeCasts_S1x1x1024x128_S1024x128)
    (rowLoad_slot c 1 (k3 (t3.val + 1)) fullShare.left (X 1 (srcD 1 c (t3.val + 1))) h (k0_off12 t3 i) (by rw [k0_off12_eq, hi]; rfl) (k0_off12_inb t3 i) (View.loadsAt_vmem h_S1x1x1024x128) shapeCasts_S1x1x1024x128_S1024x128)
    (k0_pay3 (F := F)) (fun _ _ _ => rfl) (k0_pay4 (F := F)) (fun _ _ _ _ => rfl) h (k0_off11 i) (by rw [k0_off11_eq, hi]) (k0_off11_inb i)
    (k0_off13 i) (by rw [k0_off13_eq, hi]) (k0_off13_inb i) fq l o
    (fun _ => iprop(atQ c fq ∗ owns (c : Thread nD τ) (slotM 0 (k3 (t3.val + 1))) fullShare.left (X 0 (srcD 0 c (t3.val + 1))) ∗ owns (c : Thread nD τ) (slotM 1 (k3 (t3.val + 1))) fullShare.left (X 1 (srcD 1 c (t3.val + 1)))
      ∗ atL c (updL fq (kmat (X 0 (srcD 0 c (t3.val + 1))) h) h l) ∗ atO c (updO fq (kmat (X 0 (srcD 0 c (t3.val + 1))) h) (kmat (X 1 (srcD 1 c (t3.val + 1))) h) h o)))
  iintro H
  iapply key $$ H
  iintro H; iexact H

theorem half_t5 (d0 : Dev nD) (v13 v24 : BitVec 32) (t3 : Fin k0_t3_loop.trips) (v123 : BitVec 32) {α : Type} (kk : Unit → Prog (TpuEff nD τ sig (Elt F) Λ₀ .tc) α) (Q : α → sProp 𝕄) :
    halfPre X c fq fullShare.left 2 3 (t3.val + 1) s ⊢ iprop((halfPre X c fq fullShare.left 2 3 (t3.val + 1) (halfOf X c fq 2 3 (t3.val + 1) s) -∗ run c (kk ⟨⟩) Q) -∗
      run c (Scf.Loop.for k0_t5_loop k0_t5_ok ⟨⟩ (k0_t5_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24 t3 v123) >>= kk) Q) := by
  unfold halfPre
  rw [dataQ_pos X c _ _ (by omega), dataQ_pos X c _ _ (by omega)]
  refine half_loop c k0_t5_loop k0_t5_ok (by decide) _ fq _ _ s (fun i h hi l o => ?_) kk Q
  have key := head_step c (bufM 2) (bufM 3) _ (View.loadsAt_vmem h_S1x1x1024x128) (View.loadsAt_vmem h_S1x1x1024x128)
    shapeCasts_S1x1x1024x128_S1024x128 _ _
    (rowLoad_slot c 2 (k3 (t3.val + 1)) fullShare.left (X 2 (srcD 2 c (t3.val + 1))) h (k0_off15 t3 i) (by rw [k0_off15_eq, hi]; rfl) (k0_off15_inb t3 i) (View.loadsAt_vmem h_S1x1x1024x128) shapeCasts_S1x1x1024x128_S1024x128)
    (rowLoad_slot c 3 (k3 (t3.val + 1)) fullShare.left (X 3 (srcD 3 c (t3.val + 1))) h (k0_off15 t3 i) (by rw [k0_off15_eq, hi]; rfl) (k0_off15_inb t3 i) (View.loadsAt_vmem h_S1x1x1024x128) shapeCasts_S1x1x1024x128_S1024x128)
    (k0_pay6 (F := F)) (fun _ _ _ => rfl) (k0_pay7 (F := F)) (fun _ _ _ _ => rfl) h (k0_off14 i) (by rw [k0_off14_eq, hi]) (k0_off14_inb i)
    (k0_off16 i) (by rw [k0_off16_eq, hi]) (k0_off16_inb i) fq l o
    (fun _ => iprop(atQ c fq ∗ owns (c : Thread nD τ) (slotM 2 (k3 (t3.val + 1))) fullShare.left (X 2 (srcD 2 c (t3.val + 1))) ∗ owns (c : Thread nD τ) (slotM 3 (k3 (t3.val + 1))) fullShare.left (X 3 (srcD 3 c (t3.val + 1)))
      ∗ atL c (updL fq (kmat (X 2 (srcD 2 c (t3.val + 1))) h) h l) ∗ atO c (updO fq (kmat (X 2 (srcD 2 c (t3.val + 1))) h) (kmat (X 3 (srcD 3 c (t3.val + 1))) h) h o)))
  iintro H
  iapply key $$ H
  iintro H; iexact H

theorem half_t6 (d0 : Dev nD) (v13 v24 : BitVec 32) {α : Type} (kk : Unit → Prog (TpuEff nD τ sig (Elt F) Λ₀ .tc) α) (Q : α → sProp 𝕄) :
    halfPre X c fq fullShare 0 1 15 s ⊢ iprop((halfPre X c fq fullShare 0 1 15 (halfOf X c fq 0 1 15 s) -∗ run c (kk ⟨⟩) Q) -∗
      run c (Scf.Loop.for k0_t6_loop k0_t6_ok ⟨⟩ (k0_t6_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24) >>= kk) Q) := by
  unfold halfPre
  rw [dataQ_pos X c _ _ (by omega), dataQ_pos X c _ _ (by omega)]
  refine half_loop c k0_t6_loop k0_t6_ok (by decide) _ fq _ _ s (fun i h hi l o => ?_) kk Q
  have key := head_step c (bufM 0) (bufM 1) _ (View.loadsAt_vmem h_S1x1x1024x128) (View.loadsAt_vmem h_S1x1x1024x128)
    shapeCasts_S1x1x1024x128_S1024x128 _ _
    (rowLoad_slot c 0 (k3 15) fullShare (X 0 (srcD 0 c 15)) h (k0_off18 i) (by rw [k0_off18_eq, hi]; rfl) (k0_off18_inb i) (View.loadsAt_vmem h_S1x1x1024x128) shapeCasts_S1x1x1024x128_S1024x128)
    (rowLoad_slot c 1 (k3 15) fullShare (X 1 (srcD 1 c 15)) h (k0_off18 i) (by rw [k0_off18_eq, hi]; rfl) (k0_off18_inb i) (View.loadsAt_vmem h_S1x1x1024x128) shapeCasts_S1x1x1024x128_S1024x128)
    (k0_pay18 (F := F)) (fun _ _ _ => rfl) (k0_pay19 (F := F)) (fun _ _ _ _ => rfl) h (k0_off17 i) (by rw [k0_off17_eq, hi]) (k0_off17_inb i)
    (k0_off19 i) (by rw [k0_off19_eq, hi]) (k0_off19_inb i) fq l o
    (fun _ => iprop(atQ c fq ∗ owns (c : Thread nD τ) (slotM 0 (k3 15)) fullShare (X 0 (srcD 0 c 15)) ∗ owns (c : Thread nD τ) (slotM 1 (k3 15)) fullShare (X 1 (srcD 1 c 15))
      ∗ atL c (updL fq (kmat (X 0 (srcD 0 c 15)) h) h l) ∗ atO c (updO fq (kmat (X 0 (srcD 0 c 15)) h) (kmat (X 1 (srcD 1 c 15)) h) h o)))
  iintro H
  iapply key $$ H
  iintro H; iexact H

theorem half_t7 (d0 : Dev nD) (v13 v24 : BitVec 32) {α : Type} (kk : Unit → Prog (TpuEff nD τ sig (Elt F) Λ₀ .tc) α) (Q : α → sProp 𝕄) :
    halfPre X c fq fullShare 2 3 15 s ⊢ iprop((halfPre X c fq fullShare 2 3 15 (halfOf X c fq 2 3 15 s) -∗ run c (kk ⟨⟩) Q) -∗
      run c (Scf.Loop.for k0_t7_loop k0_t7_ok ⟨⟩ (k0_t7_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 d0 v13 v24) >>= kk) Q) := by
  unfold halfPre
  rw [dataQ_pos X c _ _ (by omega), dataQ_pos X c _ _ (by omega)]
  refine half_loop c k0_t7_loop k0_t7_ok (by decide) _ fq _ _ s (fun i h hi l o => ?_) kk Q
  have key := head_step c (bufM 2) (bufM 3) _ (View.loadsAt_vmem h_S1x1x1024x128) (View.loadsAt_vmem h_S1x1x1024x128)
    shapeCasts_S1x1x1024x128_S1024x128 _ _
    (rowLoad_slot c 2 (k3 15) fullShare (X 2 (srcD 2 c 15)) h (k0_off21 i) (by rw [k0_off21_eq, hi]; rfl) (k0_off21_inb i) (View.loadsAt_vmem h_S1x1x1024x128) shapeCasts_S1x1x1024x128_S1024x128)
    (rowLoad_slot c 3 (k3 15) fullShare (X 3 (srcD 3 c 15)) h (k0_off21 i) (by rw [k0_off21_eq, hi]; rfl) (k0_off21_inb i) (View.loadsAt_vmem h_S1x1x1024x128) shapeCasts_S1x1x1024x128_S1024x128)
    (k0_pay21 (F := F)) (fun _ _ _ => rfl) (k0_pay22 (F := F)) (fun _ _ _ _ => rfl) h (k0_off20 i) (by rw [k0_off20_eq, hi]) (k0_off20_inb i)
    (k0_off22 i) (by rw [k0_off22_eq, hi]) (k0_off22_inb i) fq l o
    (fun _ => iprop(atQ c fq ∗ owns (c : Thread nD τ) (slotM 2 (k3 15)) fullShare (X 2 (srcD 2 c 15)) ∗ owns (c : Thread nD τ) (slotM 3 (k3 15)) fullShare (X 3 (srcD 3 c 15))
      ∗ atL c (updL fq (kmat (X 2 (srcD 2 c 15)) h) h l) ∗ atO c (updO fq (kmat (X 2 (srcD 2 c 15)) h) (kmat (X 3 (srcD 3 c 15)) h) h o)))
  iintro H
  iapply key $$ H
  iintro H; iexact H

end Cert.Proof

end
-- ==== Proof.Names.lean ====
/-
  The program's devices, slots and semaphores named: what each computed index is in the ring.
-/
module

public import proofs.«01_k».proof.Proof.Halves

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Devices -/

theorem dev1_eq : ∀ c : Dev nD, (⟨k0_dev1 c, k0_dev1_lt c⟩ : Dev nD) = prevD 0 c := by decide +kernel
theorem dev2_eq : ∀ c : Dev nD, (⟨k0_dev2 c, k0_dev2_lt c⟩ : Dev nD) = prevD 1 c := by decide +kernel
theorem dev3_eq : ∀ c : Dev nD, (⟨k0_dev3 c, k0_dev3_lt c⟩ : Dev nD) = peer 0 c := by decide +kernel
theorem dev4_eq : ∀ c : Dev nD, (⟨k0_dev4 c, k0_dev4_lt c⟩ : Dev nD) = peer 1 c := by decide +kernel
theorem dev5_eq : ∀ c : Dev nD, (⟨k0_dev5 c, k0_dev5_lt c⟩ : Dev nD) = peer 2 c := by decide +kernel
theorem dev6_eq : ∀ c : Dev nD, (⟨k0_dev6 c, k0_dev6_lt c⟩ : Dev nD) = peer 3 c := by decide +kernel
theorem dev7_eq : ∀ c : Dev nD, (⟨k0_dev7 c, k0_dev7_lt c⟩ : Dev nD) = prevD 0 c := by decide +kernel
theorem dev8_eq : ∀ c : Dev nD, (⟨k0_dev8 c, k0_dev8_lt c⟩ : Dev nD) = prevD 1 c := by decide +kernel
theorem dev9_eq : ∀ c : Dev nD, (⟨k0_dev9 c, k0_dev9_lt c⟩ : Dev nD) = peer 0 c := by decide +kernel
theorem dev10_eq : ∀ c : Dev nD, (⟨k0_dev10 c, k0_dev10_lt c⟩ : Dev nD) = peer 1 c := by decide +kernel
theorem dev11_eq : ∀ c : Dev nD, (⟨k0_dev11 c, k0_dev11_lt c⟩ : Dev nD) = peer 2 c := by decide +kernel
theorem dev12_eq : ∀ c : Dev nD, (⟨k0_dev12 c, k0_dev12_lt c⟩ : Dev nD) = peer 3 c := by decide +kernel
theorem dev13_val : ∀ c : Dev nD, k0_dev13 c = (prevD 0 c).val := by decide +kernel
theorem dev13_eq (c : Dev nD) (h : k0_dev13 c < nD) : (⟨k0_dev13 c, h⟩ : Dev nD) = prevD 0 c := Fin.ext (dev13_val c)
theorem dev14_val : ∀ c : Dev nD, k0_dev14 c = (prevD 1 c).val := by decide +kernel
theorem dev14_eq (c : Dev nD) (h : k0_dev14 c < nD) : (⟨k0_dev14 c, h⟩ : Dev nD) = prevD 1 c := Fin.ext (dev14_val c)

/-! ## Slots -/

theorem off9_eq : ∀ t3 : Fin k0_t3_loop.trips, k0_off9 t3 = ![(k3 (t3.val + 1 + 1)).val, 0, 0, 0] := by decide +kernel
theorem off10_eq : ∀ t3 : Fin k0_t3_loop.trips, k0_off10 t3 = ![(k3 (t3.val + 1)).val, 0, 0, 0] := by decide +kernel

/-- The slot at offsets that name it. -/
theorem slot_eq (b : Fin 4) (k : Fin 3) {off : Fin 4 → ℕ} (h : off = ![k.val, 0, 0, 0]) (inb) :
    ((bufM b).slice (Rect.unit (s := S3x8x1024x128) off S1x8x1024x128.size inb) (fun _ => rfl)).squeeze S8x1024x128
      squeezes_S1x8x1024x128_S8x1024x128 = slotM b k := by
  subst h; rfl

theorem src_slot (b : Fin 4) {t : ℕ} (h : t ≠ 0) : srcM b t = slotM b (k3 t) := by unfold srcM; rw [if_neg h]
theorem src_own (b : Fin 4) : srcM b 0 = ownM b := by unfold srcM; rw [if_pos rfl]

/-! ## Semaphores -/

theorem send0_0 : ((cc0_scratch5.slice (Rect.unit (s := S3) ![0] S1.size inb_S3_S1_0)).squeeze S_ squeezes_S1_S_).sem = sendS 0 (k3 0) := by decide +kernel
theorem recv0_0 : ((cc0_scratch6.slice (Rect.unit (s := S3) ![1] S1.size inb_S3_S1_1)).squeeze S_ squeezes_S1_S_).sem = recvS 0 (k3 (0 + 1)) := by decide +kernel
theorem send_0 : ∀ t3 : Fin k0_t3_loop.trips, ((cc0_scratch5.slice (Rect.unit (s := S3) (k0_off7 t3) S1.size (k0_off7_inb t3))).squeeze S_ squeezes_S1_S_).sem = sendS 0 (k3 (t3.val + 1)) := by decide +kernel
theorem recv_0 : ∀ t3 : Fin k0_t3_loop.trips, ((cc0_scratch6.slice (Rect.unit (s := S3) (k0_off8 t3) S1.size (k0_off8_inb t3))).squeeze S_ squeezes_S1_S_).sem = recvS 0 (k3 (t3.val + 1 + 1)) := by decide +kernel
theorem send0_1 : ((cc0_scratch7.slice (Rect.unit (s := S3) ![0] S1.size inb_S3_S1_0)).squeeze S_ squeezes_S1_S_).sem = sendS 1 (k3 0) := by decide +kernel
theorem recv0_1 : ((cc0_scratch8.slice (Rect.unit (s := S3) ![1] S1.size inb_S3_S1_1)).squeeze S_ squeezes_S1_S_).sem = recvS 1 (k3 (0 + 1)) := by decide +kernel
theorem send_1 : ∀ t3 : Fin k0_t3_loop.trips, ((cc0_scratch7.slice (Rect.unit (s := S3) (k0_off7 t3) S1.size (k0_off7_inb t3))).squeeze S_ squeezes_S1_S_).sem = sendS 1 (k3 (t3.val + 1)) := by decide +kernel
theorem recv_1 : ∀ t3 : Fin k0_t3_loop.trips, ((cc0_scratch8.slice (Rect.unit (s := S3) (k0_off8 t3) S1.size (k0_off8_inb t3))).squeeze S_ squeezes_S1_S_).sem = recvS 1 (k3 (t3.val + 1 + 1)) := by decide +kernel
theorem send0_2 : ((cc0_scratch9.slice (Rect.unit (s := S3) ![0] S1.size inb_S3_S1_0)).squeeze S_ squeezes_S1_S_).sem = sendS 2 (k3 0) := by decide +kernel
theorem recv0_2 : ((cc0_scratch10.slice (Rect.unit (s := S3) ![1] S1.size inb_S3_S1_1)).squeeze S_ squeezes_S1_S_).sem = recvS 2 (k3 (0 + 1)) := by decide +kernel
theorem send_2 : ∀ t3 : Fin k0_t3_loop.trips, ((cc0_scratch9.slice (Rect.unit (s := S3) (k0_off7 t3) S1.size (k0_off7_inb t3))).squeeze S_ squeezes_S1_S_).sem = sendS 2 (k3 (t3.val + 1)) := by decide +kernel
theorem recv_2 : ∀ t3 : Fin k0_t3_loop.trips, ((cc0_scratch10.slice (Rect.unit (s := S3) (k0_off8 t3) S1.size (k0_off8_inb t3))).squeeze S_ squeezes_S1_S_).sem = recvS 2 (k3 (t3.val + 1 + 1)) := by decide +kernel
theorem send0_3 : ((cc0_scratch11.slice (Rect.unit (s := S3) ![0] S1.size inb_S3_S1_0)).squeeze S_ squeezes_S1_S_).sem = sendS 3 (k3 0) := by decide +kernel
theorem recv0_3 : ((cc0_scratch12.slice (Rect.unit (s := S3) ![1] S1.size inb_S3_S1_1)).squeeze S_ squeezes_S1_S_).sem = recvS 3 (k3 (0 + 1)) := by decide +kernel
theorem send_3 : ∀ t3 : Fin k0_t3_loop.trips, ((cc0_scratch11.slice (Rect.unit (s := S3) (k0_off7 t3) S1.size (k0_off7_inb t3))).squeeze S_ squeezes_S1_S_).sem = sendS 3 (k3 (t3.val + 1)) := by decide +kernel
theorem recv_3 : ∀ t3 : Fin k0_t3_loop.trips, ((cc0_scratch12.slice (Rect.unit (s := S3) (k0_off8 t3) S1.size (k0_off8_inb t3))).squeeze S_ squeezes_S1_S_).sem = recvS 3 (k3 (t3.val + 1 + 1)) := by decide +kernel
theorem credit0_eq : cc0_scratch13.sem = creditS 0 := by decide +kernel
theorem credit1_eq : cc0_scratch14.sem = creditS 1 := by decide +kernel
theorem bar_eq : (SemArray.scalar (sig.barrier 0 rfl) : Sems sig S_).sem = barS := by decide +kernel

/-! ## The two conditions of the loop over the steps -/

theorem cond1_iff : ∀ t3 : Fin k0_t3_loop.trips,
    (Scalar.cmpi .ne (Scalar.extui (Scalar.cmpi .sge (Scf.iv 1#32 1#32 t3) 2#32) : BitVec 32) 0#32 = 1#1) ↔ 2 ≤ t3.val + 1 := by decide +kernel
theorem cond2_iff : ∀ t3 : Fin k0_t3_loop.trips, (k0_cond2 t3 = 1#1) ↔ t3.val + 1 < nCred := by decide +kernel
theorem trips3 : k0_t3_loop.trips = 14 := by decide +kernel

/-! ## Applying a rule to named hypotheses -/

local notation "𝕄" => MT nD τ sig ℕ (Elt F) ℕ UU ℕ

theorem curry3 {A B C R : sProp 𝕄} (h : iprop(A ∗ B ∗ C) ⊢ R) : A ⊢ iprop(B -∗ C -∗ R) := by
  iintro HA HB HC; iapply h
  isplitl [HA]; · iexact HA
  isplitl [HB]; · iexact HB
  iexact HC
theorem curry4 {A B C D R : sProp 𝕄} (h : iprop(A ∗ B ∗ C ∗ D) ⊢ R) : A ⊢ iprop(B -∗ C -∗ D -∗ R) := by
  iintro HA HB HC HD; iapply h
  isplitl [HA]; · iexact HA
  isplitl [HB]; · iexact HB
  isplitl [HC]; · iexact HC
  iexact HD
theorem curry5 {A B C D E R : sProp 𝕄} (h : iprop(A ∗ B ∗ C ∗ D ∗ E) ⊢ R) : A ⊢ iprop(B -∗ C -∗ D -∗ E -∗ R) := by
  iintro HA HB HC HD HE; iapply h
  isplitl [HA]; · iexact HA
  isplitl [HB]; · iexact HB
  isplitl [HC]; · iexact HC
  isplitl [HD]; · iexact HD
  iexact HE
theorem curry6 {A B C D E G R : sProp 𝕄} (h : iprop(A ∗ B ∗ C ∗ D ∗ E ∗ G) ⊢ R) : A ⊢ iprop(B -∗ C -∗ D -∗ E -∗ G -∗ R) := by
  iintro HA HB HC HD HE HG; iapply h
  isplitl [HA]; · iexact HA
  isplitl [HB]; · iexact HB
  isplitl [HC]; · iexact HC
  isplitl [HD]; · iexact HD
  isplitl [HE]; · iexact HE
  iexact HG

end Cert.Proof

end
-- ==== Proof.Step0.lean ====
/-
  The parts of the body before the loop over the steps: the handshake, and step 0.
-/
module

public import proofs.«01_k».proof.Proof.Names

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Fin 4 → Dev nD → Blk F) (κ : GSem nD τ sig → ℕ) (ιs : Key → ℕ) (c : Dev nD) (fq : QBlk F)

/-- The running sums before the first block. -/
def st0 : LBlk F × OBlk F := (k0_pay9 (F := F) (k0_pay8 (F := F)), k0_pay10 (F := F))

/-- The running sums when step `t` starts. -/
def st : ℕ → LBlk F × OBlk F
  | 0 => st0
  | t + 1 => halfOf X c fq 2 3 t (halfOf X c fq 0 1 t (st t))

/-- A finished program meets its post. -/
theorem run_ret {α : Type} {a : α} {Q : α → sProp 𝕄} : Q a ⊢ run c (.ret a) Q := by
  iintro H; rw [run, wp_ret]; imodintro; iexact H

/-- A buffer stored whole. -/
theorem writeL (l w : LBlk F) : View.write (Elt F) ((Memref.whole cc0_scratch4).access (Rect.unit (s := S8x512x1) ![0, 0, 0] S8x512x1.size inb_S8x512x1_S8x512x1_0_0_0)) l w Finset.univ = w :=
  Memref.write_access_unit_zero_univ (Elt F) cc0_scratch4 (by decide) _ l w
theorem writeO (o w : OBlk F) : View.write (Elt F) ((Memref.whole cc0_stg5_0).access (Rect.unit (s := S8x512x128) ![0, 0, 0] S8x512x128.size inb_S8x512x128_S8x512x128_0_0_0)) o w Finset.univ = w :=
  Memref.write_access_unit_zero_univ (Elt F) cc0_stg5_0 (by decide) _ o w

/-- The rules of the two waits, applied to named hypotheses. -/
theorem recvC {α : Type} {k : PUnit → Prog (TpuEff nD τ sig (Elt F) Λ₀ .tc) α} {Q : α → sProp 𝕄} (b : Fin 4) (t : ℕ) (ht : t < nStep) {O : CellTallies nD τ sig ℕ} (hO : Above (2 * t + 2) O)
    {s : DmaSem sig} (hs : s = recvS b (k3 (t + 1)))
    {sp sp' : Space} {sh sh' : Shape} {e e' : EltTy} {src : Memref sig .tc sp' sh' e'} {dst : Memref sig .tc sp sh e}
    (hsrc : src.view.WordExact) (hdst : dst.view.WordExact) (hN : dst.view.dmaCredit = N) :
    ctx X κ ιs ⊢ iprop(Sent b c t -∗ owe c O -∗ ((Got b c t ∗ dataQ X fullShare b c (t + 1) ∗ owe c O) -∗ run c (k ⟨⟩) Q)
          -∗ run c (.op (.waitDma2 s src dst hsrc hdst) k) Q) :=
  curry3 (recv_step X κ ιs c b t ht hO hs hN)
theorem sendwC {α : Type} {k : PUnit → Prog (TpuEff nD τ sig (Elt F) Λ₀ .tc) α} {Q : α → sProp 𝕄} (b : Fin 4) (t : ℕ) (ht : t < nStep) {O : CellTallies nD τ sig ℕ} (hO : Above 0 O)
    {s : DmaSem sig} (hs : s = sendS b (k3 t))
    {sp sp' : Space} {sh sh' : Shape} {e e' : EltTy} {src : Memref sig .tc sp' sh' e'} {dst : Memref sig .tc sp sh e}
    (hsrc : src.view.WordExact) (hdst : dst.view.WordExact) (hN : dst.view.dmaCredit = N) :
    ctx X κ ιs ⊢ iprop(Got b c t -∗ dataQ X fullShare.left b c t -∗ owe c O -∗ ((Done b c t ∗ dataQ X fullShare b c t ∗ owe c O) -∗ run c (k ⟨⟩) Q)
          -∗ run c (.op (.waitDma2 s src dst hsrc hdst) k) Q) :=
  curry4 (sendw_step X κ ιs c b t ht hO hs hN)

theorem creditC {α : Type} {k : PUnit → Prog (TpuEff nD τ sig (Elt F) Λ₀ .tc) α} {Q : α → sProp 𝕄} (d : Fin 2) {b b' : Fin 4} (hb : kb d = b) (hb' : vb d = b')
    (t : ℕ) (ht : t < nCred) (O : CellTallies nD τ sig ℕ) {dev : Dev nD} (hdev : dev = prevD d c) {s : Sem sig} (hs : s = creditS d) :
    ctx X κ ιs ⊢ iprop(Cr' d c t -∗ fact1 b (prev b c) (t + 2) -∗ fact1 b' (prev b' c) (t + 2) -∗ owe c (O + credTally d c t)
      -∗ ((Cr d c (t + 1) ∗ owe c O) -∗ run c (k ⟨⟩) Q)
          -∗ run c (.op (.semSignal (dev : Thread nD τ) s (1#32 : BitVec 32).toInt) k) Q) := by
  subst hb; subst hb'
  rw [prev_kb, prev_vb]
  exact curry5 (credit_signal X κ ιs c d t ht O hdev hs)

/-- The two signals to the neighbours, and the wait for theirs. -/
theorem part5 {Q : (Σ' (_ : Dev nD) (_ : BitVec 32) (_ : BitVec 32), FVec F S8x512x1 .f32) → sProp 𝕄} :
    iprop(ctx X κ ιs
        ∗ (dutyTok ER (barCell (prevD 0 c)) 0 (0 : Fin 2).val ∗ reached ER (barCell (prevD 0 c)) 0 ∗ facts 0 (prevD 0 c) 2 ∗ reached ER (creditCell c (opp 0)) 0)
        ∗ (dutyTok ER (barCell (prevD 1 c)) 0 (1 : Fin 2).val ∗ reached ER (barCell (prevD 1 c)) 0 ∗ facts 1 (prevD 1 c) 2 ∗ reached ER (creditCell c (opp 1)) 0)
        ∗ (atPos ER (barCell c) 0 ∅ 0 ∗ cred (tallyAt (barCell c) 0 2)) ∗ owe c (O₀ c))
      ⊢ iprop((∀ v13 v24, (atPos ER (barCell c) 1 ∅ 0 ∗ barPay c 0 ∗ barPay c 1 ∗ owe c (OA c 0)) -∗ Q ⟨c, v13, v24, k0_pay8 (F := F)⟩)
          -∗ run c (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  rw [k0_part5_eq_skeleton]; unfold k0_part5_skel
  simp only [semSignalWord, semWaitWord, Prog.lift, Prog.bind_op, Prog.bind_ret, Prog.pure_eq_ret, wp_deviceId]
  iintro ⟨#Hc, ⟨T0, #R0, #F0, #C0⟩, ⟨T1, #R1, #F1, #C1⟩, ⟨HA, HC⟩, HW⟩ Hk
  unfold O₀
  iapply (curry6 (bar_signal X κ ιs c 0 _ (dev1_eq c) bar_eq)) $$ Hc T0 R0 F0 C0 HW
  iintro HW
  iapply (curry6 (bar_signal X κ ιs c 1 _ (dev2_eq c) bar_eq)) $$ Hc T1 R1 F1 C1 HW
  iintro HW
  iapply (curry4 (bar_wait X κ ιs c (above_OA c (by omega)) bar_eq)) $$ Hc HA HC HW
  iintro H
  iapply (run_ret c)
  iapply Hk
  iexact H

/-- The running sums cleared, and the first two copies of step 0. -/
theorem part6 (l : LBlk F) (o : OBlk F) (v13 v24 : BitVec 32) (O : CellTallies nD τ sig ℕ) {Q : PUnit → sProp 𝕄} :
    iprop(ctx X κ ιs ∗ (Ring 0 c 0 ∗ dataQ X fullShare 0 c 0 ∗ fact1 0 c 0) ∗ (Ring 1 c 0 ∗ dataQ X fullShare 1 c 0 ∗ fact1 1 c 0)
        ∗ atL c l ∗ atO c o ∗ owe c ((O + recvTally 1 c 0) + recvTally 0 c 0))
      ⊢ iprop((((Sent 0 c 0 ∗ dataQ X fullShare.left 0 c 0) ∗ (Sent 1 c 0 ∗ dataQ X fullShare.left 1 c 0)
            ∗ atL c (st0 (F := F)).1 ∗ atO c (st0 (F := F)).2 ∗ owe c O) -∗ Q ⟨⟩)
          -∗ run c (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24 (k0_pay8 (F := F))) Q) := by
  rw [k0_part6_eq_skeleton]; unfold k0_part6_skel
  simp only [semSignalWord, semWaitWord, Prog.lift, Prog.bind_op, Prog.bind_ret, Prog.pure_eq_ret]
  iintro ⟨#Hc, ⟨R0, D0, #F0⟩, ⟨R1, D1, #F1⟩, HL, HO, HW⟩ Hk
  unfold atL atO
  iapply (wp_load 𝒱₀ (c : Thread nD τ) none Set.univ (Finset.subset_univ _)) $$ HL
  iintro HL
  iapply (wp_store 𝒱₀ (c : Thread nD τ) none Set.univ (m := Memref.whole cc0_scratch4) (r := Rect.unit (s := S8x512x1) ![0, 0, 0] S8x512x1.size inb_S8x512x1_S8x512x1_0_0_0) (Mk := Finset.univ) (Finset.subset_univ _)) $$ HL
  iintro HL
  iapply (wp_load 𝒱₀ (c : Thread nD τ) none Set.univ (Finset.subset_univ _)) $$ HO
  iintro HO
  iapply (wp_store 𝒱₀ (c : Thread nD τ) none Set.univ (m := Memref.whole cc0_stg5_0) (r := Rect.unit (s := S8x512x128) ![0, 0, 0] S8x512x128.size inb_S8x512x128_S8x512x128_0_0_0) (Mk := Finset.univ) (Finset.subset_univ _)) $$ HO
  iintro HO
  rw [writeL, writeO]
  iapply (curry5 (send_step X κ ιs c 0 0 (by decide) _ (src_own 0).symm (slot_eq 0 (k3 (0 + 1)) rfl _) (dev3_eq c) send0_0 recv0_0)) $$ Hc R0 D0 F0 HW
  iintro ⟨R0, D0, HW⟩
  iapply (curry5 (send_step X κ ιs c 1 0 (by decide) _ (src_own 1).symm (slot_eq 1 (k3 (0 + 1)) rfl _) (dev4_eq c) send0_1 recv0_1)) $$ Hc R1 D1 F1 HW
  iintro ⟨R1, D1, HW⟩
  iapply (run_ret c)
  iapply Hk
  isplitl [R0 D0]
  · isplitl [R0]; · iexact R0
    iexact D0
  isplitl [R1 D1]
  · isplitl [R1]; · iexact R1
    iexact D1
  isplitl [HL]; · iexact HL
  isplitl [HO]; · iexact HO
  iexact HW

/-- The other two copies, the blocks taken in from the own halves, and the wait for the first block. -/
theorem part7 (v13 v24 : BitVec 32) {Q : PUnit → sProp 𝕄} :
    iprop(ctx X κ ιs ∗ (Ring 2 c 0 ∗ dataQ X fullShare 2 c 0 ∗ fact1 2 c 0) ∗ (Ring 3 c 0 ∗ dataQ X fullShare 3 c 0 ∗ fact1 3 c 0)
        ∗ (Sent 0 c 0 ∗ dataQ X fullShare.left 0 c 0) ∗ dataQ X fullShare.left 1 c 0
        ∗ atQ c fq ∗ atL c (st X c fq 0).1 ∗ atO c (st X c fq 0).2 ∗ owe c (((OA c 1 + credOwed c 0) + recvTally 3 c 0) + recvTally 2 c 0))
      ⊢ iprop((((Sent 2 c 0 ∗ dataQ X fullShare.left 2 c 0) ∗ (Sent 3 c 0 ∗ dataQ X fullShare.left 3 c 0)
            ∗ (Got 0 c 0 ∗ dataQ X fullShare.left 0 c 0 ∗ dataQ X fullShare 0 c 1) ∗ dataQ X fullShare.left 1 c 0
            ∗ atQ c fq ∗ atL c (st X c fq 1).1 ∗ atO c (st X c fq 1).2 ∗ owe c (OA c 1 + credOwed c 0)) -∗ Q ⟨⟩)
          -∗ run c (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24) Q) := by
  rw [k0_part7_eq_skeleton]; unfold k0_part7_skel
  simp only [semSignalWord, semWaitWord, Prog.lift, Prog.bind_op, Prog.bind_ret, Prog.pure_eq_ret]
  iintro ⟨#Hc, ⟨R2, D2, #F2⟩, ⟨R3, D3, #F3⟩, ⟨R0, D0⟩, D1, HQ, HL, HO, HW⟩ Hk
  iapply (curry5 (send_step X κ ιs c 2 0 (by decide) _ (src_own 2).symm (slot_eq 2 (k3 (0 + 1)) rfl _) (dev5_eq c) send0_2 recv0_2)) $$ Hc R2 D2 F2 HW
  iintro ⟨R2, D2, HW⟩
  iapply (curry5 (send_step X κ ιs c 3 0 (by decide) _ (src_own 3).symm (slot_eq 3 (k3 (0 + 1)) rfl _) (dev6_eq c) send0_3 recv0_3)) $$ Hc R3 D3 F3 HW
  iintro ⟨R3, D3, HW⟩
  iapply (curry5 (half_t1 X c fq (st X c fq 0) c v13 v24 _ Q)) $$ HQ D0 D1 HL HO
  iintro ⟨HQ, D0, D1, HL, HO⟩
  iapply (curry5 (half_t2 X c fq _ c v13 v24 _ Q)) $$ HQ D2 D3 HL HO
  iintro ⟨HQ, D2, D3, HL, HO⟩
  iapply (recvC X κ ιs c 0 0 (by decide) ((above_OA (t := 1) c (by omega)).add (above_credOwed (s := 0) c (by omega))) recv0_0 (Memref.isWhole_whole cc0_stg1_0).wordExact (((Memref.isWhole_whole cc0_scratch0).wordExact_slice rfl _ wordsbf16_S3x8x1024x128_S1x8x1024x128_1_0_0_0).reshape _ _) (N_slot 0 (k3 1))) $$ Hc R0 HW
  iintro ⟨R0, E0, HW⟩
  iapply (run_ret c)
  iapply Hk
  isplitl [R2 D2]
  · isplitl [R2]; · iexact R2
    iexact D2
  isplitl [R3 D3]
  · isplitl [R3]; · iexact R3
    iexact D3
  isplitl [R0 D0 E0]
  · isplitl [R0]; · iexact R0
    isplitl [D0]; · iexact D0
    iexact E0
  isplitl [D1]; · iexact D1
  isplitl [HQ]; · iexact HQ
  isplitl [HL]; · iexact HL
  isplitl [HO]; · iexact HO
  iexact HW

/-- The waits for the other blocks, and for the first two own ones to be out. -/
theorem part8 (v13 : BitVec 32) {Q : PUnit → sProp 𝕄} :
    iprop(ctx X κ ιs ∗ (Got 0 c 0 ∗ dataQ X fullShare.left 0 c 0) ∗ (Sent 1 c 0 ∗ dataQ X fullShare.left 1 c 0) ∗ Sent 2 c 0 ∗ Sent 3 c 0
        ∗ owe c (OA c 1 + credOwed c 0))
      ⊢ iprop((((Done 0 c 0 ∗ dataQ X fullShare 0 c 0) ∗ (Done 1 c 0 ∗ dataQ X fullShare 1 c 0 ∗ dataQ X fullShare 1 c 1)
            ∗ (Got 2 c 0 ∗ dataQ X fullShare 2 c 1) ∗ (Got 3 c 0 ∗ dataQ X fullShare 3 c 1) ∗ owe c (OA c 1 + credOwed c 0)) -∗ Q ⟨⟩)
          -∗ run c (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v13) Q) := by
  rw [k0_part8_eq_skeleton]; unfold k0_part8_skel
  simp only [semSignalWord, semWaitWord, Prog.lift, Prog.bind_op, Prog.bind_ret, Prog.pure_eq_ret]
  iintro ⟨#Hc, ⟨R0, D0⟩, ⟨R1, D1⟩, R2, R3, HW⟩ Hk
  iapply (recvC X κ ιs c 1 0 (by decide) ((above_OA (t := 1) c (by omega)).add (above_credOwed (s := 0) c (by omega))) recv0_1 (Memref.isWhole_whole cc0_stg3_0).wordExact (((Memref.isWhole_whole cc0_scratch1).wordExact_slice rfl _ wordsbf16_S3x8x1024x128_S1x8x1024x128_1_0_0_0).reshape _ _) (N_slot 1 (k3 1))) $$ Hc R1 HW
  iintro ⟨R1, E1, HW⟩
  iapply (recvC X κ ιs c 2 0 (by decide) ((above_OA (t := 1) c (by omega)).add (above_credOwed (s := 0) c (by omega))) recv0_2 (Memref.isWhole_whole cc0_stg2_0).wordExact (((Memref.isWhole_whole cc0_scratch2).wordExact_slice rfl _ wordsbf16_S3x8x1024x128_S1x8x1024x128_1_0_0_0).reshape _ _) (N_slot 2 (k3 1))) $$ Hc R2 HW
  iintro ⟨R2, E2, HW⟩
  iapply (recvC X κ ιs c 3 0 (by decide) ((above_OA (t := 1) c (by omega)).add (above_credOwed (s := 0) c (by omega))) recv0_3 (Memref.isWhole_whole cc0_stg4_0).wordExact (((Memref.isWhole_whole cc0_scratch3).wordExact_slice rfl _ wordsbf16_S3x8x1024x128_S1x8x1024x128_1_0_0_0).reshape _ _) (N_slot 3 (k3 1))) $$ Hc R3 HW
  iintro ⟨R3, E3, HW⟩
  iapply (sendwC X κ ιs c 0 0 (by decide) ((above_OA (t := 1) c (by omega)).add (above_credOwed (s := 0) c (by omega))) send0_0 (((Memref.isWhole_whole cc0_scratch0).wordExact_slice rfl _ wordsbf16_S3x8x1024x128_S1x8x1024x128_1_0_0_0).reshape _ _) (Memref.isWhole_whole cc0_stg1_0).wordExact (N_own 0)) $$ Hc R0 D0 HW
  iintro ⟨R0, D0, HW⟩
  iapply (sendwC X κ ιs c 1 0 (by decide) ((above_OA (t := 1) c (by omega)).add (above_credOwed (s := 0) c (by omega))) send0_1 (((Memref.isWhole_whole cc0_scratch1).wordExact_slice rfl _ wordsbf16_S3x8x1024x128_S1x8x1024x128_1_0_0_0).reshape _ _) (Memref.isWhole_whole cc0_stg3_0).wordExact (N_own 1)) $$ Hc R1 D1 HW
  iintro ⟨R1, D1, HW⟩
  iapply (run_ret c)
  iapply Hk
  isplitl [R0 D0]
  · isplitl [R0]; · iexact R0
    iexact D0
  isplitl [R1 D1 E1]
  · isplitl [R1]; · iexact R1
    isplitl [D1]; · iexact D1
    iexact E1
  isplitl [R2 E2]
  · isplitl [R2]; · iexact R2
    iexact E2
  isplitl [R3 E3]
  · isplitl [R3]; · iexact R3
    iexact E3
  iexact HW

end Cert.Proof

end
-- ==== Proof.StepN.lean ====
/-
  The parts of the body of the loop over the steps.
-/
module

public import proofs.«01_k».proof.Proof.Step0

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Fin 4 → Dev nD → Blk F) (κ : GSem nD τ sig → ℕ) (ιs : Key → ℕ) (c : Dev nD) (fq : QBlk F)

/-- A step below the last. -/
theorem step_lt (t3 : Fin k0_t3_loop.trips) : t3.val + 1 < nStep := by
  have h : t3.val < 14 := Nat.lt_of_lt_of_eq t3.isLt trips3
  simp only [nStep]; omega

/-- Before a step may send, its slots are known to be free. -/
theorem Cr'_facts (d : Fin 2) (t : ℕ) {b b' : Fin 4} (hb : kb d = b) (hb' : vb d = b') :
    Cr' d c t ⊢ iprop(Cr' d c t ∗ fact1 b c t ∗ fact1 b' c t : sProp 𝕄) := by
  subst hb; subst hb'
  unfold Cr'
  iintro ⟨HP, HI, HO, HR, HF, HG, #HH⟩
  isplitl [HP HI HO HR HF HG]
  · isplitl [HP]; · iexact HP
    isplitl [HI]; · iexact HI
    isplitl [HO]; · iexact HO
    isplitl [HR]; · iexact HR
    isplitl [HF]; · iexact HF
    isplitl [HG]; · iexact HG
    iexact HH
  isplitl []
  · iapply (facts_kb d c (Nat.lt_succ_self t)); iexact HH
  iapply (facts_vb d c (Nat.lt_succ_self t)); iexact HH

/-- The slots that nobody writes again. -/
def kept (b : Fin 4) (t : ℕ) : sProp 𝕄 := bigSep (Finset.Ico nCred t) (fun s => slotP c b (k3 s))

/-- The slot a step has read, whatever it holds. -/
theorem data_slot (b : Fin 4) {t : ℕ} (h : t ≠ 0) : dataQ X fullShare b c t ⊢ (slotP c b (k3 t) : sProp 𝕄) := by
  rw [dataQ_pos X c fullShare b h]; exact owns_slotP c b (k3 t) _

/-- The end of a step whose slots go back to the writer, -/
theorem finish_lt (b : Fin 4) {t : ℕ} (h0 : t ≠ 0) (h : t < nCred) :
    iprop(ctx X κ ιs ∗ Done b c t ∗ dataQ X fullShare b c t ∗ kept c b t)
      ⊢ |={Set.univ}=> ((Ring b c (t + 1) ∗ kept c b (t + 1)) ∗ fact1 b (prev b c) (t + 2)) := by
  unfold kept
  rw [Finset.Ico_eq_empty (by omega), Finset.Ico_eq_empty (by omega), bigSep_empty]
  iintro ⟨#Hc, HD, HX, HK⟩
  ihave HS := (data_slot X c b h0) $$ HX
  imod (deposit X κ ιs b c h) $$ [HD HS] with ⟨HR, HF⟩
  · isplitr; · iexact Hc
    isplitl [HD]; · iexact HD
    iexact HS
  imodintro
  isplitl [HR HK]
  · isplitl [HR]; · iexact HR
    iexact HK
  iexact HF
/-- and of one whose slots do not. -/
theorem finish_ge (b : Fin 4) {t : ℕ} (h0 : t ≠ 0) (h : nCred ≤ t) :
    iprop(Done b c t ∗ dataQ X fullShare b c t ∗ kept c b t) ⊢ (Ring b c (t + 1) ∗ kept c b (t + 1) : sProp 𝕄) := by
  unfold kept
  rw [bigSep_Ico_succ_top h]
  iintro ⟨HD, HX, HK⟩
  isplitl [HD]; · iapply (no_deposit b c h); iexact HD
  isplitl [HX]; · iapply (data_slot X c b h0); iexact HX
  iexact HK

/-- The wait for the neighbours' leave to send, and the first copy. -/
theorem part1 (v24 : BitVec 32) (t3 : Fin k0_t3_loop.trips) {Q : (Σ' (_ : BitVec 32), BitVec 32) → sProp 𝕄} :
    iprop(ctx X κ ιs ∗ (Cr 0 c (t3.val + 1) ∗ Cr 1 c (t3.val + 1)) ∗ (Ring 0 c (t3.val + 1) ∗ dataQ X fullShare 0 c (t3.val + 1)) ∗ owe c (OA c (t3.val + 1)))
      ⊢ iprop((∀ a, ((Cr' 0 c (t3.val + 1) ∗ Cr' 1 c (t3.val + 1)) ∗ (fact1 1 c (t3.val + 1) ∗ fact1 2 c (t3.val + 1) ∗ fact1 3 c (t3.val + 1))
            ∗ (Sent 0 c (t3.val + 1) ∗ dataQ X fullShare.left 0 c (t3.val + 1))
            ∗ owe c ((((OA c (t3.val + 1 + 1) + credOwed c (t3.val + 1)) + recvTally 3 c (t3.val + 1)) + recvTally 2 c (t3.val + 1)) + recvTally 1 c (t3.val + 1))) -∗ Q a)
          -∗ run c (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v24 1#32 1#32 t3) Q) := by
  have ht := step_lt t3
  have hA : OA c (t3.val + 1) = ((((OA c (t3.val + 1 + 1) + credOwed c (t3.val + 1)) + recvTally 3 c (t3.val + 1)) + recvTally 2 c (t3.val + 1)) + recvTally 1 c (t3.val + 1)) + recvTally 0 c (t3.val + 1) := by
    rw [OA_succ c ht, stepOwed]; simp only [add_assoc]
  have hO : Above (2 * (t3.val + 1) - 1) (OA c (t3.val + 1)) := above_OA c (by omega)
  rw [k0_part1_eq_skeleton]; unfold k0_part1_skel
  iintro ⟨#Hc, ⟨C0, C1⟩, ⟨R0, D0⟩, HW⟩ Hk
  by_cases h2 : 2 ≤ t3.val + 1
  · simp only [dif_pos ((cond1_iff t3).mpr h2), semSignalWord, semWaitWord, Prog.lift, Prog.bind_op, Prog.bind_ret, Prog.pure_eq_ret]
    iapply (curry3 (credit_wait X κ ιs c 0 (t3.val + 1) h2 ht hO credit0_eq)) $$ Hc C0 HW
    iintro ⟨C0, HW⟩
    iapply (curry3 (credit_wait X κ ιs c 1 (t3.val + 1) h2 ht hO credit1_eq)) $$ Hc C1 HW
    iintro ⟨C1, HW⟩
    rw [hA]
    ihave C0 := (Cr'_facts c 0 (t3.val + 1) (b := 0) (b' := 1) rfl rfl) $$ C0
    ihave C1 := (Cr'_facts c 1 (t3.val + 1) (b := 2) (b' := 3) rfl rfl) $$ C1
    icases C0 with ⟨C0, #F0, #F1⟩
    icases C1 with ⟨C1, #F2, #F3⟩
    iapply (curry5 (send_step X κ ιs c 0 (t3.val + 1) ht _ ((slot_eq 0 (k3 (t3.val + 1)) (off10_eq t3) _).trans (src_slot 0 (Nat.succ_ne_zero _)).symm) (slot_eq 0 (k3 (t3.val + 1 + 1)) (off9_eq t3) _) (dev9_eq c) (send_0 t3) (recv_0 t3))) $$ Hc R0 D0 F0 HW
    iintro ⟨R0, D0, HW⟩
    iapply (run_ret c)
    iapply Hk
    isplitl [C0 C1]
    · isplitl [C0]; · iexact C0
      iexact C1
    isplitl [F1 F2 F3]
    · isplitl [F1]; · iexact F1
      isplitl [F2]; · iexact F2
      iexact F3
    isplitl [R0 D0]
    · isplitl [R0]; · iexact R0
      iexact D0
    iexact HW
  · simp only [dif_neg (fun h => h2 ((cond1_iff t3).mp h)), semSignalWord, semWaitWord, Prog.lift, Prog.bind_op, Prog.bind_ret, Prog.pure_eq_ret]
    ihave C0 := (no_credit_wait c 0 (t3.val + 1) (by omega)) $$ C0
    ihave C1 := (no_credit_wait c 1 (t3.val + 1) (by omega)) $$ C1
    rw [hA]
    ihave C0 := (Cr'_facts c 0 (t3.val + 1) (b := 0) (b' := 1) rfl rfl) $$ C0
    ihave C1 := (Cr'_facts c 1 (t3.val + 1) (b := 2) (b' := 3) rfl rfl) $$ C1
    icases C0 with ⟨C0, #F0, #F1⟩
    icases C1 with ⟨C1, #F2, #F3⟩
    iapply (curry5 (send_step X κ ιs c 0 (t3.val + 1) ht _ ((slot_eq 0 (k3 (t3.val + 1)) (off10_eq t3) _).trans (src_slot 0 (Nat.succ_ne_zero _)).symm) (slot_eq 0 (k3 (t3.val + 1 + 1)) (off9_eq t3) _) (dev9_eq c) (send_0 t3) (recv_0 t3))) $$ Hc R0 D0 F0 HW
    iintro ⟨R0, D0, HW⟩
    iapply (run_ret c)
    iapply Hk
    isplitl [C0 C1]
    · isplitl [C0]; · iexact C0
      iexact C1
    isplitl [F1 F2 F3]
    · isplitl [F1]; · iexact F1
      isplitl [F2]; · iexact F2
      iexact F3
    isplitl [R0 D0]
    · isplitl [R0]; · iexact R0
      iexact D0
    iexact HW

/-- The other copies, and the blocks in the slots taken in. -/
theorem part2 (v13 v24 v123 : BitVec 32) (t3 : Fin k0_t3_loop.trips) {Q : PUnit → sProp 𝕄} :
    iprop(ctx X κ ιs ∗ (fact1 1 c (t3.val + 1) ∗ fact1 2 c (t3.val + 1) ∗ fact1 3 c (t3.val + 1)) ∗ dataQ X fullShare.left 0 c (t3.val + 1)
        ∗ (Ring 1 c (t3.val + 1) ∗ dataQ X fullShare 1 c (t3.val + 1)) ∗ (Ring 2 c (t3.val + 1) ∗ dataQ X fullShare 2 c (t3.val + 1)) ∗ (Ring 3 c (t3.val + 1) ∗ dataQ X fullShare 3 c (t3.val + 1))
        ∗ (atQ c fq ∗ atL c (st X c fq (t3.val + 1)).1 ∗ atO c (st X c fq (t3.val + 1)).2)
        ∗ owe c ((((OA c (t3.val + 1 + 1) + credOwed c (t3.val + 1)) + recvTally 3 c (t3.val + 1)) + recvTally 2 c (t3.val + 1)) + recvTally 1 c (t3.val + 1)))
      ⊢ iprop(((dataQ X fullShare.left 0 c (t3.val + 1)
            ∗ (Sent 1 c (t3.val + 1) ∗ dataQ X fullShare.left 1 c (t3.val + 1)) ∗ (Sent 2 c (t3.val + 1) ∗ dataQ X fullShare.left 2 c (t3.val + 1)) ∗ (Sent 3 c (t3.val + 1) ∗ dataQ X fullShare.left 3 c (t3.val + 1))
            ∗ (atQ c fq ∗ atL c (st X c fq (t3.val + 1 + 1)).1 ∗ atO c (st X c fq (t3.val + 1 + 1)).2)
            ∗ owe c (OA c (t3.val + 1 + 1) + credOwed c (t3.val + 1))) -∗ Q ⟨⟩)
          -∗ run c (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24 t3 v123) Q) := by
  have ht := step_lt t3
  rw [k0_part2_eq_skeleton]; unfold k0_part2_skel
  simp only [semSignalWord, semWaitWord, Prog.lift, Prog.bind_op, Prog.bind_ret, Prog.pure_eq_ret]
  iintro ⟨#Hc, ⟨#F1, #F2, #F3⟩, D0, ⟨R1, D1⟩, ⟨R2, D2⟩, ⟨R3, D3⟩, ⟨HQ, HL, HO⟩, HW⟩ Hk
  iapply (curry5 (send_step X κ ιs c 1 (t3.val + 1) ht _ ((slot_eq 1 (k3 (t3.val + 1)) (off10_eq t3) _).trans (src_slot 1 (Nat.succ_ne_zero _)).symm) (slot_eq 1 (k3 (t3.val + 1 + 1)) (off9_eq t3) _) (dev10_eq c) (send_1 t3) (recv_1 t3))) $$ Hc R1 D1 F1 HW
  iintro ⟨R1, D1, HW⟩
  iapply (curry5 (send_step X κ ιs c 2 (t3.val + 1) ht _ ((slot_eq 2 (k3 (t3.val + 1)) (off10_eq t3) _).trans (src_slot 2 (Nat.succ_ne_zero _)).symm) (slot_eq 2 (k3 (t3.val + 1 + 1)) (off9_eq t3) _) (dev11_eq c) (send_2 t3) (recv_2 t3))) $$ Hc R2 D2 F2 HW
  iintro ⟨R2, D2, HW⟩
  iapply (curry5 (send_step X κ ιs c 3 (t3.val + 1) ht _ ((slot_eq 3 (k3 (t3.val + 1)) (off10_eq t3) _).trans (src_slot 3 (Nat.succ_ne_zero _)).symm) (slot_eq 3 (k3 (t3.val + 1 + 1)) (off9_eq t3) _) (dev12_eq c) (send_3 t3) (recv_3 t3))) $$ Hc R3 D3 F3 HW
  iintro ⟨R3, D3, HW⟩
  iapply (curry5 (half_t4 X c fq (st X c fq (t3.val + 1)) c v13 v24 t3 v123 _ Q)) $$ HQ D0 D1 HL HO
  iintro ⟨HQ, D0, D1, HL, HO⟩
  iapply (curry5 (half_t5 X c fq _ c v13 v24 t3 v123 _ Q)) $$ HQ D2 D3 HL HO
  iintro ⟨HQ, D2, D3, HL, HO⟩
  iapply (run_ret c)
  iapply Hk
  isplitl [D0]; · iexact D0
  isplitl [R1 D1]
  · isplitl [R1]; · iexact R1
    iexact D1
  isplitl [R2 D2]
  · isplitl [R2]; · iexact R2
    iexact D2
  isplitl [R3 D3]
  · isplitl [R3]; · iexact R3
    iexact D3
  isplitl [HQ HL HO]
  · isplitl [HQ]; · iexact HQ
    isplitl [HL]; · iexact HL
    iexact HO
  iexact HW

/-- The waits for the first three blocks. -/
theorem part3 (v13 v24 : BitVec 32) (t3 : Fin k0_t3_loop.trips) {Q : PUnit → sProp 𝕄} :
    iprop(ctx X κ ιs ∗ Sent 0 c (t3.val + 1) ∗ Sent 1 c (t3.val + 1) ∗ Sent 2 c (t3.val + 1) ∗ owe c (OA c (t3.val + 1 + 1) + credOwed c (t3.val + 1)))
      ⊢ iprop((((Got 0 c (t3.val + 1) ∗ dataQ X fullShare 0 c (t3.val + 1 + 1)) ∗ (Got 1 c (t3.val + 1) ∗ dataQ X fullShare 1 c (t3.val + 1 + 1)) ∗ (Got 2 c (t3.val + 1) ∗ dataQ X fullShare 2 c (t3.val + 1 + 1)) ∗ owe c (OA c (t3.val + 1 + 1) + credOwed c (t3.val + 1))) -∗ Q ⟨⟩)
          -∗ run c (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 v13 v24 t3) Q) := by
  have ht := step_lt t3
  have hO : Above (2 * (t3.val + 1) + 2) (OA c (t3.val + 1 + 1) + credOwed c (t3.val + 1)) := (above_OA c (by omega)).add (above_credOwed c (by omega))
  rw [k0_part3_eq_skeleton]; unfold k0_part3_skel
  simp only [semSignalWord, semWaitWord, Prog.lift, Prog.bind_op, Prog.bind_ret, Prog.pure_eq_ret]
  iintro ⟨#Hc, R0, R1, R2, HW⟩ Hk
  iapply (recvC X κ ιs c 0 (t3.val + 1) ht hO (recv_0 t3) (((Memref.isWhole_whole cc0_scratch0).wordExact_slice rfl _ (k0_off10_wordsbf16 t3)).reshape _ _) (((Memref.isWhole_whole cc0_scratch0).wordExact_slice rfl _ (k0_off9_wordsbf16 t3)).reshape _ _) ((congrArg (fun M => M.view.dmaCredit) (slot_eq 0 (k3 (t3.val + 1 + 1)) (off9_eq t3) (k0_off9_inb t3))).trans (N_slot 0 (k3 (t3.val + 1 + 1))))) $$ Hc R0 HW
  iintro ⟨R0, E0, HW⟩
  iapply (recvC X κ ιs c 1 (t3.val + 1) ht hO (recv_1 t3) (((Memref.isWhole_whole cc0_scratch1).wordExact_slice rfl _ (k0_off10_wordsbf16 t3)).reshape _ _) (((Memref.isWhole_whole cc0_scratch1).wordExact_slice rfl _ (k0_off9_wordsbf16 t3)).reshape _ _) ((congrArg (fun M => M.view.dmaCredit) (slot_eq 1 (k3 (t3.val + 1 + 1)) (off9_eq t3) (k0_off9_inb t3))).trans (N_slot 1 (k3 (t3.val + 1 + 1))))) $$ Hc R1 HW
  iintro ⟨R1, E1, HW⟩
  iapply (recvC X κ ιs c 2 (t3.val + 1) ht hO (recv_2 t3) (((Memref.isWhole_whole cc0_scratch2).wordExact_slice rfl _ (k0_off10_wordsbf16 t3)).reshape _ _) (((Memref.isWhole_whole cc0_scratch2).wordExact_slice rfl _ (k0_off9_wordsbf16 t3)).reshape _ _) ((congrArg (fun M => M.view.dmaCredit) (slot_eq 2 (k3 (t3.val + 1 + 1)) (off9_eq t3) (k0_off9_inb t3))).trans (N_slot 2 (k3 (t3.val + 1 + 1))))) $$ Hc R2 HW
  iintro ⟨R2, E2, HW⟩
  iapply (run_ret c)
  iapply Hk
  isplitl [R0 E0]
  · isplitl [R0]; · iexact R0
    iexact E0
  isplitl [R1 E1]
  · isplitl [R1]; · iexact R1
    iexact E1
  isplitl [R2 E2]
  · isplitl [R2]; · iexact R2
    iexact E2
  iexact HW

/-- The wait for the last, and for the own blocks to be out. -/
theorem part4 (t3 : Fin k0_t3_loop.trips) {Q : BitVec 32 → sProp 𝕄} :
    iprop(ctx X κ ιs ∗ (Got 0 c (t3.val + 1) ∗ dataQ X fullShare.left 0 c (t3.val + 1)) ∗ (Got 1 c (t3.val + 1) ∗ dataQ X fullShare.left 1 c (t3.val + 1)) ∗ (Got 2 c (t3.val + 1) ∗ dataQ X fullShare.left 2 c (t3.val + 1)) ∗ (Sent 3 c (t3.val + 1) ∗ dataQ X fullShare.left 3 c (t3.val + 1)) ∗ owe c (OA c (t3.val + 1 + 1) + credOwed c (t3.val + 1)))
      ⊢ iprop((((Done 0 c (t3.val + 1) ∗ dataQ X fullShare 0 c (t3.val + 1)) ∗ (Done 1 c (t3.val + 1) ∗ dataQ X fullShare 1 c (t3.val + 1)) ∗ (Done 2 c (t3.val + 1) ∗ dataQ X fullShare 2 c (t3.val + 1)) ∗ (Done 3 c (t3.val + 1) ∗ dataQ X fullShare 3 c (t3.val + 1) ∗ dataQ X fullShare 3 c (t3.val + 1 + 1)) ∗ owe c (OA c (t3.val + 1 + 1) + credOwed c (t3.val + 1))) -∗ Q 12#32)
          -∗ run c (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 t3) Q) := by
  have ht := step_lt t3
  have hO : Above (2 * (t3.val + 1) + 2) (OA c (t3.val + 1 + 1) + credOwed c (t3.val + 1)) := (above_OA c (by omega)).add (above_credOwed c (by omega))
  have hO' : Above 0 (OA c (t3.val + 1 + 1) + credOwed c (t3.val + 1)) := (above_OA c (by omega)).add (above_credOwed c (by omega))
  rw [k0_part4_eq_skeleton]; unfold k0_part4_skel
  simp only [semSignalWord, semWaitWord, Prog.lift, Prog.bind_op, Prog.bind_ret, Prog.pure_eq_ret]
  iintro ⟨#Hc, ⟨R0, D0⟩, ⟨R1, D1⟩, ⟨R2, D2⟩, ⟨R3, D3⟩, HW⟩ Hk
  iapply (recvC X κ ιs c 3 (t3.val + 1) ht hO (recv_3 t3) (((Memref.isWhole_whole cc0_scratch3).wordExact_slice rfl _ (k0_off10_wordsbf16 t3)).reshape _ _) (((Memref.isWhole_whole cc0_scratch3).wordExact_slice rfl _ (k0_off9_wordsbf16 t3)).reshape _ _) ((congrArg (fun M => M.view.dmaCredit) (slot_eq 3 (k3 (t3.val + 1 + 1)) (off9_eq t3) (k0_off9_inb t3))).trans (N_slot 3 (k3 (t3.val + 1 + 1))))) $$ Hc R3 HW
  iintro ⟨R3, E3, HW⟩
  iapply (sendwC X κ ιs c 0 (t3.val + 1) ht hO' (send_0 t3) (((Memref.isWhole_whole cc0_scratch0).wordExact_slice rfl _ (k0_off9_wordsbf16 t3)).reshape _ _) (((Memref.isWhole_whole cc0_scratch0).wordExact_slice rfl _ (k0_off10_wordsbf16 t3)).reshape _ _) ((congrArg (fun M => M.view.dmaCredit) (slot_eq 0 (k3 (t3.val + 1)) (off10_eq t3) (k0_off10_inb t3))).trans (N_slot 0 (k3 (t3.val + 1))))) $$ Hc R0 D0 HW
  iintro ⟨R0, D0, HW⟩
  iapply (sendwC X κ ιs c 1 (t3.val + 1) ht hO' (send_1 t3) (((Memref.isWhole_whole cc0_scratch1).wordExact_slice rfl _ (k0_off9_wordsbf16 t3)).reshape _ _) (((Memref.isWhole_whole cc0_scratch1).wordExact_slice rfl _ (k0_off10_wordsbf16 t3)).reshape _ _) ((congrArg (fun M => M.view.dmaCredit) (slot_eq 1 (k3 (t3.val + 1)) (off10_eq t3) (k0_off10_inb t3))).trans (N_slot 1 (k3 (t3.val + 1))))) $$ Hc R1 D1 HW
  iintro ⟨R1, D1, HW⟩
  iapply (sendwC X κ ιs c 2 (t3.val + 1) ht hO' (send_2 t3) (((Memref.isWhole_whole cc0_scratch2).wordExact_slice rfl _ (k0_off9_wordsbf16 t3)).reshape _ _) (((Memref.isWhole_whole cc0_scratch2).wordExact_slice rfl _ (k0_off10_wordsbf16 t3)).reshape _ _) ((congrArg (fun M => M.view.dmaCredit) (slot_eq 2 (k3 (t3.val + 1)) (off10_eq t3) (k0_off10_inb t3))).trans (N_slot 2 (k3 (t3.val + 1))))) $$ Hc R2 D2 HW
  iintro ⟨R2, D2, HW⟩
  iapply (sendwC X κ ιs c 3 (t3.val + 1) ht hO' (send_3 t3) (((Memref.isWhole_whole cc0_scratch3).wordExact_slice rfl _ (k0_off9_wordsbf16 t3)).reshape _ _) (((Memref.isWhole_whole cc0_scratch3).wordExact_slice rfl _ (k0_off10_wordsbf16 t3)).reshape _ _) ((congrArg (fun M => M.view.dmaCredit) (slot_eq 3 (k3 (t3.val + 1)) (off10_eq t3) (k0_off10_inb t3))).trans (N_slot 3 (k3 (t3.val + 1))))) $$ Hc R3 D3 HW
  iintro ⟨R3, D3, HW⟩
  iapply (run_ret c)
  iapply Hk
  isplitl [R0 D0]
  · isplitl [R0]; · iexact R0
    iexact D0
  isplitl [R1 D1]
  · isplitl [R1]; · iexact R1
    iexact D1
  isplitl [R2 D2]
  · isplitl [R2]; · iexact R2
    iexact D2
  isplitl [R3 D3 E3]
  · isplitl [R3]; · iexact R3
    isplitl [D3]; · iexact D3
    iexact E3
  iexact HW

end Cert.Proof

end
-- ==== Proof.Loop.lean ====
/-
  The body of one device, from the state it is launched in to the state it leaves.
-/
module

public import proofs.«01_k».proof.Proof.StepN

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Fin 4 → Dev nD → Blk F) (κ : GSem nD τ sig → ℕ) (ιs : Key → ℕ) (c : Dev nD) (fq : QBlk F)

/-- What a device holds when step `t` of the loop starts. -/
def Inv (t : ℕ) : sProp 𝕄 :=
  iprop(ctx X κ ιs ∗ (Ring 0 c t ∗ dataQ X fullShare 0 c t ∗ kept c 0 t) ∗ (Ring 1 c t ∗ dataQ X fullShare 1 c t ∗ kept c 1 t)
    ∗ (Ring 2 c t ∗ dataQ X fullShare 2 c t ∗ kept c 2 t) ∗ (Ring 3 c t ∗ dataQ X fullShare 3 c t ∗ kept c 3 t)
    ∗ (Cr 0 c t ∗ Cr 1 c t) ∗ (atQ c fq ∗ atL c (st X c fq t).1 ∗ atO c (st X c fq t).2) ∗ owe c (OA c t))

theorem credOwed_lt {t : ℕ} (h : t < nCred) : credOwed c t = credTally 1 c t + credTally 0 c t := by unfold credOwed; rw [if_pos h]
theorem credOwed_ge {t : ℕ} (h : nCred ≤ t) : credOwed c t = 0 := by unfold credOwed; rw [if_neg (by omega)]

/-- A step of the loop. -/
theorem step_body (v13 v24 : BitVec 32) (t3 : Fin k0_t3_loop.trips) (u : Unit) :
    Inv X κ ιs c fq (t3.val + 1) ⊢ run c (k0_t3_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24 t3 u) (fun _ => Inv X κ ιs c fq (t3.val + 1 + 1)) := by
  have hne : t3.val + 1 ≠ 0 := Nat.succ_ne_zero _
  unfold k0_t3_body Inv
  iintro ⟨#Hc, ⟨R0, D0, K0⟩, ⟨R1, D1, K1⟩, ⟨R2, D2, K2⟩, ⟨R3, D3, K3⟩, HC, HQ, HW⟩
  rw [run, wp_bind]
  iapply (curry4 (part1 X κ ιs c v24 t3)) $$ Hc HC [R0 D0] HW
  · isplitl [R0]; · iexact R0
    iexact D0
  iintro %a ⟨HC, #HF, ⟨R0, D0⟩, HW⟩
  dsimp only
  rw [wp_bind]
  iapply (part2 X κ ιs c fq v13 v24 a.2 t3) $$ [D0 R1 D1 R2 D2 R3 D3 HQ HW]
  · isplitr; · iexact Hc
    isplitr; · iexact HF
    isplitl [D0]; · iexact D0
    isplitl [R1 D1]
    · isplitl [R1]; · iexact R1
      iexact D1
    isplitl [R2 D2]
    · isplitl [R2]; · iexact R2
      iexact D2
    isplitl [R3 D3]
    · isplitl [R3]; · iexact R3
      iexact D3
    isplitl [HQ]; · iexact HQ
    iexact HW
  iintro ⟨D0, ⟨R1, D1⟩, ⟨R2, D2⟩, ⟨R3, D3⟩, HQ, HW⟩
  rw [wp_bind]
  iapply (curry5 (part3 X κ ιs c v13 v24 t3)) $$ Hc R0 R1 R2 HW
  iintro ⟨⟨R0, E0⟩, ⟨R1, E1⟩, ⟨R2, E2⟩, HW⟩
  rw [wp_bind]
  iapply (part4 X κ ιs c t3) $$ [R0 D0 R1 D1 R2 D2 R3 D3 HW]
  · isplitr; · iexact Hc
    isplitl [R0 D0]
    · isplitl [R0]; · iexact R0
      iexact D0
    isplitl [R1 D1]
    · isplitl [R1]; · iexact R1
      iexact D1
    isplitl [R2 D2]
    · isplitl [R2]; · iexact R2
      iexact D2
    isplitl [R3 D3]
    · isplitl [R3]; · iexact R3
      iexact D3
    iexact HW
  iintro ⟨⟨R0, D0⟩, ⟨R1, D1⟩, ⟨R2, D2⟩, ⟨R3, D3, E3⟩, HW⟩
  icases HC with ⟨C0, C1⟩
  by_cases h : t3.val + 1 < nCred
  · simp only [dif_pos ((cond2_iff t3).mpr h), semSignalWord, Prog.lift, Prog.bind_op, Prog.bind_ret, Prog.pure_eq_ret]
    rw [credOwed_lt c h, ← add_assoc]
    imod (finish_lt X κ ιs c 0 hne h) $$ [R0 D0 K0] with ⟨⟨R0, K0⟩, F0⟩
    · isplitr; · iexact Hc
      isplitl [R0]; · iexact R0
      isplitl [D0]; · iexact D0
      iexact K0
    imod (finish_lt X κ ιs c 1 hne h) $$ [R1 D1 K1] with ⟨⟨R1, K1⟩, F1⟩
    · isplitr; · iexact Hc
      isplitl [R1]; · iexact R1
      isplitl [D1]; · iexact D1
      iexact K1
    imod (finish_lt X κ ιs c 2 hne h) $$ [R2 D2 K2] with ⟨⟨R2, K2⟩, F2⟩
    · isplitr; · iexact Hc
      isplitl [R2]; · iexact R2
      isplitl [D2]; · iexact D2
      iexact K2
    imod (finish_lt X κ ιs c 3 hne h) $$ [R3 D3 K3] with ⟨⟨R3, K3⟩, F3⟩
    · isplitr; · iexact Hc
      isplitl [R3]; · iexact R3
      isplitl [D3]; · iexact D3
      iexact K3
    iapply (creditC X κ ιs c 0 (b := 0) (b' := 1) rfl rfl (t3.val + 1) h _ (dev13_eq c _) credit0_eq) $$ Hc C0 F0 F1 HW
    iintro ⟨C0, HW⟩
    iapply (creditC X κ ιs c 1 (b := 2) (b' := 3) rfl rfl (t3.val + 1) h _ (dev14_eq c _) credit1_eq) $$ Hc C1 F2 F3 HW
    iintro ⟨C1, HW⟩
    iapply (run_ret c)
    isplitr; · iexact Hc
    isplitl [R0 E0 K0]
    · isplitl [R0]; · iexact R0
      isplitl [E0]; · iexact E0
      iexact K0
    isplitl [R1 E1 K1]
    · isplitl [R1]; · iexact R1
      isplitl [E1]; · iexact E1
      iexact K1
    isplitl [R2 E2 K2]
    · isplitl [R2]; · iexact R2
      isplitl [E2]; · iexact E2
      iexact K2
    isplitl [R3 E3 K3]
    · isplitl [R3]; · iexact R3
      isplitl [E3]; · iexact E3
      iexact K3
    isplitl [C0 C1]
    · isplitl [C0]; · iexact C0
      iexact C1
    isplitl [HQ]; · iexact HQ
    iexact HW
  · simp only [dif_neg (fun h' => h ((cond2_iff t3).mp h')), semSignalWord, Prog.lift, Prog.bind_op, Prog.bind_ret, Prog.pure_eq_ret]
    rw [credOwed_ge c (Nat.le_of_not_lt h), add_zero]
    ihave C0 := (no_credit_signal c 0 (t3.val + 1) (Nat.le_of_not_lt h)) $$ C0
    ihave C1 := (no_credit_signal c 1 (t3.val + 1) (Nat.le_of_not_lt h)) $$ C1
    ihave R0 := (finish_ge X c 0 hne (Nat.le_of_not_lt h)) $$ [R0 D0 K0]
    · isplitl [R0]; · iexact R0
      isplitl [D0]; · iexact D0
      iexact K0
    icases R0 with ⟨R0, K0⟩
    ihave R1 := (finish_ge X c 1 hne (Nat.le_of_not_lt h)) $$ [R1 D1 K1]
    · isplitl [R1]; · iexact R1
      isplitl [D1]; · iexact D1
      iexact K1
    icases R1 with ⟨R1, K1⟩
    ihave R2 := (finish_ge X c 2 hne (Nat.le_of_not_lt h)) $$ [R2 D2 K2]
    · isplitl [R2]; · iexact R2
      isplitl [D2]; · iexact D2
      iexact K2
    icases R2 with ⟨R2, K2⟩
    ihave R3 := (finish_ge X c 3 hne (Nat.le_of_not_lt h)) $$ [R3 D3 K3]
    · isplitl [R3]; · iexact R3
      isplitl [D3]; · iexact D3
      iexact K3
    icases R3 with ⟨R3, K3⟩
    iapply (run_ret c)
    isplitr; · iexact Hc
    isplitl [R0 E0 K0]
    · isplitl [R0]; · iexact R0
      isplitl [E0]; · iexact E0
      iexact K0
    isplitl [R1 E1 K1]
    · isplitl [R1]; · iexact R1
      isplitl [E1]; · iexact E1
      iexact K1
    isplitl [R2 E2 K2]
    · isplitl [R2]; · iexact R2
      isplitl [E2]; · iexact E2
      iexact K2
    isplitl [R3 E3 K3]
    · isplitl [R3]; · iexact R3
      isplitl [E3]; · iexact E3
      iexact K3
    isplitl [C0 C1]
    · isplitl [C0]; · iexact C0
      iexact C1
    isplitl [HQ]; · iexact HQ
    iexact HW

/-- The loop over the steps. -/
theorem step_loop (v13 v24 : BitVec 32) {α : Type} (kk : Unit → Prog (TpuEff nD τ sig (Elt F) Λ₀ .tc) α) (Q : α → sProp 𝕄) :
    Inv X κ ιs c fq 1 ⊢ iprop((Inv X κ ιs c fq 15 -∗ run c (kk ⟨⟩) Q)
      -∗ run c (Scf.Loop.for k0_t3_loop k0_t3_ok ⟨⟩ (k0_t3_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24) >>= kk) Q) := by
  iintro H HK
  iapply (Scf.wp_for_bind Idealize.ShloMosaic.frame (wpE (defs₀ (F := F)) 𝒱₀ (c : Thread nD τ) none) Set.univ k0_t3_loop.lb k0_t3_loop.ub k0_t3_loop.st
    k0_t3_ok ⟨⟩ (k0_t3_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24)
    (fun n _ => Inv X κ ιs c fq (n + 1)) (fun i acc => step_body X κ ιs c fq v13 v24 i acc)) $$ H
  iintro %acc H
  iapply HK
  have h14 : Inv X κ ιs c fq (k0_t3_loop.trips + 1) = Inv X κ ιs c fq 15 := by rw [trips3]
  ihave H' := (Entails.of_eq h14) $$ H
  iexact H'

end Cert.Proof

end
-- ==== Proof.Body.lean ====
/-
  The body of one device, from the state it is launched in to the state it leaves.
-/
module

public import proofs.«01_k».proof.Proof.Loop

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Fin 4 → Dev nD → Blk F) (κ : GSem nD τ sig → ℕ) (ιs : Key → ℕ) (c : Dev nD) (fq : QBlk F)

/-- A stream's share of what a device is launched with: its places and tokens, the counts on its first two slots, its three
    slots, and the device's own half. -/
def Entry (b : Fin 4) : sProp 𝕄 :=
  iprop(Ring b c 0 ∗ readerAt ES (c, b, 0) 0 ∗ readerAt ES (c, b, 1) 0
    ∗ (slotP c b (k3 0) ∗ slotP c b (k3 1) ∗ slotP c b (k3 2)) ∗ dataQ X fullShare b c 0)
/-- A direction's share of the handshake, -/
def Shake (d : Fin 2) : sProp 𝕄 :=
  iprop(dutyTok ER (barCell (prevD d c)) 0 d.val ∗ reached ER (barCell (prevD d c)) 0 ∗ reached ER (creditCell c (opp d)) 0)
/-- and of the credits. -/
def Purse (d : Fin 2) : sProp 𝕄 :=
  iprop(crPos d c 0 ∗ bigSep (Finset.Ico 0 nCred) (crIn d c) ∗ bigSep (Finset.Ico 0 nCred) (crOut d c))
/-- What a stream leaves. -/
def Leave (b : Fin 4) : sProp 𝕄 :=
  iprop((Ring b c 15 ∗ dataQ X fullShare b c 15 ∗ kept c b 15) ∗ dataQ X fullShare b c 0)

/-- The device's results. -/
def outO : OBlk F := k0_pay1 (k0_pay23 (st X c fq 16).2) (st X c fq 16).1

/-- The slots of the first two copies are free. -/
theorem enter (b : Fin 4) :
    iprop(ctx X κ ιs ∗ Ring b c 0 ∗ readerAt ES (c, b, 0) 0 ∗ readerAt ES (c, b, 1) 0 ∗ slotP c b (k3 1) ∗ slotP c b (k3 2))
      ⊢ |={Set.univ}=> (Ring b c 0 ∗ fact1 b (prev b c) 0 ∗ fact1 b (prev b c) 1) := by
  unfold Ring pR
  iintro ⟨#Hc, ⟨HS, ⟨⟨P0, #R0⟩, ⟨P1, #R1⟩, P2⟩, HT, HR⟩, A0, A1, S1, S2⟩
  imod (free X κ ιs b c (i := 0) (by decide)) $$ [A0 S1] with #F0
  · isplitr; · iexact Hc
    isplitl [A0]; · iexact A0
    isplitl [S1]; · iexact S1
    iexact R0
  imod (free X κ ιs b c (i := 1) (by decide)) $$ [A1 S2] with #F1
  · isplitr; · iexact Hc
    isplitl [A1]; · iexact A1
    isplitl [S2]; · iexact S2
    iexact R1
  imodintro
  isplitl [HS P0 P1 P2 HT HR]
  · isplitl [HS]; · iexact HS
    isplitl [P0 P1 P2]
    · isplitl [P0]
      · isplitl [P0]; · iexact P0
        iexact R0
      isplitl [P1]
      · isplitl [P1]; · iexact P1
        iexact R1
      iexact P2
    isplitl [HT]; · iexact HT
    iexact HR
  isplitr; · iexact F0
  iexact F1

/-- The facts that the handshake carries. -/
theorem facts_two (d : Fin 2) {b b' : Fin 4} (hb : kb d = b) (hb' : vb d = b') :
    iprop((fact1 b (prev b c) 0 ∗ fact1 b (prev b c) 1) ∗ (fact1 b' (prev b' c) 0 ∗ fact1 b' (prev b' c) 1)) ⊢ (facts d (prevD d c) 2 : sProp 𝕄) := by
  subst hb; subst hb'
  rw [prev_kb, prev_vb]
  iintro ⟨⟨A0, A1⟩, ⟨B0, B1⟩⟩
  iapply (facts_succ d (prevD d c) 1)
  isplitl [A0 B0]
  · iapply (facts_succ d (prevD d c) 0)
    isplitr
    · iapply (facts_zero (F := F) d (prevD d c)); iempintro
    isplitl [A0]; · iexact A0
    iexact B0
  isplitl [A1]; · iexact A1
  iexact B1

/-- The credits before step 0. -/
theorem cr_start (d d' : Fin 2) (hd : d' = opp d) :
    iprop(Purse c d ∗ facts d (prevD d c) 2 ∗ facts d c 2 ∗ reached ER (creditCell (peerD d' c) (opp d')) 0) ⊢ (Cr' d c 0 : sProp 𝕄) := by
  subst hd
  rw [peerD_opp, opp_opp]
  unfold Purse
  iintro ⟨⟨HP, HI, HO⟩, #HF, #HG, #HR⟩
  iapply (no_credit_wait c d 0 (by decide))
  unfold Cr
  isplitl [HP]; · iexact HP
  isplitl [HI]; · iexact HI
  isplitl [HO]; · iexact HO
  isplitr; · iexact HR
  isplitr; · iexact HF
  iexact HG

/-- The end of step 0, the loop, and the last block. -/
theorem part9 (v13 v24 : BitVec 32) {Q : FVec F S8x512x128 .f32 → sProp 𝕄} :
    iprop(ctx X κ ιs ∗ ((Done 0 c 0 ∗ dataQ X fullShare 0 c 0) ∗ slotP c 0 (k3 0) ∗ dataQ X fullShare 0 c 1)
        ∗ ((Done 1 c 0 ∗ dataQ X fullShare 1 c 0) ∗ slotP c 1 (k3 0) ∗ dataQ X fullShare 1 c 1)
        ∗ ((Got 2 c 0 ∗ dataQ X fullShare.left 2 c 0) ∗ slotP c 2 (k3 0) ∗ dataQ X fullShare 2 c 1)
        ∗ ((Got 3 c 0 ∗ dataQ X fullShare.left 3 c 0) ∗ slotP c 3 (k3 0) ∗ dataQ X fullShare 3 c 1)
        ∗ (Cr' 0 c 0 ∗ Cr' 1 c 0) ∗ (atQ c fq ∗ atL c (st X c fq 1).1 ∗ atO c (st X c fq 1).2) ∗ owe c (OA c 1 + credOwed c 0))
      ⊢ iprop(((Leave X c 0 ∗ Leave X c 1 ∗ Leave X c 2 ∗ Leave X c 3 ∗ (Cr 0 c 15 ∗ Cr 1 c 15)
            ∗ (atQ c fq ∗ atL c (st X c fq 16).1 ∗ atO c (st X c fq 16).2) ∗ owe c 0) -∗ Q (k0_pay23 (st X c fq 16).2))
          -∗ run c (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 c v13 v24) Q) := by
  rw [k0_part9_eq_skeleton]; unfold k0_part9_skel
  simp only [semSignalWord, semWaitWord, Prog.lift, Prog.bind_op, Prog.bind_ret, Prog.pure_eq_ret]
  iintro ⟨#Hc, ⟨⟨R0, D0⟩, S0, E0⟩, ⟨⟨R1, D1⟩, S1, E1⟩, ⟨⟨R2, D2⟩, S2, E2⟩, ⟨⟨R3, D3⟩, S3, E3⟩, ⟨C0, C1⟩, HQ, HW⟩ Hk
  iapply (sendwC X κ ιs c 2 0 (by decide) ((above_OA (t := 1) c (by omega)).add (above_credOwed (s := 0) c (by omega))) send0_2 (((Memref.isWhole_whole cc0_scratch2).wordExact_slice rfl _ wordsbf16_S3x8x1024x128_S1x8x1024x128_1_0_0_0).reshape _ _) (Memref.isWhole_whole cc0_stg2_0).wordExact (N_own 2)) $$ Hc R2 D2 HW
  iintro ⟨R2, D2, HW⟩
  iapply (sendwC X κ ιs c 3 0 (by decide) ((above_OA (t := 1) c (by omega)).add (above_credOwed (s := 0) c (by omega))) send0_3 (((Memref.isWhole_whole cc0_scratch3).wordExact_slice rfl _ wordsbf16_S3x8x1024x128_S1x8x1024x128_1_0_0_0).reshape _ _) (Memref.isWhole_whole cc0_stg4_0).wordExact (N_own 3)) $$ Hc R3 D3 HW
  iintro ⟨R3, D3, HW⟩
  rw [credOwed_lt c (by decide), ← add_assoc]
  imod (deposit X κ ιs 0 c (t := 0) (by decide)) $$ [R0 S0] with ⟨R0, F0⟩
  · isplitr; · iexact Hc
    isplitl [R0]; · iexact R0
    iexact S0
  imod (deposit X κ ιs 1 c (t := 0) (by decide)) $$ [R1 S1] with ⟨R1, F1⟩
  · isplitr; · iexact Hc
    isplitl [R1]; · iexact R1
    iexact S1
  imod (deposit X κ ιs 2 c (t := 0) (by decide)) $$ [R2 S2] with ⟨R2, F2⟩
  · isplitr; · iexact Hc
    isplitl [R2]; · iexact R2
    iexact S2
  imod (deposit X κ ιs 3 c (t := 0) (by decide)) $$ [R3 S3] with ⟨R3, F3⟩
  · isplitr; · iexact Hc
    isplitl [R3]; · iexact R3
    iexact S3
  iapply (creditC X κ ιs c 0 (b := 0) (b' := 1) rfl rfl 0 (by decide) _ (dev7_eq c) credit0_eq) $$ Hc C0 F0 F1 HW
  iintro ⟨C0, HW⟩
  iapply (creditC X κ ιs c 1 (b := 2) (b' := 3) rfl rfl 0 (by decide) _ (dev8_eq c) credit1_eq) $$ Hc C1 F2 F3 HW
  iintro ⟨C1, HW⟩
  iapply (step_loop X κ ιs c fq v13 v24 _ Q) $$ [R0 E0 R1 E1 R2 E2 R3 E3 C0 C1 HQ HW]
  · unfold Inv
    isplitr; · iexact Hc
    isplitl [R0 E0]
    · isplitl [R0]; · iexact R0
      isplitl [E0]; · iexact E0
      unfold kept; rw [Finset.Ico_eq_empty (by decide), bigSep_empty]; iempintro
    isplitl [R1 E1]
    · isplitl [R1]; · iexact R1
      isplitl [E1]; · iexact E1
      unfold kept; rw [Finset.Ico_eq_empty (by decide), bigSep_empty]; iempintro
    isplitl [R2 E2]
    · isplitl [R2]; · iexact R2
      isplitl [E2]; · iexact E2
      unfold kept; rw [Finset.Ico_eq_empty (by decide), bigSep_empty]; iempintro
    isplitl [R3 E3]
    · isplitl [R3]; · iexact R3
      isplitl [E3]; · iexact E3
      unfold kept; rw [Finset.Ico_eq_empty (by decide), bigSep_empty]; iempintro
    isplitl [C0 C1]
    · isplitl [C0]; · iexact C0
      iexact C1
    isplitl [HQ]; · iexact HQ
    iexact HW
  unfold Inv
  iintro ⟨-, ⟨R0, E0, K0⟩, ⟨R1, E1, K1⟩, ⟨R2, E2, K2⟩, ⟨R3, E3, K3⟩, HC, ⟨HQ, HL, HO⟩, HW⟩
  iapply (curry5 (half_t6 X c fq (st X c fq 15) c v13 v24 _ Q)) $$ HQ E0 E1 HL HO
  iintro ⟨HQ, E0, E1, HL, HO⟩
  iapply (curry5 (half_t7 X c fq _ c v13 v24 _ Q)) $$ HQ E2 E3 HL HO
  iintro ⟨HQ, E2, E3, HL, HO⟩
  unfold atO
  iapply (wp_load 𝒱₀ (c : Thread nD τ) none Set.univ (Finset.subset_univ _)) $$ HO
  iintro HO
  iapply (run_ret c)
  have e : (Memref.whole cc0_stg5_0).view.readAt (Elt F) (Rect.unit (s := S8x512x128) ![0, 0, 0] S8x512x128.size inb_S8x512x128_S8x512x128_0_0_0).toLoadRect
      (st X c fq 16).2 = (st X c fq 16).2 := Memref.readAt_unit_zero (Elt F) cc0_stg5_0 (by decide) _ _
  have e' : (halfOf X c fq 2 3 15 (halfOf X c fq 0 1 15 (st X c fq 15))) = st X c fq 16 := rfl
  rw [e', e, OA_end]
  iapply Hk
  unfold Leave
  isplitl [R0 E0 K0 D0]
  · isplitl [R0 E0 K0]
    · isplitl [R0]; · iexact R0
      isplitl [E0]; · iexact E0
      iexact K0
    iexact D0
  isplitl [R1 E1 K1 D1]
  · isplitl [R1 E1 K1]
    · isplitl [R1]; · iexact R1
      isplitl [E1]; · iexact E1
      iexact K1
    iexact D1
  isplitl [R2 E2 K2 D2]
  · isplitl [R2 E2 K2]
    · isplitl [R2]; · iexact R2
      isplitl [E2]; · iexact E2
      iexact K2
    iexact D2
  isplitl [R3 E3 K3 D3]
  · isplitl [R3 E3 K3]
    · isplitl [R3]; · iexact R3
      isplitl [E3]; · iexact E3
      iexact K3
    iexact D3
  isplitl [HC]; · iexact HC
  isplitl [HQ HL HO]
  · isplitl [HQ]; · iexact HQ
    isplitl [HL]; · iexact HL
    iexact HO
  iexact HW

/-- The body. -/
theorem body (l : LBlk F) (o : OBlk F) {Q : PUnit → sProp 𝕄} :
    iprop(ctx X κ ιs ∗ (Entry X c 0 ∗ Entry X c 1 ∗ Entry X c 2 ∗ Entry X c 3) ∗ (Shake c 0 ∗ Shake c 1) ∗ (Purse c 0 ∗ Purse c 1)
        ∗ (atPos ER (barCell c) 0 ∅ 0 ∗ cred (tallyAt (barCell c) 0 2)) ∗ (atQ c fq ∗ atL c l ∗ atO c o) ∗ owe c (O₀ c))
      ⊢ iprop((((Leave X c 0 ∗ Leave X c 1 ∗ Leave X c 2 ∗ Leave X c 3) ∗ (Cr 0 c 15 ∗ Cr 1 c 15) ∗ atPos ER (barCell c) 1 ∅ 0
            ∗ (atQ c fq ∗ atL c (st X c fq 16).1 ∗ atO c (outO X c fq)) ∗ owe c 0) -∗ Q ⟨⟩)
          -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  rw [cc0_body_eq_skeleton]; unfold cc0_body_skel Entry Shake
  iintro ⟨#Hc, ⟨⟨R0, A0, B0, ⟨S0, T0, U0⟩, D0⟩, ⟨R1, A1, B1, ⟨S1, T1, U1⟩, D1⟩, ⟨R2, A2, B2, ⟨S2, T2, U2⟩, D2⟩, ⟨R3, A3, B3, ⟨S3, T3, U3⟩, D3⟩⟩,
    ⟨⟨K0, #N0, #M0⟩, ⟨K1, #N1, #M1⟩⟩, ⟨P0, P1⟩, HB, ⟨HQ, HL, HO⟩, HW⟩ Hk
  imod (enter X κ ιs c 0) $$ [R0 A0 B0 T0 U0] with ⟨R0, #F0⟩
  · isplitr; · iexact Hc
    isplitl [R0]; · iexact R0
    isplitl [A0]; · iexact A0
    isplitl [B0]; · iexact B0
    isplitl [T0]; · iexact T0
    iexact U0
  imod (enter X κ ιs c 1) $$ [R1 A1 B1 T1 U1] with ⟨R1, #F1⟩
  · isplitr; · iexact Hc
    isplitl [R1]; · iexact R1
    isplitl [A1]; · iexact A1
    isplitl [B1]; · iexact B1
    isplitl [T1]; · iexact T1
    iexact U1
  imod (enter X κ ιs c 2) $$ [R2 A2 B2 T2 U2] with ⟨R2, #F2⟩
  · isplitr; · iexact Hc
    isplitl [R2]; · iexact R2
    isplitl [A2]; · iexact A2
    isplitl [B2]; · iexact B2
    isplitl [T2]; · iexact T2
    iexact U2
  imod (enter X κ ιs c 3) $$ [R3 A3 B3 T3 U3] with ⟨R3, #F3⟩
  · isplitr; · iexact Hc
    isplitl [R3]; · iexact R3
    isplitl [A3]; · iexact A3
    isplitl [B3]; · iexact B3
    isplitl [T3]; · iexact T3
    iexact U3
  ihave #G0 : facts 0 (prevD 0 c) 2 $$ []
  · iapply (facts_two c 0 (b := 0) (b' := 1) rfl rfl)
    isplitr; · iexact F0
    iexact F1
  ihave #G1 : facts 1 (prevD 1 c) 2 $$ []
  · iapply (facts_two c 1 (b := 2) (b' := 3) rfl rfl)
    isplitr; · iexact F2
    iexact F3
  rw [wp_bind]
  iapply (part5 X κ ιs c) $$ [K0 K1 HB HW]
  · isplitr; · iexact Hc
    isplitl [K0]
    · isplitl [K0]; · iexact K0
      isplitr; · iexact N0
      isplitr; · iexact G0
      iexact M0
    isplitl [K1]
    · isplitl [K1]; · iexact K1
      isplitr; · iexact N1
      isplitr; · iexact G1
      iexact M1
    isplitl [HB]; · iexact HB
    iexact HW
  iintro %v13 %v24 ⟨HB, Y0, Y1, HW⟩
  dsimp only
  unfold barPay
  icases Y0 with ⟨#J0, #L0⟩
  icases Y1 with ⟨#J1, #L1⟩
  ihave C0 := (cr_start c 0 1 rfl) $$ [P0]
  · isplitl [P0]; · iexact P0
    isplitr; · iexact G0
    isplitr; · iexact J0
    iexact L1
  ihave C1 := (cr_start c 1 0 rfl) $$ [P1]
  · isplitl [P1]; · iexact P1
    isplitr; · iexact G1
    isplitr; · iexact J1
    iexact L0
  ihave #V0 : fact1 0 c 0 $$ []
  · iapply (facts_kb 0 c (n := 2) (by decide)); iexact J0
  ihave #V1 : fact1 1 c 0 $$ []
  · iapply (facts_vb 0 c (n := 2) (by decide)); iexact J0
  ihave #V2 : fact1 2 c 0 $$ []
  · iapply (facts_kb 1 c (n := 2) (by decide)); iexact J1
  ihave #V3 : fact1 3 c 0 $$ []
  · iapply (facts_vb 1 c (n := 2) (by decide)); iexact J1
  have hA : OA c 0 = ((((OA c 1 + credOwed c 0) + recvTally 3 c 0) + recvTally 2 c 0) + recvTally 1 c 0) + recvTally 0 c 0 := by
    rw [OA_succ c (t := 0) (by decide), stepOwed]; simp only [add_assoc]
  rw [hA, wp_bind]
  iapply (curry6 (part6 X κ ιs c l o v13 v24 _)) $$ Hc [R0 D0] [R1 D1] HL HO HW
  · isplitl [R0]; · iexact R0
    isplitl [D0]; · iexact D0
    iexact V0
  · isplitl [R1]; · iexact R1
    isplitl [D1]; · iexact D1
    iexact V1
  iintro ⟨R0, ⟨R1, D1⟩, HL, HO, HW⟩
  rw [wp_bind]
  iapply (part7 X κ ιs c fq v13 v24) $$ [R0 D1 R2 D2 R3 D3 HQ HL HO HW]
  · isplitr; · iexact Hc
    isplitl [R2 D2]
    · isplitl [R2]; · iexact R2
      isplitl [D2]; · iexact D2
      iexact V2
    isplitl [R3 D3]
    · isplitl [R3]; · iexact R3
      isplitl [D3]; · iexact D3
      iexact V3
    isplitl [R0]; · iexact R0
    isplitl [D1]; · iexact D1
    isplitl [HQ]; · iexact HQ
    isplitl [HL]; · iexact HL
    isplitl [HO]; · iexact HO
    iexact HW
  iintro ⟨⟨R2, D2⟩, ⟨R3, D3⟩, ⟨R0, D0, E0⟩, D1, HQ, HL, HO, HW⟩
  rw [wp_bind]
  iapply (part8 X κ ιs c v13) $$ [R0 D0 R1 D1 R2 R3 HW]
  · isplitr; · iexact Hc
    isplitl [R0 D0]
    · isplitl [R0]; · iexact R0
      iexact D0
    isplitl [R1 D1]
    · isplitl [R1]; · iexact R1
      iexact D1
    isplitl [R2]; · iexact R2
    isplitl [R3]; · iexact R3
    iexact HW
  iintro ⟨R0, ⟨R1, D1, E1⟩, ⟨R2, E2⟩, ⟨R3, E3⟩, HW⟩
  rw [wp_bind]
  iapply (part9 X κ ιs c fq v13 v24) $$ [R0 S0 E0 R1 D1 S1 E1 R2 D2 S2 E2 R3 D3 S3 E3 C0 C1 HQ HL HO HW]
  · isplitr; · iexact Hc
    isplitl [R0 S0 E0]
    · isplitl [R0]; · iexact R0
      isplitl [S0]; · iexact S0
      iexact E0
    isplitl [R1 D1 S1 E1]
    · isplitl [R1 D1]
      · isplitl [R1]; · iexact R1
        iexact D1
      isplitl [S1]; · iexact S1
      iexact E1
    isplitl [R2 D2 S2 E2]
    · isplitl [R2 D2]
      · isplitl [R2]; · iexact R2
        iexact D2
      isplitl [S2]; · iexact S2
      iexact E2
    isplitl [R3 D3 S3 E3]
    · isplitl [R3 D3]
      · isplitl [R3]; · iexact R3
        iexact D3
      isplitl [S3]; · iexact S3
      iexact E3
    isplitl [C0 C1]
    · isplitl [C0]; · iexact C0
      iexact C1
    isplitl [HQ HL HO]
    · isplitl [HQ]; · iexact HQ
      isplitl [HL]; · iexact HL
      iexact HO
    iexact HW
  iintro ⟨H0, H1, H2, H3, HC, ⟨HQ, HL, HO⟩, HW⟩
  simp only [semSignalWord, semWaitWord, Prog.lift, Prog.bind_op, Prog.bind_ret, Prog.pure_eq_ret]
  unfold atL atO
  iapply (wp_load 𝒱₀ (c : Thread nD τ) none Set.univ (Finset.subset_univ _)) $$ HL
  iintro HL
  iapply (wp_load 𝒱₀ (c : Thread nD τ) none Set.univ (Finset.subset_univ _)) $$ HO
  iintro HO
  iapply (wp_store 𝒱₀ (c : Thread nD τ) none Set.univ (m := Memref.whole cc0_stg5_0) (r := Rect.unit (s := S8x512x128) ![0, 0, 0] S8x512x128.size inb_S8x512x128_S8x512x128_0_0_0) (Mk := Finset.univ) (Finset.subset_univ _)) $$ HO
  iintro HO
  have e : (Memref.whole cc0_scratch4).view.readAt (Elt F) (Rect.unit (s := S8x512x1) ![0, 0, 0] S8x512x1.size inb_S8x512x1_S8x512x1_0_0_0).toLoadRect
      (st X c fq 16).1 = (st X c fq 16).1 := Memref.readAt_unit_zero (Elt F) cc0_scratch4 (by decide) _ _
  rw [writeO, e]
  iapply (run_ret c)
  iapply Hk
  isplitl [H0 H1 H2 H3]
  · isplitl [H0]; · iexact H0
    isplitl [H1]; · iexact H1
    isplitl [H2]; · iexact H2
    iexact H3
  isplitl [HC]; · iexact HC
  isplitl [HB]; · iexact HB
  isplitl [HQ HL HO]
  · isplitl [HQ]; · iexact HQ
    isplitl [HL]; · iexact HL
    iexact HO
  iexact HW

end Cert.Proof

end
-- ==== Proof.RingValue.lean ====
/-
  What the ring leaves in a device's window, over the extended reals: the blocks come past in the order of the ring, their
  sums do not depend on that order, and so each output is one quotient of sums over all devices' halves.
-/
module

public import proofs.«01_k».proof.Proof.HalfValue
public import proofs.«01_k».proof.Proof.Body

@[expose] public section

set_option maxRecDepth 10000

noncomputable section

namespace Cert.Proof

open Cert.KernelIdeal Cert.KernelIdeal.Gen

open Idealize.ShloMosaic
open Idealize.ShloMosaic.TcCoe
open Idealize.ShloMosaic.ValueIdx

/-! ## Whose block comes past -/

theorem srcD_val (b : Fin 4) (t : ℕ) : ∀ c : Dev nD, (srcD b c t).val = (c.val + t * if dirOf b = 0 then 15 else 1) % 16 := by
  induction t with
  | zero => intro c; show c.val = _; rw [Nat.zero_mul, Nat.add_zero]; exact (Nat.mod_eq_of_lt c.isLt).symm
  | succ t ih =>
    intro c
    show (srcD b (prev b c) t).val = _
    rw [ih]
    show ((c.val + if dirOf b = 0 then 15 else 1) % 16 + _) % 16 = _
    split <;> omega

/-- A key stream and its value stream hold the same device's halves. -/
theorem srcD_one (c : Dev nD) (t : ℕ) : srcD 1 c t = srcD 0 c t := Fin.ext (by rw [srcD_val, srcD_val]; rfl)
theorem srcD_three (c : Dev nD) (t : ℕ) : srcD 3 c t = srcD 2 c t := Fin.ext (by rw [srcD_val, srcD_val]; rfl)

/-- In sixteen steps every device's block comes past once. -/
theorem sum_ring (b : Fin 4) (c : Dev nD) (f : Dev nD → EReal) : ∑ t ∈ Finset.range 16, f (srcD b c t) = ∑ c' : Dev nD, f c' := by
  rw [Finset.sum_range]
  refine Function.Bijective.sum_comp (e := fun t : Fin 16 => srcD b c t.val) (Finite.injective_iff_bijective.mp fun t t' h => ?_) f
  have e := congrArg Fin.val h
  simp only [srcD_val] at e
  have h1 := t.isLt
  have h2 := t'.isLt
  have h3 := c.isLt
  refine Fin.ext ?_
  split at e <;> omega

/-! ## The running sums -/

variable (X : Fin 4 → Dev nD → Blk Ideal) (c : Dev nD) (fq : QBlk Ideal)

theorem st0_L (h : Fin 8) (i : Fin 512) : (st0 (F := Ideal)).1 (ix3 h i z1) = (0 : EReal) := by
  show shapeCast S8x512x1 (k0_pay8 (F := Ideal)) shapeCasts_S8x512x1_S8x512x1 (ix3 h i z1) = (0 : EReal)
  rw [shapeCast_self]
  exact Ideal.ofBits_zero_f32
theorem st0_O (h : Fin 8) (i : Fin 512) (d : Fin 128) : (st0 (F := Ideal)).2 (ix3 h i d) = (0 : EReal) := Ideal.ofBits_zero_f32

/-- What a key stream's block of device `c'` adds to a denominator, -/
def addL (b : Fin 4) (h : Fin 8) (i : Fin 512) (c' : Dev nD) : EReal := ∑ j : Fin 1024, Ideal.exp (sc fq (X b c') h i j)
/-- and, with the value stream's, to an output. -/
def addO (b b' : Fin 4) (h : Fin 8) (i : Fin 512) (d : Fin 128) (c' : Dev nD) : EReal :=
  ∑ j : Fin 1024, Ideal.exp (sc fq (X b c') h i j) * X b' c' (ix3 h j d)

theorem st_L (h : Fin 8) (i : Fin 512) : ∀ t, (st X c fq t).1 (ix3 h i z1)
    = ∑ u ∈ Finset.range t, (addL X fq 0 h i (srcD 0 c u) + addL X fq 2 h i (srcD 2 c u) : EReal)
  | 0 => (st0_L h i).trans (Finset.sum_range_zero _).symm
  | t + 1 => by
    rw [Finset.sum_range_succ, ← st_L h i t, st, halfOf, half_L, halfOf, half_L]
    exact add_assoc _ _ _

theorem st_O (h : Fin 8) (i : Fin 512) (d : Fin 128) : ∀ t, (st X c fq t).2 (ix3 h i d)
    = ∑ u ∈ Finset.range t, (addO X fq 0 1 h i d (srcD 0 c u) + addO X fq 2 3 h i d (srcD 2 c u) : EReal)
  | 0 => (st0_O h i d).trans (Finset.sum_range_zero _).symm
  | t + 1 => by
    rw [Finset.sum_range_succ, ← st_O h i d t, st, halfOf, half_O, halfOf, half_O, srcD_one, srcD_three]
    exact add_assoc _ _ _

theorem sum_both (c : Dev nD) (f g : Dev nD → EReal) :
    ∑ u ∈ Finset.range 16, (f (srcD 0 c u) + g (srcD 2 c u)) = ∑ c' : Dev nD, (f c' + g c') := by
  rw [Finset.sum_add_distrib, sum_ring, sum_ring, Finset.sum_add_distrib]

/-- The result's window at an index. -/
theorem outO_apply (h : Fin 8) (i : Fin 512) (d : Fin 128) : outO X c fq (ix3 h i d)
    = Ideal.div (∑ c' : Dev nD, (addO X fq 0 1 h i d c' + addO X fq 2 3 h i d c')) (∑ c' : Dev nD, (addL X fq 0 h i c' + addL X fq 2 h i c')) := by
  show Ideal.div (shapeCast S8x512x128 (st X c fq 16).2 shapeCasts_S8x512x128_S8x512x128 (ix3 h i d))
    (broadcastTo S8x512x128 (st X c fq 16).1 broadcasts_S8x512x1_S8x512x128 (ix3 h i d)) = _
  rw [shapeCast_self, broadcastTo_apply (st X c fq 16).1 broadcasts_S8x512x1_S8x512x128 (ix3 h i d) (ix3 h i z1)
    (fun a => by match a with
      | ⟨0, _⟩ => rfl
      | ⟨1, _⟩ => rfl
      | ⟨2, _⟩ => rfl),
    st_L, st_O, sum_both c (addL X fq 0 h i) (addL X fq 2 h i), sum_both c (addO X fq 0 1 h i d) (addO X fq 2 3 h i d)]

end Cert.Proof

end
-- ==== Proof.RefValue.lean ====
/-
  The reference over the extended reals, read at an index: the attention of one query row and head, as one quotient of sums over
  all keys, and its product with the last weight.
-/
module

public import proofs.«01_k».proof.Proof.Weigh
public import proofs.«01_k».proof.Proof.Gen.ReferenceIdeal.Read

@[expose] public section

set_option maxRecDepth 10000

noncomputable section

namespace Cert.Proof.Ref

open Cert.ReferenceIdeal Cert.ReferenceIdeal.Gen Cert.ReferenceIdeal.Read

open Idealize.ShloMosaic
open Idealize.ShloMosaic.TcCoe
open Idealize.ShloMosaic.ValueIdx

/-- The scale both programs multiply by. -/
def scl : EReal := Ideal.ofBits .f32 0x3DB504F3#32

set_option backward.proofsInPublic true in
/-- The column of lane `d` of head `h`. -/
abbrev col (h : Fin 8) (d : Fin 128) : Fin 1024 := ⟨h.val * 128 + d.val, by omega⟩
set_option backward.proofsInPublic true in
/-- The head of a column, -/
abbrev hd (k : Fin 1024) : Fin 8 := ⟨k.val / 128, by omega⟩
set_option backward.proofsInPublic true in
/-- and its lane. -/
abbrev ln (k : Fin 1024) : Fin 128 := ⟨k.val % 128, by omega⟩

variable (x0 : (⟨S1x8192x1024, .f32⟩ : BufTy).Contents (Elt Ideal)) (x1 : (⟨S1024x1024, .f32⟩ : BufTy).Contents (Elt Ideal))
  (x2 x3 : (⟨S1x32768x8x128, .f32⟩ : BufTy).Contents (Elt Ideal)) (x4 : (⟨S1024x1024, .f32⟩ : BufTy).Contents (Elt Ideal))

/-- A projected query's element. -/
def qry (i : Fin 8192) (h : Fin 8) (d : Fin 128) : EReal := ∑ k : Fin 1024, x0 (ix3 z1 i k) * x1 (ix2 k (col h d))
/-- A score. -/
def scr (h : Fin 8) (i : Fin 8192) (j : Fin 32768) : EReal := (∑ d : Fin 128, qry x0 x1 i h d * x2 (ix4 z1 j h d)) * scl
/-- The attention's output. -/
def att (h : Fin 8) (i : Fin 8192) (d : Fin 128) : EReal :=
  Ideal.div (∑ j : Fin 32768, Ideal.exp (scr x0 x1 x2 h i j) * x3 (ix4 z1 j h d)) (∑ j : Fin 32768, Ideal.exp (scr x0 x1 x2 h i j))
/-- The greatest score of a row, as the reference takes it. -/
def top (h : Fin 8) (i : Fin 8192) : EReal := val_main_v7 (F := Ideal) x0 x1 x2 (ix3 z1 h i)

theorem v1_at (i : Fin 8192) (h : Fin 8) (d : Fin 128) : val_main_v1 (F := Ideal) x0 x1 (ix4 z1 i h d) = qry x0 x1 i h d := by
  have e : idx_main_v1 (ix4 z1 i h d) = ix3 z1 i (col h d) := funext fun a => Fin.ext (by
    match a with
    | ⟨0, _⟩ => rfl
    | ⟨1, _⟩ => show (((0 * 8192 + i.val) * 8 + h.val) * 128 + d.val) / 1024 % 8192 = i.val; omega
    | ⟨2, _⟩ => show (((0 * 8192 + i.val) * 8 + h.val) * 128 + d.val) % 1024 = h.val * 128 + d.val; omega)
  rw [val_main_v1_apply, e, val_main_v0_apply]
  refine Finset.sum_congr rfl fun k _ => congrArg₂ (· * ·) (congrArg x0 ?_) (congrArg x1 ?_)
  · exact funext fun a => by match a with
      | ⟨0, _⟩ => rfl
      | ⟨1, _⟩ => rfl
      | ⟨2, _⟩ => rfl
  · exact funext fun a => by match a with
      | ⟨0, _⟩ => rfl
      | ⟨1, _⟩ => rfl

theorem v4_at (h : Fin 8) (i : Fin 8192) (j : Fin 32768) : val_main_v4 (F := Ideal) x0 x1 x2 (ix4 z1 h i j) = scr x0 x1 x2 h i j := by
  rw [val_main_v4_apply, val_main_v2_apply, val_main_v3_apply]
  refine congrArg (· * scl) (Finset.sum_congr rfl fun d _ => congrArg₂ (· * ·) ?_ (congrArg x2 ?_))
  · have e : lidx_main_v2 (ix4 z1 h i j) d = ix4 z1 i h d := funext fun a => by match a with
      | ⟨0, _⟩ => rfl
      | ⟨1, _⟩ => rfl
      | ⟨2, _⟩ => rfl
      | ⟨3, _⟩ => rfl
    rw [e, v1_at]
  · exact funext fun a => by match a with
      | ⟨0, _⟩ => rfl
      | ⟨1, _⟩ => rfl
      | ⟨2, _⟩ => rfl
      | ⟨3, _⟩ => rfl

theorem v11_at (h : Fin 8) (i : Fin 8192) (j : Fin 32768) :
    val_main_v11 (F := Ideal) x0 x1 x2 (ix4 z1 h i j) = Ideal.exp (scr x0 x1 x2 h i j - top x0 x1 x2 h i) := by
  have e : idx_main_v8 (idx_main_v9 (ix4 z1 h i j)) = ix3 z1 h i := funext fun a => by match a with
    | ⟨0, _⟩ => rfl
    | ⟨1, _⟩ => rfl
    | ⟨2, _⟩ => rfl
  rw [val_main_v11_apply, val_main_v10_apply, v4_at, val_main_v9_apply, val_main_v8_apply, e]
  rfl

theorem v15_at (h : Fin 8) (i : Fin 8192) (j : Fin 32768) : val_main_v15 (F := Ideal) x0 x1 x2 (ix4 z1 h i j)
    = Ideal.div (Ideal.exp (scr x0 x1 x2 h i j - top x0 x1 x2 h i)) (∑ k : Fin 32768, Ideal.exp (scr x0 x1 x2 h i k - top x0 x1 x2 h i)) := by
  have e : idx_main_v13 (idx_main_v14 (ix4 z1 h i j)) = ix3 z1 h i := funext fun a => by match a with
    | ⟨0, _⟩ => rfl
    | ⟨1, _⟩ => rfl
    | ⟨2, _⟩ => rfl
  rw [val_main_v15_apply, v11_at, val_main_v14_apply, val_main_v13_apply, e, val_main_v12_apply]
  refine congrArg (Ideal.div _) ?_
  have z : val_main_cst_2 (F := Ideal) (Shape.Idx.first h_S_) = (0 : EReal) := Ideal.ofBits_zero_f32
  rw [z, zero_add]
  refine Finset.sum_congr rfl fun k _ => ?_
  rw [← v11_at]
  refine congrArg (val_main_v11 (F := Ideal) x0 x1 x2) ?_
  exact funext fun a => by match a with
    | ⟨0, _⟩ => rfl
    | ⟨1, _⟩ => rfl
    | ⟨2, _⟩ => rfl
    | ⟨3, _⟩ => rfl

/-! ## Real scores -/

theorem scl_real : IsR scl := by
  unfold scl
  simp only [Ideal.ofBits, Ideal.ieee]
  rw [if_neg (by decide), if_neg (by decide)]
  exact ⟨_, rfl⟩

theorem bot_word : Ideal.ofBits .f32 0xFF800000#32 = (⊥ : EReal) := by
  simp [Ideal.ofBits, Ideal.ieee]

variable {x0 x1 x2}

theorem qry_real (h0 : ∀ j, IsR (x0 j)) (h1 : ∀ j, IsR (x1 j)) (i : Fin 8192) (h : Fin 8) (d : Fin 128) : IsR (qry x0 x1 i h d) :=
  IsR.sum fun k => (h0 _).mul (h1 _)
theorem scr_real (h0 : ∀ j, IsR (x0 j)) (h1 : ∀ j, IsR (x1 j)) (h2 : ∀ j, IsR (x2 j)) (h : Fin 8) (i : Fin 8192) (j : Fin 32768) :
    IsR (scr x0 x1 x2 h i j) :=
  (IsR.sum fun d => (qry_real h0 h1 i h d).mul (h2 _)).mul scl_real

theorem top_real (h0 : ∀ j, IsR (x0 j)) (h1 : ∀ j, IsR (x1 j)) (h2 : ∀ j, IsR (x2 j)) (h : Fin 8) (i : Fin 8192) :
    IsR (top x0 x1 x2 h i) := by
  have hr : S1x8x8192x32768.Reduces [3] S1x8x8192 := by decide
  unfold top
  rw [val_main_v7_apply, val_main_v6_apply]
  have e5 := Host.reduce_eq_fold_single (FloatOps.maximumf (F := Ideal) (φ := .f32)) (val_main_v4 (F := Ideal) x0 x1 x2)
    (val_main_cst_0 (F := Ideal)) reducesTo_S1x8x8192x32768_S1x8x8192_d3 hr h_S_ (ix3 z1 h i)
  have e : val_main_v5 (F := Ideal) x0 x1 x2 (ix3 z1 h i)
      = (Finset.univ : Finset (Fin 32768)).fold max ⊥ (fun j => scr x0 x1 x2 h i j) := by
    refine e5.trans ?_
    have hb : val_main_cst_0 (F := Ideal) (Shape.Idx.first h_S_) = (⊥ : EReal) := bot_word
    rw [hb]
    have hf : (val_main_v4 (F := Ideal) x0 x1 x2 ∘ hr.lift (ix3 z1 h i)) = fun j : Fin 32768 => scr x0 x1 x2 h i j := by
      funext j
      refine Eq.trans (congrArg (val_main_v4 (F := Ideal) x0 x1 x2) ?_) (v4_at x0 x1 x2 h i j)
      exact funext fun a => Fin.ext (by match a with
        | ⟨0, _⟩ => rfl
        | ⟨1, _⟩ => rfl
        | ⟨2, _⟩ => rfl
        | ⟨3, _⟩ => rfl)
    rw [hf]; rfl
  rw [e]
  have hb : val_main_cst_1 (F := Ideal) (idx_main_v6 (ix3 z1 h i)) = (⊥ : EReal) := bot_word
  rw [hb]
  show IsR (max ⊥ _)
  rw [max_eq_right bot_le]
  exact fold_max_fin (by decide) fun j => scr_real h0 h1 h2 h i j

/-! ## The result -/

theorem v16_at (h0 : ∀ j, IsR (x0 j)) (h1 : ∀ j, IsR (x1 j)) (h2 : ∀ j, IsR (x2 j)) (h : Fin 8) (i : Fin 8192) (d : Fin 128) :
    val_main_v16 (F := Ideal) x0 x1 x2 x3 (ix4 z1 h d i) = att x0 x1 x2 x3 h i d := by
  haveI : Nonempty (Fin 32768) := ⟨⟨0, by decide⟩⟩
  rw [val_main_v16_apply]
  refine Eq.trans (Finset.sum_congr rfl fun j _ => ?_) (weigh (v := fun j : Fin 32768 => x3 (ix4 z1 j h d)) (fun j => scr_real h0 h1 h2 h i j) (top_real h0 h1 h2 h i))
  have el : lidx_main_v16 (ix4 z1 h d i) j = ix4 z1 j h d := funext fun a => by match a with
    | ⟨0, _⟩ => rfl
    | ⟨1, _⟩ => rfl
    | ⟨2, _⟩ => rfl
    | ⟨3, _⟩ => rfl
  have er : ridx_main_v16 (ix4 z1 h d i) j = ix4 z1 h i j := funext fun a => by match a with
    | ⟨0, _⟩ => rfl
    | ⟨1, _⟩ => rfl
    | ⟨2, _⟩ => rfl
    | ⟨3, _⟩ => rfl
  rw [el, er, v15_at]

/-- The reference's result at an index. -/
theorem v19_at (h0 : ∀ j, IsR (x0 j)) (h1 : ∀ j, IsR (x1 j)) (h2 : ∀ j, IsR (x2 j)) (i : Fin 8192) (n : Fin 1024) :
    val_main_v19 (F := Ideal) x0 x1 x2 x3 x4 (ix3 z1 i n) = ∑ k : Fin 1024, att x0 x1 x2 x3 (hd k) i (ln k) * x4 (ix2 k n) := by
  rw [val_main_v19_apply]
  refine Finset.sum_congr rfl fun k _ => congrArg₂ (· * ·) ?_ (congrArg x4 ?_)
  · have e : idx_main_v17 (idx_main_v18 (lidx_main_v19 (ix3 z1 i n) k)) = ix4 z1 (hd k) (ln k) i := funext fun a => Fin.ext (by
      match a with
      | ⟨0, _⟩ => rfl
      | ⟨1, _⟩ => show ((0 * 8192 + i.val) * 1024 + k.val) / 128 % 8 = k.val / 128; omega
      | ⟨2, _⟩ => show ((0 * 8192 + i.val) * 1024 + k.val) % 128 = k.val % 128; omega
      | ⟨3, _⟩ => show ((0 * 8192 + i.val) * 1024 + k.val) / 1024 % 8192 = i.val; omega)
    rw [val_main_v18_apply, val_main_v17_apply, e, v16_at x3 h0 h1 h2]
  · exact funext fun a => by match a with
      | ⟨0, _⟩ => rfl
      | ⟨1, _⟩ => rfl

end Cert.Proof.Ref

end
-- ==== Proof.Close.lean ====
/-
  The two ends of a device's body: the scratch buffers cut into slots and joined again, the own cells opened at zero on
  entry and closed at zero at the end.
-/
module

public import proofs.«01_k».proof.Proof.Body
public import Idealize.ShloMosaic.Lib.Ring
public import Idealize.ShloMosaic.Lib.Pipeline.Regions

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem big2 (Φ : Fin 2 → sProp 𝕄) : bigSep Finset.univ Φ = iprop(Φ 0 ∗ Φ 1) :=
  bigSep_univ_eq_bigSepL [0, 1] (by decide) (by decide) Φ
theorem big3 (Φ : Fin 3 → sProp 𝕄) : bigSep Finset.univ Φ = iprop(Φ 0 ∗ Φ 1 ∗ Φ 2) :=
  bigSep_univ_eq_bigSepL [0, 1, 2] (by decide) (by decide) Φ
theorem big4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Two families over one index, as one. -/
theorem pairUp {I : Type} [DecidableEq I] {S : Finset I} {Φ Ψ : I → sProp 𝕄} :
    iprop(bigSep S Φ ∗ bigSep S Ψ) ⊢ bigSep S (fun i => iprop(Φ i ∗ Ψ i)) := Entails.of_eq (bigSep_sep' S Φ Ψ).symm
theorem pairDown {I : Type} [DecidableEq I] {S : Finset I} {Φ Ψ : I → sProp 𝕄} :
    bigSep S (fun i => iprop(Φ i ∗ Ψ i)) ⊢ iprop(bigSep S Φ ∗ bigSep S Ψ) := Entails.of_eq (bigSep_sep' S Φ Ψ)

/-! ## Slots and buffers -/

theorem mem_slotRect (k : Fin 3) (y : S3x8x1024x128.Idx) : y ∈ (slotRect k).set ↔ (y 0).val = k.val := by
  rw [Rect.mem_set_unit]
  have h1 : (y 1).val < 8 := (y 1).isLt
  have h2 : (y 2).val < 1024 := (y 2).isLt
  have h3 : (y 3).val < 128 := (y 3).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 8; omega
    · show 0 ≤ (y 2).val ∧ (y 2).val < 0 + 1024; omega
    · show 0 ≤ (y 3).val ∧ (y 3).val < 0 + 128; omega
theorem slotRect_disjoint : ∀ k k' : Fin 3, k ≠ k' → Disjoint (slotRect k).set (slotRect k').set := fun k k' hne => by
  rw [Finset.disjoint_left]; intro y hy hy'; rw [mem_slotRect] at hy hy'; exact hne (Fin.ext (by omega))
theorem slotRect_cover : Finset.univ.biUnion (fun k => (slotRect k).set) = Finset.univ := by
  ext y; simp only [Finset.mem_biUnion, Finset.mem_univ, true_and, iff_true]; exact ⟨y 0, (mem_slotRect _ _).mpr rfl⟩

/-- Stream `b`'s scratch buffer on device `c`, at contents not chosen. -/
def bufAny (c : Dev nD) (b : Fin 4) : sProp 𝕄 := iprop(∃ f, ((bufM b).view.loc (c : Thread nD τ)) ↦{fullShare} f)

theorem slots_split (c : Dev nD) (b : Fin 4) : (bufAny c b : sProp 𝕄) ⊢ iprop(slotP c b (k3 0) ∗ slotP c b (k3 1) ∗ slotP c b (k3 2)) := by
  rw [← show bigSep Finset.univ (fun k : Fin 3 => (slotP c b k : sProp 𝕄)) = iprop(slotP c b (k3 0) ∗ slotP c b (k3 1) ∗ slotP c b (k3 2)) from big3 _]
  unfold bufAny
  iintro ⟨%f, H⟩
  have h : (((bufM b).view.loc (c : Thread nD τ)) ↦{fullShare} f : sProp 𝕄) ⊢ bigSep Finset.univ (fun k : Fin 3 => (slotP c b k : sProp 𝕄)) := by
    match b, f with
    | 0, f =>
      have hk (k : Fin 3) : ((bufM 0).view.loc (c : Thread nD τ) ↦[(slotRect k).set]{fullShare} f : sProp 𝕄) ⊢ slotP c 0 k := by
        unfold slotP slot; rw [show (slotM 0 k).view.set = (slotRect k).set from (View.set_reshape _ _).trans (View.set_slice_whole _ _)]
        iintro H; iexists f; iexact H
      exact (Entails.of_eq (Ring.pointsTo_blocks (ℓ := (bufM 0).view.loc (c : Thread nD τ)) (q := fullShare) (fun k => (slotRect k).set) slotRect_disjoint slotRect_cover f)).trans (bigSep_mono fun k _ => hk k)
    | 1, f =>
      have hk (k : Fin 3) : ((bufM 1).view.loc (c : Thread nD τ) ↦[(slotRect k).set]{fullShare} f : sProp 𝕄) ⊢ slotP c 1 k := by
        unfold slotP slot; rw [show (slotM 1 k).view.set = (slotRect k).set from (View.set_reshape _ _).trans (View.set_slice_whole _ _)]
        iintro H; iexists f; iexact H
      exact (Entails.of_eq (Ring.pointsTo_blocks (ℓ := (bufM 1).view.loc (c : Thread nD τ)) (q := fullShare) (fun k => (slotRect k).set) slotRect_disjoint slotRect_cover f)).trans (bigSep_mono fun k _ => hk k)
    | 2, f =>
      have hk (k : Fin 3) : ((bufM 2).view.loc (c : Thread nD τ) ↦[(slotRect k).set]{fullShare} f : sProp 𝕄) ⊢ slotP c 2 k := by
        unfold slotP slot; rw [show (slotM 2 k).view.set = (slotRect k).set from (View.set_reshape _ _).trans (View.set_slice_whole _ _)]
        iintro H; iexists f; iexact H
      exact (Entails.of_eq (Ring.pointsTo_blocks (ℓ := (bufM 2).view.loc (c : Thread nD τ)) (q := fullShare) (fun k => (slotRect k).set) slotRect_disjoint slotRect_cover f)).trans (bigSep_mono fun k _ => hk k)
    | 3, f =>
      have hk (k : Fin 3) : ((bufM 3).view.loc (c : Thread nD τ) ↦[(slotRect k).set]{fullShare} f : sProp 𝕄) ⊢ slotP c 3 k := by
        unfold slotP slot; rw [show (slotM 3 k).view.set = (slotRect k).set from (View.set_reshape _ _).trans (View.set_slice_whole _ _)]
        iintro H; iexists f; iexact H
      exact (Entails.of_eq (Ring.pointsTo_blocks (ℓ := (bufM 3).view.loc (c : Thread nD τ)) (q := fullShare) (fun k => (slotRect k).set) slotRect_disjoint slotRect_cover f)).trans (bigSep_mono fun k _ => hk k)
  iapply h; iexact H

theorem slots_join [∀ e, Nonempty (Elt F e)] (c : Dev nD) (b : Fin 4) : iprop(slotP c b 0 ∗ slotP c b 1 ∗ slotP c b 2) ⊢ (bufAny c b : sProp 𝕄) := by
  rw [← big3 (fun k => (slotP c b k : sProp 𝕄))]
  unfold bufAny
  match b with
  | 0 =>
    have hk (k : Fin 3) : (slotP c 0 k : sProp 𝕄) ⊢ iprop(∃ f, (bufM 0).view.loc (c : Thread nD τ) ↦[(slotRect k).set]{fullShare} f) := by
      unfold slotP slot; rw [show (slotM 0 k).view.set = (slotRect k).set from (View.set_reshape _ _).trans (View.set_slice_whole _ _)]
    exact BIBase.Entails.trans (bigSep_mono fun k _ => hk k) (Ring.pointsTo_blocks_join_exists (ℓ := (bufM 0).view.loc (c : Thread nD τ)) (q := fullShare) (fun k => (slotRect k).set) slotRect_disjoint slotRect_cover (bufM 0).view.junk)
  | 1 =>
    have hk (k : Fin 3) : (slotP c 1 k : sProp 𝕄) ⊢ iprop(∃ f, (bufM 1).view.loc (c : Thread nD τ) ↦[(slotRect k).set]{fullShare} f) := by
      unfold slotP slot; rw [show (slotM 1 k).view.set = (slotRect k).set from (View.set_reshape _ _).trans (View.set_slice_whole _ _)]
    exact BIBase.Entails.trans (bigSep_mono fun k _ => hk k) (Ring.pointsTo_blocks_join_exists (ℓ := (bufM 1).view.loc (c : Thread nD τ)) (q := fullShare) (fun k => (slotRect k).set) slotRect_disjoint slotRect_cover (bufM 1).view.junk)
  | 2 =>
    have hk (k : Fin 3) : (slotP c 2 k : sProp 𝕄) ⊢ iprop(∃ f, (bufM 2).view.loc (c : Thread nD τ) ↦[(slotRect k).set]{fullShare} f) := by
      unfold slotP slot; rw [show (slotM 2 k).view.set = (slotRect k).set from (View.set_reshape _ _).trans (View.set_slice_whole _ _)]
    exact BIBase.Entails.trans (bigSep_mono fun k _ => hk k) (Ring.pointsTo_blocks_join_exists (ℓ := (bufM 2).view.loc (c : Thread nD τ)) (q := fullShare) (fun k => (slotRect k).set) slotRect_disjoint slotRect_cover (bufM 2).view.junk)
  | 3 =>
    have hk (k : Fin 3) : (slotP c 3 k : sProp 𝕄) ⊢ iprop(∃ f, (bufM 3).view.loc (c : Thread nD τ) ↦[(slotRect k).set]{fullShare} f) := by
      unfold slotP slot; rw [show (slotM 3 k).view.set = (slotRect k).set from (View.set_reshape _ _).trans (View.set_slice_whole _ _)]
    exact BIBase.Entails.trans (bigSep_mono fun k _ => hk k) (Ring.pointsTo_blocks_join_exists (ℓ := (bufM 3).view.loc (c : Thread nD τ)) (q := fullShare) (fun k => (slotRect k).set) slotRect_disjoint slotRect_cover (bufM 3).view.junk)

/-! ## The cells -/

variable (X : Fin 4 → Dev nD → Blk F) (κ : GSem nD τ sig → ℕ) (ιs : Key → ℕ) (c : Dev nD)

/-- A fact about every own cell of a device, by streams and directions. -/
theorem own_eq (Φ : GSem nD τ sig → sProp 𝕄) :
    bigSep Finset.univ (fun o : Own => Φ ((c : Thread nD τ), osem o))
      = iprop((Φ (creditCell c 0) ∗ Φ (creditCell c 1))
        ∗ bigSep Finset.univ (fun b : Fin 4 => iprop(Φ (sendCell c b 0) ∗ Φ (sendCell c b 1) ∗ Φ (sendCell c b 2)))
        ∗ bigSep Finset.univ (fun b : Fin 4 => iprop(Φ (recvCell c b 0) ∗ Φ (recvCell c b 1) ∗ Φ (recvCell c b 2)))) := by
  rw [bigSep_univ_sum, bigSep_univ_sum, bigSep_univ_prod, bigSep_univ_prod, big2]
  refine congrArg₂ _ rfl (congrArg₂ _ ?_ ?_)
  · exact bigSep_congr fun b _ => big3 _
  · exact bigSep_congr fun b _ => big3 _

/-- Opening every own cell. -/
theorem open_own :
    iprop(ctx X κ ιs ∗ bigSep Finset.univ (fun o : Own => openTok ER ((c : Thread nD τ), osem o)) ∗ Pipeline.ownSems0 osem c)
      ⊢ (|={Set.univ}=> bigSep Finset.univ (fun o : Own => iprop(atPos ER ((c : Thread nD τ), osem o) 0 ∅ 0 ∗ reached ER ((c : Thread nD τ), osem o) 0)) : sProp 𝕄) := by
  have h : iprop(ctx X κ ιs ∗ bigSep Finset.univ (fun o : Own => iprop(openTok ER ((c : Thread nD τ), osem o) ∗ semVal ((c : Thread nD τ), osem o) 0)))
      ⊢ (bigSep Finset.univ (fun o : Own => iprop(|={Set.univ}=> (atPos ER ((c : Thread nD τ), osem o) 0 ∅ 0 ∗ reached ER ((c : Thread nD τ), osem o) 0))) : sProp 𝕄) :=
    bigSep_with_persistent fun o _ => by
      iintro ⟨#Hc, HT, HV⟩
      iapply (Rounds.cell_open ER (rd X) (g := ((c : Thread nD τ), osem o)) (Set.mem_univ (κ ((c : Thread nD τ), osem o))))
      isplitr; · iapply (ctx_cell X κ ιs (mem_own c o)); iexact Hc
      isplitl [HT] <;> iassumption
  iintro ⟨#Hc, HT, HV⟩
  iapply (bigSep_fupd (Finset.univ : Finset Own))
  iapply h
  isplitr; · iexact Hc
  iapply pairUp
  isplitl [HT]; · iexact HT
  unfold Pipeline.ownSems0; iexact HV

theorem close_send (b : Fin 4) (k : Fin 3) : iprop(ctx X κ ιs ∗ atPos ER (sendCell c b k) 5 ∅ 0) ⊢ (|={Set.univ}=> semVal (sendCell c b k) 0 : sProp 𝕄) := by
  iintro ⟨#Hc, H⟩
  iapply (Rounds.cell_close ER (rd X) (Set.mem_univ (κ (sendCell c b k))) id (later_send X c b k))
  isplitr; · iapply (ctx_cell X κ ιs (mem_send c b k)); iexact Hc
  iexact H
theorem close_recv (b : Fin 4) (k : Fin 3) : iprop(ctx X κ ιs ∗ atPos ER (recvCell c b k) 5 ∅ 0) ⊢ (|={Set.univ}=> semVal (recvCell c b k) 0 : sProp 𝕄) := by
  iintro ⟨#Hc, H⟩
  iapply (Rounds.cell_close ER (rd X) (Set.mem_univ (κ (recvCell c b k))) id (later_recv X c b k))
  isplitr; · iapply (ctx_cell X κ ιs (mem_recv c b k)); iexact Hc
  iexact H
theorem close_bar : iprop(ctx X κ ιs ∗ atPos ER (barCell c) 1 ∅ 0) ⊢ (|={Set.univ}=> semVal (barCell c) 0 : sProp 𝕄) := by
  iintro ⟨#Hc, H⟩
  iapply (Rounds.cell_close ER (rd X) (Set.mem_univ (κ (barCell c))) id (later_bar X c))
  isplitr; · iapply (ctx_cell X κ ιs (mem_bar c)); iexact Hc
  iexact H
theorem close_credit (d : Fin 2) : iprop(ctx X κ ιs ∗ Cr d c 15) ⊢ (|={Set.univ}=> semVal (creditCell c d) 0 : sProp 𝕄) := by
  unfold Cr crPos
  rw [if_neg (by decide)]
  iintro ⟨#Hc, ⟨H, -⟩⟩
  iapply (Rounds.cell_close ER (rd X) (Set.mem_univ (κ (creditCell c d))) id (later_credit X c d))
  isplitr; · iapply (ctx_cell X κ ιs (mem_credit c d)); iexact Hc
  iexact H

/-- A stream's semaphores at zero. -/
def sems (b : Fin 4) : sProp 𝕄 :=
  iprop((semVal (sendCell c b 0) 0 ∗ semVal (sendCell c b 1) 0 ∗ semVal (sendCell c b 2) 0)
    ∗ (semVal (recvCell c b 0) 0 ∗ semVal (recvCell c b 1) 0 ∗ semVal (recvCell c b 2) 0))

/-- What a stream leaves, given back. -/
theorem close_stream [∀ e, Nonempty (Elt F e)] (b : Fin 4) :
    iprop(ctx X κ ιs ∗ Leave X c b) ⊢ (|={Set.univ}=> (sems c b ∗ bufAny c b ∗ dataQ X fullShare b c 0) : sProp 𝕄) := by
  unfold Leave Ring pS pR kept
  rw [bigSep_Ico_succ_bot (show nCred < 15 by decide), bigSep_Ico_succ_bot (show nCred + 1 < 15 by decide), Finset.Ico_self, bigSep_empty]
  show iprop(ctx X κ ιs ∗ (_ ∗ _ ∗ (slotP c b 1 ∗ slotP c b 2 ∗ _)) ∗ _) ⊢ _
  iintro ⟨#Hc, ⟨⟨⟨⟨S0, -⟩, ⟨S1, -⟩, ⟨S2, -⟩⟩, ⟨⟨R1, -⟩, ⟨R2, -⟩, ⟨R0, -⟩⟩, -⟩, HX, ⟨K1, K2, -⟩⟩, HD⟩
  imod (close_send X κ ιs c b 0) $$ [S0] with S0
  · isplitr; · iexact Hc
    iexact S0
  imod (close_send X κ ιs c b 1) $$ [S1] with S1
  · isplitr; · iexact Hc
    iexact S1
  imod (close_send X κ ιs c b 2) $$ [S2] with S2
  · isplitr; · iexact Hc
    iexact S2
  imod (close_recv X κ ιs c b 0) $$ [R0] with R0
  · isplitr; · iexact Hc
    iexact R0
  imod (close_recv X κ ιs c b 1) $$ [R1] with R1
  · isplitr; · iexact Hc
    iexact R1
  imod (close_recv X κ ιs c b 2) $$ [R2] with R2
  · isplitr; · iexact Hc
    iexact R2
  imodintro
  isplitl [S0 S1 S2 R0 R1 R2]
  · unfold sems
    isplitl [S0 S1 S2]
    · isplitl [S0]; · iexact S0
      isplitl [S1]; · iexact S1
      iexact S2
    isplitl [R0]; · iexact R0
    isplitl [R1]; · iexact R1
    iexact R2
  isplitl [HX K1 K2]
  · iapply (slots_join c b)
    isplitl [HX]; · iapply (data_slot X c b (t := 15) (by decide)); iexact HX
    isplitl [K1]; · iexact K1
    iexact K2
  iexact HD

/-- The own semaphores together. -/
theorem sems_own :
    iprop((semVal (creditCell c 0) 0 ∗ semVal (creditCell c 1) 0) ∗ sems c 0 ∗ sems c 1 ∗ sems c 2 ∗ sems c 3) ⊢ (Pipeline.ownSems0 osem c : sProp 𝕄) := by
  rw [show (Pipeline.ownSems0 osem c : sProp 𝕄) = _ from own_eq c (fun g => semVal g 0), big4, big4]
  unfold sems
  iintro ⟨HC, ⟨S0, R0⟩, ⟨S1, R1⟩, ⟨S2, R2⟩, ⟨S3, R3⟩⟩
  isplitl [HC]; · iexact HC
  isplitl [S0 S1 S2 S3]
  · isplitl [S0]; · iexact S0
    isplitl [S1]; · iexact S1
    isplitl [S2]; · iexact S2
    iexact S3
  isplitl [R0]; · iexact R0
  isplitl [R1]; · iexact R1
  isplitl [R2]; · iexact R2
  iexact R3

end Cert.Proof

end
-- ==== Proof.Enter.lean ====
/-
  What the launch gives a device of the protocol, and its entry into the kernel: the own cells opened, the launch's ghost
  state put where the body wants it.
-/
module

public import proofs.«01_k».proof.Proof.Close

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Fin 4 → Dev nD → Blk F) (κ : GSem nD τ sig → ℕ) (ιs : Key → ℕ) (c : Dev nD)

/-- Of a stream: the tokens of all its steps, and its counts on all its slots. -/
def Stock (b : Fin 4) : sProp 𝕄 :=
  iprop(bigSep (Finset.range nStep) (tok b c) ∗ bigSep (Finset.range nStep) (fun i => readerAt ES (c, b, i) 0))
/-- Of a direction: the right to signal the barrier, and the credits to get and to give. -/
def Fund (d : Fin 2) : sProp 𝕄 :=
  iprop(dutyTok ER (barCell (prevD d c)) 0 d.val ∗ bigSep (Finset.range nCred) (crIn d c) ∗ bigSep (Finset.range nCred) (crOut d c))

/-- Everything a device has of the protocol from the launch on. -/
def Tk : sProp 𝕄 :=
  iprop(∃ κ ιs, ctx X κ ιs ∗ bigSep barCells (fun g => reached ER g 0)
    ∗ bigSep Finset.univ (fun o : Own => openTok ER ((c : Thread nD τ), osem o))
    ∗ bigSep Finset.univ (Stock c) ∗ bigSep Finset.univ (Fund c)
    ∗ (atPos ER (barCell c) 0 ∅ 0 ∗ cred (tallyAt (barCell c) 0 2)))

/-- Of a stream, once the cells are open. -/
def Begin (b : Fin 4) : sProp 𝕄 := iprop(Ring b c 0 ∗ readerAt ES (c, b, 0) 0 ∗ readerAt ES (c, b, 1) 0)

/-- Everything it has on entry to the body. -/
def Xk : sProp 𝕄 :=
  iprop(∃ κ ιs, ctx X κ ιs ∗ (Begin c 0 ∗ Begin c 1 ∗ Begin c 2 ∗ Begin c 3) ∗ (Shake c 0 ∗ Shake c 1) ∗ (Purse c 0 ∗ Purse c 1)
    ∗ (atPos ER (barCell c) 0 ∅ 0 ∗ cred (tallyAt (barCell c) 0 2)))

/-- A cell at its first round. -/
def fresh (g : GSem nD τ sig) : sProp 𝕄 := iprop(atPos ER g 0 ∅ 0 ∗ reached ER g 0)

theorem pS_intro (b : Fin 4) {t : ℕ} {k : Fin 3} (hk : k3 t = k) (ht : t / 3 = 0) : fresh (sendCell c b k) ⊢ (pS b c t : sProp 𝕄) := by
  subst hk; unfold fresh pS; rw [ht]
theorem pR_intro (b : Fin 4) {t : ℕ} {k : Fin 3} (hk : k3 (t + 1) = k) (ht : t / 3 = 0) : fresh (recvCell c b k) ⊢ (pR b c t : sProp 𝕄) := by
  subst hk; unfold fresh pR; rw [ht]
/-- A stream's counts: the first two, and the rest. -/
theorem counts_split (b : Fin 4) : bigSep (Finset.range nStep) (fun i => readerAt ES (c, b, i) 0)
    ⊢ (iprop(readerAt ES (c, b, 0) 0 ∗ readerAt ES (c, b, 1) 0 ∗ bigSep (Finset.Ico 2 nStep) (fun i => readerAt ES (c, b, i) 0)) : sProp 𝕄) := by
  have h0 := bigSep_Ico_succ_bot (show 0 < nStep by decide) (fun i => (readerAt ES (c, b, i) 0 : sProp 𝕄))
  have h1 := bigSep_Ico_succ_bot (show 0 + 1 < nStep by decide) (fun i => (readerAt ES (c, b, i) 0 : sProp 𝕄))
  rw [h1] at h0
  rw [Finset.range_eq_Ico]
  exact Entails.of_eq h0

theorem begin_intro (b : Fin 4) :
    iprop((fresh (sendCell c b 0) ∗ fresh (sendCell c b 1) ∗ fresh (sendCell c b 2))
        ∗ (fresh (recvCell c b 0) ∗ fresh (recvCell c b 1) ∗ fresh (recvCell c b 2)) ∗ Stock c b) ⊢ (Begin c b : sProp 𝕄) := by
  unfold Begin Ring Stock
  rw [← Finset.range_eq_Ico]
  iintro ⟨⟨S0, S1, S2⟩, ⟨R0, R1, R2⟩, HT, HA⟩
  ihave HA' := (counts_split c b) $$ HA
  icases HA' with ⟨A0, A1, HA⟩
  isplitl [S0 S1 S2 R0 R1 R2 HT HA]
  · isplitl [S0 S1 S2]
    · isplitl [S0]; · iapply (pS_intro c b (t := 0) (k := 0) rfl rfl); iexact S0
      isplitl [S1]; · iapply (pS_intro c b (t := 0 + 1) (k := 1) rfl rfl); iexact S1
      iapply (pS_intro c b (t := 0 + 2) (k := 2) rfl rfl); iexact S2
    isplitl [R0 R1 R2]
    · isplitl [R1]; · iapply (pR_intro c b (t := 0) (k := 1) rfl rfl); iexact R1
      isplitl [R2]; · iapply (pR_intro c b (t := 0 + 1) (k := 2) rfl rfl); iexact R2
      iapply (pR_intro c b (t := 0 + 2) (k := 0) rfl rfl); iexact R0
    isplitl [HT]; · iexact HT
    iexact HA
  isplitl [A0]; · iexact A0
  iexact A1

theorem purse_intro (d : Fin 2) :
    iprop(atPos ER (creditCell c d) 0 ∅ 0 ∗ bigSep (Finset.range nCred) (crIn d c) ∗ bigSep (Finset.range nCred) (crOut d c)) ⊢ (Purse c d : sProp 𝕄) := by
  unfold Purse crPos
  rw [if_pos (by decide), ← Finset.range_eq_Ico]
  iintro ⟨HA, HI, HO⟩
  isplitl [HA]
  · iexists ∅
    isplitr
    · ipureintro; exact ⟨Finset.empty_subset _, Nat.zero_le _⟩
    isplitl [HA]; · iexact HA
    rw [bigSep_empty]; iempintro
  isplitl [HI]; · iexact HI
  iexact HO

theorem reached_bar (x : Dev nD) : (bigSep barCells (fun g => reached ER g 0) : sProp 𝕄) ⊢ reached ER (barCell x) 0 :=
  bigSep_elim (Φ := fun g => (reached ER g 0 : sProp 𝕄)) (Finset.mem_map_of_mem barEmb (Finset.mem_univ x))

/-- Entry. -/
theorem entry : iprop(Tk X c ∗ Pipeline.ownSems0 osem c ∗ levAts L lv) ⊢ (|={Set.univ}=> Xk X c : sProp 𝕄) := by
  unfold Tk Xk
  iintro ⟨⟨%κ, %ιs, #Hc, #HB, HT, HS, HF, HA⟩, HO, -⟩
  imod (open_own X κ ιs c) $$ [HT HO] with H
  · isplitr; · iexact Hc
    isplitl [HT]; · iexact HT
    iexact HO
  have hown : bigSep Finset.univ (fun o : Own => iprop(atPos ER ((c : Thread nD τ), osem o) 0 ∅ 0 ∗ reached ER ((c : Thread nD τ), osem o) 0))
      ⊢ (_ : sProp 𝕄) := Entails.of_eq ((own_eq c (fun g => (fresh g : sProp 𝕄))).trans (by rw [big4, big4]))
  ihave H := hown $$ H
  ihave HS := (Entails.of_eq (big4 (Stock (F := F) c))) $$ HS
  ihave HF := (Entails.of_eq (big2 (Fund (F := F) c))) $$ HF
  unfold Fund
  icases H with ⟨⟨C0, C1⟩, ⟨S0, S1, S2, S3⟩, ⟨R0, R1, R2, R3⟩⟩
  icases HS with ⟨K0, K1, K2, K3⟩
  icases HF with ⟨⟨D0, I0, O0⟩, ⟨D1, I1, O1⟩⟩
  ihave C0 := (Entails.of_eq (show fresh (creditCell c 0) = iprop(atPos ER (creditCell c 0) 0 ∅ 0 ∗ reached ER (creditCell c 0) 0) from rfl)) $$ C0
  ihave C1 := (Entails.of_eq (show fresh (creditCell c 1) = iprop(atPos ER (creditCell c 1) 0 ∅ 0 ∗ reached ER (creditCell c 1) 0) from rfl)) $$ C1
  icases C0 with ⟨C0, #G0⟩
  icases C1 with ⟨C1, #G1⟩
  imodintro
  iexists κ; iexists ιs
  isplitr; · iexact Hc
  isplitl [S0 S1 S2 S3 R0 R1 R2 R3 K0 K1 K2 K3]
  · isplitl [S0 R0 K0]
    · iapply (begin_intro c 0)
      isplitl [S0]; · iexact S0
      isplitl [R0]; · iexact R0
      iexact K0
    isplitl [S1 R1 K1]
    · iapply (begin_intro c 1)
      isplitl [S1]; · iexact S1
      isplitl [R1]; · iexact R1
      iexact K1
    isplitl [S2 R2 K2]
    · iapply (begin_intro c 2)
      isplitl [S2]; · iexact S2
      isplitl [R2]; · iexact R2
      iexact K2
    iapply (begin_intro c 3)
    isplitl [S3]; · iexact S3
    isplitl [R3]; · iexact R3
    iexact K3
  isplitl [D0 D1]
  · unfold Shake
    isplitl [D0]
    · isplitl [D0]; · iexact D0
      isplitr; · iapply (reached_bar (F := F) (prevD 0 c)); iexact HB
      iexact G1
    isplitl [D1]; · iexact D1
    isplitr; · iapply (reached_bar (F := F) (prevD 1 c)); iexact HB
    iexact G0
  isplitl [C0 C1 I0 I1 O0 O1]
  · isplitl [C0 I0 O0]
    · iapply (purse_intro c 0)
      isplitl [C0]; · iexact C0
      isplitl [I0]; · iexact I0
      iexact O0
    iapply (purse_intro c 1)
    isplitl [C1]; · iexact C1
    isplitl [I1]; · iexact I1
    iexact O1
  iexact HA

end Cert.Proof

end
-- ==== Proof.Deal.lean ====
/-
  What the launch deals: each device the credit of what its neighbours owe it, the tokens of the duties it pays, and its
  counts on the slots.
-/
module

public import proofs.«01_k».proof.Proof.Enter
public import Idealize.ShloMosaic.Lib.Pipeline.Launch

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (c : Dev nD)

/-! ## The launch credit -/

theorem cred_recv (b : Fin 4) (t : ℕ) : (Pipeline.launchCred (fun d => recvTally b d t) c : sProp 𝕄) ⊢ credIn b c t :=
  Pipeline.launchCred_tallyAt (.dma (recvS b (k3 (t + 1)))) (peer b) (prev b) (peer_prev b) (fun d => prevD_peerD _ d) t N c
theorem cred_credit (e : Fin 2) (s : ℕ) : (Pipeline.launchCred (fun d => credTally e d s) c : sProp 𝕄) ⊢ crIn e c s :=
  Pipeline.launchCred_tallyAt (.reg (creditS e)) (prevD e) (peerD e) (prevD_peerD e) (peerD_prevD e) s 1 c
theorem cred_bar (e : Fin 2) : (Pipeline.launchCred (fun d => barTally e d) c : sProp 𝕄) ⊢ cred (tallyAt (barCell c) 0 1) :=
  Pipeline.launchCred_tallyAt (.reg barS) (prevD e) (peerD e) (prevD_peerD e) (peerD_prevD e) 0 1 c

/-- What the credits of a step, owed by its neighbours, give a device. -/
theorem cred_credOwed {t : ℕ} (h : t < nCred) : (Pipeline.launchCred (fun d => credOwed d t) c : sProp 𝕄) ⊢ iprop(crIn 1 c t ∗ crIn 0 c t) := by
  have e : (fun d => credOwed d t) = fun d => credTally 1 d t + credTally 0 d t := funext fun d => if_pos h
  rw [e, Pipeline.launchCred_add]
  iintro ⟨H1, H0⟩
  isplitl [H1]
  · iapply (cred_credit (F := F) c 1 t); iexact H1
  · iapply (cred_credit (F := F) c 0 t); iexact H0

theorem cred_step (t : ℕ) : (Pipeline.launchCred (fun d => stepOwed d t) c : sProp 𝕄)
    ⊢ iprop(Pipeline.launchCred (fun d => credOwed d t) c ∗ credIn 3 c t ∗ credIn 2 c t ∗ credIn 1 c t ∗ credIn 0 c t) := by
  unfold stepOwed
  rw [Pipeline.launchCred_add, Pipeline.launchCred_add, Pipeline.launchCred_add, Pipeline.launchCred_add]
  iintro ⟨⟨⟨⟨HC, H3⟩, H2⟩, H1⟩, H0⟩
  isplitl [HC]; · iexact HC
  isplitl [H3]; · iapply (cred_recv (F := F) c 3 t); iexact H3
  isplitl [H2]; · iapply (cred_recv (F := F) c 2 t); iexact H2
  isplitl [H1]; · iapply (cred_recv (F := F) c 1 t); iexact H1
  iapply (cred_recv (F := F) c 0 t); iexact H0

/-- All a device's credit at launch. -/
def Credits : sProp 𝕄 :=
  iprop(cred (tallyAt (barCell c) 0 2)
    ∗ bigSep Finset.univ (fun b : Fin 4 => bigSep (Finset.range nStep) (credIn b c))
    ∗ bigSep Finset.univ (fun d : Fin 2 => bigSep (Finset.range nCred) (crIn d c)))

theorem creds : (Pipeline.launchCred O₀ c : sProp 𝕄) ⊢ Credits c := by
  have e : (O₀ : Dev nD → CellTallies nD τ sig ℕ) = fun d => (∑ s ∈ Finset.Ico 0 nStep, stepOwed d s) + barTally 1 d + barTally 0 d := rfl
  have hs : bigSep (Finset.range nStep) (fun t => (Pipeline.launchCred (fun d => stepOwed d t) c : sProp 𝕄))
      ⊢ bigSep (Finset.range nStep) (fun t => iprop(Pipeline.launchCred (fun d => credOwed d t) c ∗ credIn 3 c t ∗ credIn 2 c t ∗ credIn 1 c t ∗ credIn 0 c t)) :=
    bigSep_mono fun t _ => cred_step c t
  have hsub : bigSep (Finset.range nStep) (fun t => (Pipeline.launchCred (fun d => credOwed d t) c : sProp 𝕄))
      ⊢ bigSep (Finset.range nCred) (fun t => (Pipeline.launchCred (fun d => credOwed d t) c : sProp 𝕄)) :=
    bigSep_subset (Finset.range_subset_range.mpr (by decide))
  have hc : bigSep (Finset.range nCred) (fun t => (Pipeline.launchCred (fun d => credOwed d t) c : sProp 𝕄))
      ⊢ bigSep (Finset.range nCred) (fun t => iprop(crIn 1 c t ∗ crIn 0 c t)) :=
    bigSep_mono fun t ht => cred_credOwed c (Finset.mem_range.mp ht)
  have hbar : iprop(cred (tallyAt (barCell c) 0 1) ∗ cred (tallyAt (barCell c) 0 1)) ⊢ (cred (tallyAt (barCell c) 0 2) : sProp 𝕄) := by
    rw [show (2 : ℕ) = 1 + 1 from rfl, ← tallyAt_add]; exact (cred_add _ _).2
  rw [e, Pipeline.launchCred_add (fun d => (∑ s ∈ Finset.Ico 0 nStep, stepOwed d s) + barTally 1 d),
    Pipeline.launchCred_add (fun d => ∑ s ∈ Finset.Ico 0 nStep, stepOwed d s), Pipeline.launchCred_sum, ← Finset.range_eq_Ico]
  unfold Credits
  rw [big4, big2]
  iintro ⟨⟨HS, B1⟩, B0⟩
  ihave B1 := (cred_bar (F := F) c 1) $$ B1
  ihave B0 := (cred_bar (F := F) c 0) $$ B0
  isplitl [B1 B0]
  · iapply hbar; isplitl [B1] <;> iassumption
  ihave HS := hs $$ HS
  ihave HS := pairDown $$ HS; icases HS with ⟨HC, HS⟩
  ihave HS := pairDown $$ HS; icases HS with ⟨H3, HS⟩
  ihave HS := pairDown $$ HS; icases HS with ⟨H2, HS⟩
  ihave HS := pairDown $$ HS; icases HS with ⟨H1, H0⟩
  isplitl [H0 H1 H2 H3]
  · isplitl [H0]; · iexact H0
    isplitl [H1]; · iexact H1
    isplitl [H2]; · iexact H2
    iexact H3
  ihave HC := hsub $$ HC
  ihave HC := hc $$ HC
  ihave HC := pairDown $$ HC; icases HC with ⟨C1, C0⟩
  isplitl [C0]; · iexact C0
  iexact C1

/-! ## The tokens -/

theorem step_inj {t t' : ℕ} (h : k3 t = k3 t') (h' : t / 3 = t' / 3) : t = t' := by
  have := congrArg Fin.val h
  simp only [k3] at this
  omega
theorem k3_succ_inj {t t' : ℕ} (h : k3 (t + 1) = k3 (t' + 1)) : k3 t = k3 t' := by
  have := congrArg Fin.val h
  simp only [k3] at this
  exact Fin.ext (by simp only [k3]; omega)

theorem sendS_inj {b b' : Fin 4} {k k' : Fin 3} (h : (SemLoc.dma (sendS b k) : SemLoc sig) = .dma (sendS b' k')) : b = b' ∧ k = k' := by
  have := osem_inj (a₁ := .inr (.inl (b, k))) (a₂ := .inr (.inl (b', k'))) h
  simpa using this
theorem recvS_inj {b b' : Fin 4} {k k' : Fin 3} (h : (SemLoc.dma (recvS b k) : SemLoc sig) = .dma (recvS b' k')) : b = b' ∧ k = k' := by
  have := osem_inj (a₁ := .inr (.inr (b, k))) (a₂ := .inr (.inr (b', k'))) h
  simpa using this
theorem creditS_inj {d d' : Fin 2} (h : (SemLoc.reg (creditS d) : SemLoc sig) = .reg (creditS d')) : d = d' := by
  have := osem_inj (a₁ := .inl d) (a₂ := .inl d') h
  simpa using this

/-- The token of the copy's source, -/
def sendTok (x : Key) : GSem nD τ sig × ℕ × ℕ := (sendCell x.1 x.2.1 (k3 x.2.2), x.2.2 / 3, 0)
/-- that of its destination, -/
def recvTok (x : Key) : GSem nD τ sig × ℕ × ℕ := (recvCell x.1 x.2.1 (k3 (x.2.2 + 1)), x.2.2 / 3, 0)
/-- that of a credit, -/
def credTok (x : Dev nD × Fin 2 × ℕ) : GSem nD τ sig × ℕ × ℕ := (creditCell x.1 x.2.1, 0, x.2.2)
/-- and that of a barrier signal. -/
def barTok (x : Dev nD × Fin 2) : GSem nD τ sig × ℕ × ℕ := (barCell x.1, 0, x.2.val)

theorem sendTok_inj : Function.Injective sendTok := fun ⟨c, b, t⟩ ⟨c', b', t'⟩ h => by
  obtain ⟨h1, h2⟩ := tc_inj (congrArg Prod.fst h)
  obtain ⟨h3, h4⟩ := sendS_inj h2
  have h5 := step_inj h4 (congrArg (fun x : GSem nD τ sig × ℕ × ℕ => x.2.1) h)
  exact Prod.ext h1 (Prod.ext h3 h5)
theorem recvTok_inj : Function.Injective recvTok := fun ⟨c, b, t⟩ ⟨c', b', t'⟩ h => by
  obtain ⟨h1, h2⟩ := tc_inj (congrArg Prod.fst h)
  obtain ⟨h3, h4⟩ := recvS_inj h2
  have h5 := step_inj (k3_succ_inj h4) (congrArg (fun x : GSem nD τ sig × ℕ × ℕ => x.2.1) h)
  exact Prod.ext h1 (Prod.ext h3 h5)
theorem credTok_inj : Function.Injective credTok := fun ⟨c, d, s⟩ ⟨c', d', s'⟩ h => by
  obtain ⟨h1, h2⟩ := tc_inj (congrArg Prod.fst h)
  exact Prod.ext h1 (Prod.ext (creditS_inj h2) (congrArg (fun x : GSem nD τ sig × ℕ × ℕ => x.2.2) h))
theorem barTok_inj : Function.Injective barTok := fun ⟨c, d⟩ ⟨c', d'⟩ h => by
  obtain ⟨h1, -⟩ := tc_inj (congrArg Prod.fst h)
  exact Prod.ext h1 (Fin.ext (congrArg (fun x : GSem nD τ sig × ℕ × ℕ => x.2.2) h))

def sendToks : Finset (GSem nD τ sig × ℕ × ℕ) := keys.map ⟨sendTok, sendTok_inj⟩
def recvToks : Finset (GSem nD τ sig × ℕ × ℕ) := keys.map ⟨recvTok, recvTok_inj⟩
def credToks : Finset (GSem nD τ sig × ℕ × ℕ) := (Finset.univ ×ˢ (Finset.univ ×ˢ Finset.range nCred)).map ⟨credTok, credTok_inj⟩
def barToks : Finset (GSem nD τ sig × ℕ × ℕ) := (Finset.univ ×ˢ Finset.univ).map ⟨barTok, barTok_inj⟩
/-- Every token of the protocol. -/
def allToks : Finset (GSem nD τ sig × ℕ × ℕ) := sendToks ∪ (recvToks ∪ (credToks ∪ barToks))

theorem osem_ne_bar : ∀ o : Own, osem o ≠ .reg barS := by decide

theorem dma_ne_reg {s s'} : (SemLoc.dma s : SemLoc sig) ≠ .reg s' := nofun

/-- Two families of tokens on different semaphores are disjoint. -/
theorem toks_disjoint {α β : Type} {S : Finset α} {S' : Finset β} {f : α ↪ GSem nD τ sig × ℕ × ℕ} {g : β ↪ GSem nD τ sig × ℕ × ℕ}
    (h : ∀ a b, (f a).1.2 ≠ (g b).1.2) : Disjoint (S.map f) (S'.map g) := by
  rw [Finset.disjoint_left]
  rintro x h₁ h₂
  obtain ⟨a, -, rfl⟩ := Finset.mem_map.mp h₁
  obtain ⟨b, -, e⟩ := Finset.mem_map.mp h₂
  exact h a b (congrArg (fun x : GSem nD τ sig × ℕ × ℕ => x.1.2) e).symm

theorem disjoint_cred_bar : Disjoint credToks barToks := toks_disjoint fun a _ => osem_ne_bar (.inl a.2.1)
theorem disjoint_recv : Disjoint recvToks (credToks ∪ barToks) :=
  Finset.disjoint_union_right.mpr ⟨toks_disjoint fun _ _ => dma_ne_reg, toks_disjoint fun _ _ => dma_ne_reg⟩
theorem disjoint_send : Disjoint sendToks (recvToks ∪ (credToks ∪ barToks)) :=
  Finset.disjoint_union_right.mpr ⟨toks_disjoint fun a b h => by
      have := osem_inj (a₁ := .inr (.inl (a.2.1, k3 a.2.2))) (a₂ := .inr (.inr (b.2.1, k3 (b.2.2 + 1)))) h
      simp at this,
    Finset.disjoint_union_right.mpr ⟨toks_disjoint fun _ _ => dma_ne_reg, toks_disjoint fun _ _ => dma_ne_reg⟩⟩

theorem disjoint_cells : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- A run over a product, outer index first. -/
theorem bigSep_prod' {α β : Type} [DecidableEq α] [DecidableEq β] (S : Finset α) (T : Finset β) (Φ : α × β → sProp 𝕄) :
    bigSep (S ×ˢ T) Φ = bigSep S fun a => bigSep T fun b => Φ (a, b) := by
  induction S using Finset.induction_on with
  | empty => rw [Finset.empty_product, bigSep_empty, bigSep_empty]
  | insert a S ha ih =>
    have hd : Disjoint (({a} : Finset α) ×ˢ T) (S ×ˢ T) := Finset.disjoint_product.mpr (.inl (Finset.disjoint_singleton_left.mpr ha))
    rw [bigSep_insert ha, Finset.insert_eq, Finset.union_product, bigSep_union hd, ih, Finset.singleton_product, bigSep_map]
    rfl

theorem over_keys (Φ : Dev nD → Fin 4 → ℕ → sProp 𝕄) :
    bigSep keys (fun k => Φ k.1 k.2.1 k.2.2) = bigSep Finset.univ fun c => bigSep Finset.univ fun b => bigSep (Finset.range nStep) (Φ c b) := by
  unfold keys
  rw [bigSep_prod']
  exact bigSep_congr fun c _ => bigSep_prod' _ _ _

/-- Over devices and streams, the devices read from the peers. -/
theorem around_peer (Φ : Dev nD → Fin 4 → sProp 𝕄) :
    (bigSep Finset.univ fun c : Dev nD => bigSep Finset.univ fun b : Fin 4 => Φ c b)
      ⊢ bigSep Finset.univ fun c : Dev nD => bigSep Finset.univ fun b : Fin 4 => Φ (peer b c) b := by
  rw [bigSep_univ_comm, bigSep_univ_comm (fun c b => Φ (peer b c) b)]
  exact Entails.of_eq (bigSep_congr fun b _ => bigSep_univ_equiv (ring (dirOf b)) fun c => Φ c b)
/-- Over devices and directions, the devices read from those behind. -/
theorem around_prev (Φ : Dev nD → Fin 2 → sProp 𝕄) :
    (bigSep Finset.univ fun c : Dev nD => bigSep Finset.univ fun d : Fin 2 => Φ c d)
      ⊢ bigSep Finset.univ fun c : Dev nD => bigSep Finset.univ fun d : Fin 2 => Φ (prevD d c) d := by
  rw [bigSep_univ_comm, bigSep_univ_comm (fun c d => Φ (prevD d c) d)]
  exact Entails.of_eq (bigSep_congr fun d _ => bigSep_univ_equiv (ring d).symm fun c => Φ c d)

/-- All tokens, each with the device that uses it. -/
theorem toks_deal : bigSep allToks (fun x => (dutyTok ER x.1 x.2.1 x.2.2 : sProp 𝕄))
    ⊢ iprop((bigSep Finset.univ fun c : Dev nD => bigSep Finset.univ fun b : Fin 4 => bigSep (Finset.range nStep) fun t => dutyTok ER (sendCell c b (k3 t)) (t / 3) 0)
      ∗ (bigSep Finset.univ fun c : Dev nD => bigSep Finset.univ fun b : Fin 4 => bigSep (Finset.range nStep) fun t => dutyTok ER (recvCell (peer b c) b (k3 (t + 1))) (t / 3) 0)
      ∗ (bigSep Finset.univ fun c : Dev nD => bigSep Finset.univ fun d : Fin 2 => bigSep (Finset.range nCred) (crOut d c))
      ∗ (bigSep Finset.univ fun c : Dev nD => bigSep Finset.univ fun d : Fin 2 => dutyTok ER (barCell (prevD d c)) 0 d.val)) := by
  unfold allToks
  rw [bigSep_union disjoint_send, bigSep_union disjoint_recv, bigSep_union disjoint_cred_bar]
  unfold sendToks recvToks credToks barToks
  rw [bigSep_map, bigSep_map, bigSep_map, bigSep_map]
  have h1 := over_keys (F := F) fun c b t => dutyTok ER (sendCell c b (k3 t)) (t / 3) 0
  have h2 := over_keys (F := F) fun c b t => dutyTok ER (recvCell c b (k3 (t + 1))) (t / 3) 0
  have h2' := around_peer (F := F) fun c b => bigSep (Finset.range nStep) fun t => dutyTok ER (recvCell c b (k3 (t + 1))) (t / 3) 0
  have h3 : bigSep ((Finset.univ : Finset (Dev nD)) ×ˢ ((Finset.univ : Finset (Fin 2)) ×ˢ Finset.range nCred)) (fun x => (dutyTok ER (creditCell x.1 x.2.1) 0 x.2.2 : sProp 𝕄))
      = bigSep Finset.univ fun c => bigSep Finset.univ fun d => bigSep (Finset.range nCred) fun s => dutyTok ER (creditCell c d) 0 s := by
    rw [bigSep_prod']; exact bigSep_congr fun c _ => bigSep_prod' _ _ _
  have h3' := around_prev (F := F) fun c d => bigSep (Finset.range nCred) fun s => dutyTok ER (creditCell c d) 0 s
  have h4 : bigSep ((Finset.univ : Finset (Dev nD)) ×ˢ (Finset.univ : Finset (Fin 2))) (fun x => (dutyTok ER (barCell x.1) 0 x.2.val : sProp 𝕄))
      = bigSep Finset.univ fun c => bigSep Finset.univ fun d : Fin 2 => dutyTok ER (barCell c) 0 d.val := bigSep_prod' _ _ _
  have h4' := around_prev (F := F) fun c d => dutyTok ER (barCell c) 0 d.val
  exact BIClass.sep_mono (Entails.of_eq h1) (BIClass.sep_mono ((Entails.of_eq h2).trans h2') (BIClass.sep_mono ((Entails.of_eq h3).trans h3') ((Entails.of_eq h4).trans h4')))

end Cert.Proof

end
-- ==== Proof.Region.lean ====
/-
  The kernel's region of @main: what its windows hold, the body's obligation, and the region as a segment that talks with
  the other devices.
-/
module

public import proofs.«01_k».proof.Proof.Deal
public import proofs.«01_k».proof.Proof.Gen.KernelIdeal.Frame
public import Idealize.ShloMosaic.Lib.Pipeline.RegionTalk

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

/-! ## The end of the body -/

section Finish
variable (X : Fin 4 → Dev nD → Blk F) (κ : GSem nD τ sig → ℕ) (ιs : Key → ℕ) (c : Dev nD)

/-- Every semaphore at zero, the slots' buffers whole again and the own blocks back. -/
def Given : sProp 𝕄 :=
  iprop(semVal (barCell c) 0 ∗ Pipeline.ownSems0 osem c ∗ (bufAny c 0 ∗ bufAny c 1 ∗ bufAny c 2 ∗ bufAny c 3)
    ∗ (dataQ X fullShare 0 c 0 ∗ dataQ X fullShare 1 c 0 ∗ dataQ X fullShare 2 c 0 ∗ dataQ X fullShare 3 c 0))

theorem finish [∀ e, Nonempty (Elt F e)] :
    iprop(ctx X κ ιs ∗ (Leave X c 0 ∗ Leave X c 1 ∗ Leave X c 2 ∗ Leave X c 3) ∗ (Cr 0 c 15 ∗ Cr 1 c 15) ∗ atPos ER (barCell c) 1 ∅ 0)
      ⊢ (|={Set.univ}=> Given X c : sProp 𝕄) := by
  iintro ⟨#Hc, ⟨H0, H1, H2, H3⟩, ⟨C0, C1⟩, HB⟩
  imod (close_stream X κ ιs c 0) $$ [H0] with ⟨S0, B0, D0⟩
  · isplitr; · iexact Hc
    iexact H0
  imod (close_stream X κ ιs c 1) $$ [H1] with ⟨S1, B1, D1⟩
  · isplitr; · iexact Hc
    iexact H1
  imod (close_stream X κ ιs c 2) $$ [H2] with ⟨S2, B2, D2⟩
  · isplitr; · iexact Hc
    iexact H2
  imod (close_stream X κ ιs c 3) $$ [H3] with ⟨S3, B3, D3⟩
  · isplitr; · iexact Hc
    iexact H3
  imod (close_credit X κ ιs c 0) $$ [C0] with C0
  · isplitr; · iexact Hc
    iexact C0
  imod (close_credit X κ ιs c 1) $$ [C1] with C1
  · isplitr; · iexact Hc
    iexact C1
  imod (close_bar X κ ιs c) $$ [HB] with HB
  · isplitr; · iexact Hc
    iexact HB
  imodintro
  unfold Given
  isplitl [HB]; · iexact HB
  isplitl [S0 S1 S2 S3 C0 C1]
  · iapply (sems_own (F := F) c)
    isplitl [C0 C1]
    · isplitl [C0]; · iexact C0
      iexact C1
    isplitl [S0]; · iexact S0
    isplitl [S1]; · iexact S1
    isplitl [S2]; · iexact S2
    iexact S3
  isplitl [B0 B1 B2 B3]
  · isplitl [B0]; · iexact B0
    isplitl [B1]; · iexact B1
    isplitl [B2]; · iexact B2
    iexact B3
  isplitl [D0]; · iexact D0
  isplitl [D1]; · iexact D1
  isplitl [D2]; · iexact D2
  iexact D3

/-- What the body is entered with, but for the queries, the accumulators and what it owes. -/
theorem entry_blocks : iprop((Begin c 0 ∗ Begin c 1 ∗ Begin c 2 ∗ Begin c 3) ∗ (bufAny c 0 ∗ bufAny c 1 ∗ bufAny c 2 ∗ bufAny c 3)
      ∗ (dataQ X fullShare 0 c 0 ∗ dataQ X fullShare 1 c 0 ∗ dataQ X fullShare 2 c 0 ∗ dataQ X fullShare 3 c 0))
    ⊢ (iprop(Entry X c 0 ∗ Entry X c 1 ∗ Entry X c 2 ∗ Entry X c 3) : sProp 𝕄) := by
  have one (b : Fin 4) : iprop(Begin c b ∗ bufAny c b ∗ dataQ X fullShare b c 0) ⊢ (Entry X c b : sProp 𝕄) := by
    unfold Begin Entry
    iintro ⟨⟨HR, H0, H1⟩, HB, HD⟩
    isplitl [HR]; · iexact HR
    isplitl [H0]; · iexact H0
    isplitl [H1]; · iexact H1
    isplitl [HB]; · iapply (slots_split (F := F) c b); iexact HB
    iexact HD
  iintro ⟨⟨H0, H1, H2, H3⟩, ⟨B0, B1, B2, B3⟩, ⟨D0, D1, D2, D3⟩⟩
  isplitl [H0 B0 D0]
  · iapply (one 0)
    isplitl [H0]; · iexact H0
    isplitl [B0]; · iexact B0
    iexact D0
  isplitl [H1 B1 D1]
  · iapply (one 1)
    isplitl [H1]; · iexact H1
    isplitl [B1]; · iexact B1
    iexact D1
  isplitl [H2 B2 D2]
  · iapply (one 2)
    isplitl [H2]; · iexact H2
    isplitl [B2]; · iexact B2
    iexact D2
  iapply (one 3)
  isplitl [H3]; · iexact H3
  isplitl [B3]; · iexact B3
  iexact D3

theorem data_in (b : Fin 4) : (owns (c : Thread nD τ) (ownM b) fullShare (X b c) : sProp 𝕄) ⊢ dataQ X fullShare b c 0 := by
  rw [dataQ_zero]; exact .rfl
theorem data_out (b : Fin 4) : (dataQ X fullShare b c 0 : sProp 𝕄) ⊢ owns (c : Thread nD τ) (ownM b) fullShare (X b c) := by
  rw [dataQ_zero]; exact .rfl

/-- The body from its invariant and its windows to the same. -/
theorem body_whole [∀ e, Nonempty (Elt F e)] (fq : QBlk F) (o : OBlk F) {Q : Unit → sProp 𝕄} :
    iprop(Xk X c ∗ (bufAny c 0 ∗ bufAny c 1 ∗ bufAny c 2 ∗ bufAny c 3) ∗ (∃ l, atL c l) ∗ owe c (O₀ c)
        ∗ (atQ c fq ∗ atO c o) ∗ (dataQ X fullShare 0 c 0 ∗ dataQ X fullShare 1 c 0 ∗ dataQ X fullShare 2 c 0 ∗ dataQ X fullShare 3 c 0))
      ⊢ iprop(((Given X c ∗ (∃ l, atL c l) ∗ owe c 0 ∗ (atQ c fq ∗ atO c (outO X c fq))) -∗ Q ⟨⟩)
          -∗ run c (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14) Q) := by
  unfold Xk
  iintro ⟨⟨%κ, %ιs, #Hc, HG, HS, HP, HB⟩, HF, ⟨%l, HL⟩, HW, ⟨HQ, HO⟩, HD⟩ Hk
  iapply (wp_fupd frame (wpE (defs₀ (F := F)) 𝒱₀ (c : Thread nD τ) none))
  iapply (body X κ ιs c fq l o) $$ [HG HF HD HS HP HB HQ HL HO HW]
  · isplitr; · iexact Hc
    isplitl [HG HF HD]
    · iapply (entry_blocks X c)
      isplitl [HG]; · iexact HG
      isplitl [HF]; · iexact HF
      iexact HD
    isplitl [HS]; · iexact HS
    isplitl [HP]; · iexact HP
    isplitl [HB]; · iexact HB
    isplitl [HQ HL HO]
    · isplitl [HQ]; · iexact HQ
      isplitl [HL]; · iexact HL
      iexact HO
    iexact HW
  iintro ⟨HV, HC, HB, ⟨HQ, HL, HO⟩, HW⟩
  imod (finish X κ ιs c) $$ [HV HC HB] with HG
  · isplitr; · iexact Hc
    isplitl [HV]; · iexact HV
    isplitl [HC]; · iexact HC
    iexact HB
  imodintro
  iapply Hk
  isplitl [HG]; · iexact HG
  isplitl [HL]; · iexists _; iexact HL
  isplitl [HW]; · iexact HW
  isplitl [HQ]; · iexact HQ
  iexact HO
end Finish

/-! ## The region's proof data -/

variable (m : (ℓ : Loc nD τ sig) → Buf (Elt F) ℓ) (c : Dev nD)

/-- The queries a device's window stages, -/
def stgQ : QBlk F := ((cfg0.win 0).blk t0_0).view.read (Elt F) (V m c main_v7)
/-- and the blocks of the four streams. -/
def stgX : Fin 4 → Dev nD → Blk F
  | 0, c => ((cfg0.win 1).blk t0_0).view.read (Elt F) (V m c main_v14)
  | 1, c => ((cfg0.win 3).blk t0_0).view.read (Elt F) (V m c main_v16)
  | 2, c => ((cfg0.win 2).blk t0_0).view.read (Elt F) (V m c main_v15)
  | 3, c => ((cfg0.win 4).blk t0_0).view.read (Elt F) (V m c main_v17)
/-- What the kernel leaves in its result's window. -/
def stgO : OBlk F := outO (stgX m) c (stgQ m c)

/-- The scratch buffers and the generator's register. -/
def Rest : sProp 𝕄 := iprop((bufAny c 0 ∗ bufAny c 1 ∗ bufAny c 2 ∗ bufAny c 3) ∗ (∃ l, atL c l) ∗ ∃ r, prngReg c r)
/-- The body's invariant before its one point, -/
def Φ₀ : sProp 𝕄 := iprop(Xk (stgX m) c ∗ Rest c)
/-- and after it. -/
def Φ₁ : sProp 𝕄 := iprop((semVal (barCell c) 0 ∗ Pipeline.ownSems0 osem c) ∗ Rest c)

def dat : Dat τ (Elt F) ℕ ℕ UU ℕ cfg0 c where
  A w := V m c (Pipeline.arrRef spec0 w)
  after w _ := match w with
    | ⟨0, _⟩ => stgQ m c
    | ⟨1, _⟩ => stgX m 0 c
    | ⟨2, _⟩ => stgX m 2 c
    | ⟨3, _⟩ => stgX m 1 c
    | ⟨4, _⟩ => stgX m 3 c
    | ⟨5, _⟩ => stgO m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m

theorem before0 (d) : (dat m c).before 0 t0_0 d = stgQ m c := by unfold Dat.before; rw [if_pos (fetch0_0 t0_0)]; rfl
theorem before1 (d) : (dat m c).before 1 t0_0 d = stgX m 0 c := by unfold Dat.before; rw [if_pos (fetch0_1 t0_0)]; rfl
theorem before2 (d) : (dat m c).before 2 t0_0 d = stgX m 2 c := by unfold Dat.before; rw [if_pos (fetch0_2 t0_0)]; rfl
theorem before3 (d) : (dat m c).before 3 t0_0 d = stgX m 1 c := by unfold Dat.before; rw [if_pos (fetch0_3 t0_0)]; rfl
theorem before4 (d) : (dat m c).before 4 t0_0 d = stgX m 3 c := by unfold Dat.before; rw [if_pos (fetch0_4 t0_0)]; rfl

theorem owed_first : (dat m c).owed t0_0.castSucc = O₀ c := by
  show (if (t0_0.castSucc : Fin (cfg0.N + 1)).val = 0 then O₀ c else 0) = O₀ c; exact if_pos rfl
theorem owed_succ : (dat m c).owed t0_0.succ = 0 := by
  show (if (t0_0.succ : Fin (cfg0.N + 1)).val = 0 then O₀ c else 0) = 0; exact if_neg (by rw [Fin.val_succ]; omega)
theorem owed_last : (pdats m 0 c).owed (Fin.last _) = 0 := by
  show (if (Fin.last cfg0.N).val = 0 then O₀ c else 0) = 0
  rw [Fin.val_last, if_neg (by rw [show cfg0.N = 1 from N_0]; decide)]
theorem Φ_first : (dat m c).Φ t0_0.castSucc = Φ₀ m c := by
  show (if (t0_0.castSucc : Fin (cfg0.N + 1)).val = 0 then Φ₀ m c else Φ₁ c) = _; exact if_pos rfl
theorem Φ_succ : (dat m c).Φ t0_0.succ = Φ₁ c := by
  show (if (t0_0.succ : Fin (cfg0.N + 1)).val = 0 then Φ₀ m c else Φ₁ c) = _; exact if_neg (by rw [Fin.val_succ]; omega)
theorem Φ_last : (pdats m 0 c).Φ (Fin.last _) = Φ₁ c := by
  show (if (Fin.last cfg0.N).val = 0 then Φ₀ m c else Φ₁ c) = _
  rw [Fin.val_last, if_neg (by rw [show cfg0.N = 1 from N_0]; decide)]

theorem owesAt_intro (t : Fin (cfg0.N + 1)) (O : CellTallies nD τ sig ℕ) (h : (dat m c).owed t = O) :
    (owe c O : sProp 𝕄) ⊢ (dat m c).owesAt 0 t := by
  unfold owe Dat.owesAt Pipeline.owesWithin Dat.bound; rw [h]
  iintro ⟨%W, HO⟩; iexists W; isplitr; · ipureintro; exact fun _ _ => Or.inl trivial
  iexact HO
theorem owesAt_elim (t : Fin (cfg0.N + 1)) (O : CellTallies nD τ sig ℕ) (h : (dat m c).owed t = O) :
    ((dat m c).owesAt 0 t : sProp 𝕄) ⊢ owe c O := by
  unfold owe Dat.owesAt Pipeline.owesWithin; rw [h]
  iintro ⟨%W, -, HO⟩; iexists W; iexact HO

omit [FloatOps F] in
theorem owns_whole_all (b : Ref sig .tc) (f : b.ty.Contents (Elt F)) :
    (owns (Ix := ℕ) (Name := ℕ) (U := UU) (Lvl := ℕ) (c : Thread nD τ) (Memref.whole b) fullShare f : sProp 𝕄)
      ⊢ ((Memref.whole b).view.loc (c : Thread nD τ) ↦[Finset.univ]{fullShare} f) := by
  unfold owns; simp only [Memref.view_whole, View.read_whole, View.set_whole]
  iintro ⟨%g, %h, H⟩
  subst h
  iexact H
omit [FloatOps F] in
theorem owns_whole_mk (b : Ref sig .tc) (f : b.ty.Contents (Elt F)) :
    ((Memref.whole b).view.loc (c : Thread nD τ) ↦[Finset.univ]{fullShare} f : sProp 𝕄)
      ⊢ owns (Ix := ℕ) (Name := ℕ) (U := UU) (Lvl := ℕ) (c : Thread nD τ) (Memref.whole b) fullShare f := by
  unfold owns; simp only [Memref.view_whole, View.read_whole, View.set_whole]
  iintro H
  iexists f
  isplitr; · ipureintro; rfl
  iexact H

omit [FloatOps F] in
theorem q_in (f : QBlk F) : (owns (Ix := ℕ) (Name := ℕ) (U := UU) (Lvl := ℕ) (c : Thread nD τ) (Memref.whole cc0_stg0_0) fullShare f : sProp 𝕄) ⊢ atQ c f := by
  unfold atQ; exact owns_whole_all c cc0_stg0_0 f
omit [FloatOps F] in
theorem q_out (f : QBlk F) : (atQ c f : sProp 𝕄) ⊢ owns (Ix := ℕ) (Name := ℕ) (U := UU) (Lvl := ℕ) (c : Thread nD τ) (Memref.whole cc0_stg0_0) fullShare f := by
  unfold atQ; exact owns_whole_mk c cc0_stg0_0 f
omit [FloatOps F] in
theorem o_in (f : OBlk F) : (owns (Ix := ℕ) (Name := ℕ) (U := UU) (Lvl := ℕ) (c : Thread nD τ) (Memref.whole cc0_stg5_0) fullShare f : sProp 𝕄) ⊢ atO c f := by
  unfold atO; exact owns_whole_all c cc0_stg5_0 f
omit [FloatOps F] in
theorem o_out (f : OBlk F) : (atO c f : sProp 𝕄) ⊢ owns (Ix := ℕ) (Name := ℕ) (U := UU) (Lvl := ℕ) (c : Thread nD τ) (Memref.whole cc0_stg5_0) fullShare f := by
  unfold atO; exact owns_whole_mk c cc0_stg5_0 f

theorem body_obligation [∀ e, Nonempty (Elt F e)] : BodyObligation (dat m c) (defs₀ (F := F)) 𝒱₀ 0 Set.univ := fun t => by
  obtain rfl := fin_N0 t
  rw [bigSep_W0, bigSep_W0, Φ_first, Φ_succ]
  unfold Φ₀ Φ₁ Rest
  iintro ⟨⟨HX, HB, HL, HP⟩, HW, ⟨%d0, W0⟩, ⟨%d1, W1⟩, ⟨%d2, W2⟩, ⟨%d3, W3⟩, ⟨%d4, W4⟩, ⟨%d5, W5⟩⟩
  ihave W0 := (Entails.of_eq (congrArg (owns (c : Thread nD τ) (Memref.whole cc0_stg0_0) fullShare) (before0 m c d0))) $$ W0
  ihave W1 := (Entails.of_eq (congrArg (owns (c : Thread nD τ) (Memref.whole cc0_stg1_0) fullShare) (before1 m c d1))) $$ W1
  ihave W2 := (Entails.of_eq (congrArg (owns (c : Thread nD τ) (Memref.whole cc0_stg2_0) fullShare) (before2 m c d2))) $$ W2
  ihave W3 := (Entails.of_eq (congrArg (owns (c : Thread nD τ) (Memref.whole cc0_stg3_0) fullShare) (before3 m c d3))) $$ W3
  ihave W4 := (Entails.of_eq (congrArg (owns (c : Thread nD τ) (Memref.whole cc0_stg4_0) fullShare) (before4 m c d4))) $$ W4
  ihave HW := (owesAt_elim m c _ _ (owed_first m c)) $$ HW
  ihave W0 := (q_in c (stgQ m c)) $$ W0
  ihave W5 := (o_in c ((dat m c).before 5 t0_0 d5)) $$ W5
  iapply (body_whole (stgX m) c (stgQ m c) ((dat m c).before 5 t0_0 d5)) $$ [HX HB HL HW W0 W1 W2 W3 W4 W5]
  · isplitl [HX]; · iexact HX
    isplitl [HB]; · iexact HB
    isplitl [HL]; · iexact HL
    isplitl [HW]; · iexact HW
    isplitl [W0 W5]
    · isplitl [W0]; · iexact W0
      iexact W5
    isplitl [W1]; · iapply (data_in (stgX m) c 0); iexact W1
    isplitl [W3]; · iapply (data_in (stgX m) c 1); iexact W3
    isplitl [W2]; · iapply (data_in (stgX m) c 2); iexact W2
    iapply (data_in (stgX m) c 3); iexact W4
  unfold Given
  iintro ⟨⟨HB, HS, HF, ⟨W1, W3, W2, W4⟩⟩, HL, HW, ⟨W0, W5⟩⟩
  ihave W1 := (data_out (stgX m) c 0) $$ W1
  ihave W2 := (data_out (stgX m) c 2) $$ W2
  ihave W3 := (data_out (stgX m) c 1) $$ W3
  ihave W4 := (data_out (stgX m) c 3) $$ W4
  isplitl [HB HS HF HL HP]
  · isplitl [HB HS]
    · isplitl [HB]; · iexact HB
      iexact HS
    isplitl [HF]; · iexact HF
    isplitl [HL]; · iexact HL
    iexact HP
  isplitl [HW]; · iapply (owesAt_intro m c _ _ (owed_succ m c)); iexact HW
  isplitl [W0]; · iapply (q_out c (stgQ m c)); iexact W0
  isplitl [W1]; · iexact W1
  isplitl [W2]; · iexact W2
  isplitl [W3]; · iexact W3
  isplitl [W4]; · iexact W4
  iapply (o_out c (stgO m c)); iexact W5

end Cert.Proof

end
-- ==== Proof.Segment.lean ====
/-
  The region of @main as a segment: it is entered with every array held at what the host operations left, and left with the
  result's array changed.
-/
module

public import proofs.«01_k».proof.Proof.Region

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (c : Dev nD)

/-- The arrays after the region: the result's holds what the kernel left. -/
def V1 : Valuation τ sig (Elt F) :=
  Function.update (V0 m c) (Proc.devRef .tc main_v18) ((dat m c).arrAt 5 (Pipeline.pin (pcfgs (F := F)) adm 0).N)

theorem V1_ne {b : Ref sig .tc} (h : b ≠ main_v18) : V1 m c (Proc.devRef .tc b) = V m c b :=
  Function.update_of_ne (StableHlo.devRef_ne_of_ne h) _ _

theorem arr_first (w) : (pdats m 0 c).arrAt w 0 = V0 m c (Proc.devRef .tc (Pipeline.arrRef (Pipeline.pin (pcfgs (F := F)) adm 0).spec w)) := rfl

theorem arr_last (w) : (pdats m 0 c).arrAt w (Pipeline.pin (pcfgs (F := F)) adm 0).N = V1 m c (Proc.devRef .tc (Pipeline.arrRef (Pipeline.pin (pcfgs (F := F)) adm 0).spec w)) :=
  match w with
  | ⟨0, _⟩ => ((dat m c).arrAt_in 0 rfl _).trans (V1_ne m c (b := main_v7) (by decide)).symm
  | ⟨1, _⟩ => ((dat m c).arrAt_in 1 rfl _).trans (V1_ne m c (b := main_v14) (by decide)).symm
  | ⟨2, _⟩ => ((dat m c).arrAt_in 2 rfl _).trans (V1_ne m c (b := main_v15) (by decide)).symm
  | ⟨3, _⟩ => ((dat m c).arrAt_in 3 rfl _).trans (V1_ne m c (b := main_v16) (by decide)).symm
  | ⟨4, _⟩ => ((dat m c).arrAt_in 4 rfl _).trans (V1_ne m c (b := main_v17) (by decide)).symm
  | ⟨5, _⟩ => (Function.update_self (Proc.devRef .tc main_v18 : DevRef τ sig) _ (V0 m c)).symm

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem above_O₀ : Above 0 (O₀ c) := by
  unfold O₀
  refine ((above_OA c (by decide)).add ?_).add ?_ <;>
    exact Above.tallyAt (by decide) (by rw [show lv _ 0 = 1 from lv_bar _ 0]; decide)

theorem cut_owed (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem stage_level : ∀ (w : Fin 6) (s : Fin (spec0 w).nbuf),
    (match cl (.dma ((spec0 w).sem s)) with | .bar => 1 | .credit _ => 3 | .recv _ _ => 2 | _ => 0) = 0 := by decide

omit [FloatOps F] in
/-- The scratch buffers, by stream, and the denominators'. -/
theorem scratch_eq : (Pipeline.scopedRest (Ix := ℕ) (Name := ℕ) (U := UU) (Lvl := ℕ) (Val := Elt F) spec0 c : sProp 𝕄)
    = iprop(bufAny c 0 ∗ bufAny c 1 ∗ bufAny c 2 ∗ bufAny c 3 ∗ (∃ l, atL c l)) := by
  rw [scopedRest0_eq]; unfold bufAny atL; rfl

theorem region_in : iprop(Pipeline.scopedRest (Pipeline.pin (pcfgs (F := F)) adm 0).spec c ∗ (∃ r, prngReg c r) ∗ StableHlo.held (c.tc : Thread nD τ) ∅ (V0 m c) ∗ Xk (stgX m) c)
    ⊢ (pdats m 0 c).Φ 0 := by
  rw [show (pdats m 0 c).Φ 0 = Φ₀ m c from Φ_first m c, show (Pipeline.pin (pcfgs (F := F)) adm 0).spec = spec0 from rfl, scratch_eq]
  unfold Φ₀ Rest
  iintro ⟨⟨B0, B1, B2, B3, HL⟩, HP, -, HX⟩
  isplitl [HX]; · iexact HX
  isplitl [B0 B1 B2 B3]
  · isplitl [B0]; · iexact B0
    isplitl [B1]; · iexact B1
    isplitl [B2]; · iexact B2
    iexact B3
  isplitl [HL]; · iexact HL
  iexact HP

/-- The barrier's counter at zero. -/
def Yk : sProp 𝕄 := semVal (barCell c) 0

omit [FloatOps F] in
theorem held_empty (W : Valuation τ sig (Elt F)) : (StableHlo.held (c.tc : Thread nD τ) ∅ W : sProp 𝕄) = BI.emp := by
  unfold StableHlo.held; exact BI.bigSep_empty

theorem region_out : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V1 m c) ∗ Pipeline.ownSems0 osem c ∗ Yk c) := by
  rw [show (pdats m 0 c).Φ (Fin.last (Pipeline.pin (pcfgs (F := F)) adm 0).N) = Φ₁ c from Φ_last m c, show (Pipeline.pin (pcfgs (F := F)) adm 0).spec = spec0 from rfl, scratch_eq, held_empty]
  unfold Φ₁ Rest Yk
  iintro ⟨⟨HB, HS⟩, ⟨B0, B1, B2, B3⟩, HL, HP⟩
  isplitl [B0 B1 B2 B3 HL]
  · isplitl [B0]; · iexact B0
    isplitl [B1]; · iexact B1
    isplitl [B2]; · iexact B2
    isplitl [B3]; · iexact B3
    iexact HL
  isplitl [HP]; · iexact HP
  isplitr; · iempintro
  isplitl [HS]; · iexact HS
  iexact HB

theorem share_eq (w) : (pdats m 0 c).share w = fullShare := by unfold Dat.share; split <;> rfl

/-- What no window names. -/
def others : Finset (DevRef τ sig) := Pipeline.ucRefs τ sig \ Pipeline.arrRefs spec0

theorem others_keep : ∀ b ∈ others \ ∅, V1 m c b = V0 m c b := fun b hb => by
  refine Function.update_of_ne (fun h => ?_) _ _
  refine (Finset.mem_sdiff.mp (Finset.mem_sdiff.mp hb).1).2 ?_
  subst h
  exact Finset.mem_map_of_mem ⟨Proc.devRef (sig := sig) .tc, Proc.devRef_injective _⟩ (Finset.mem_image_of_mem (Pipeline.arrRef spec0) (Finset.mem_univ (5 : Fin 6)))

set_option backward.isDefEq.respectTransparency.types false in
def reg [∀ e, Nonempty (Elt F e)] : Pipeline.RegionSeg (pcfgs (F := F)) adm (pdats m) 0 defs₀ 𝒱₀ L lv 0 :=
  Pipeline.RegionSeg.ofTalk (pcfgs (F := F)) adm (pdats m) 0 defs₀ 𝒱₀ L lv 0 osem (by decide : Pipeline.OwnSemFacts spec0 osem)
    ∅ others (Finset.empty_subset _) kit rfl (fun c => (body_obligation m c).loose)
    (fun _ => 0) O₀ (fun c => (zero_add (O₀ c)).symm) (owed_last m) (fun _ => rfl) (share_eq m)
    (V0 m) (V1 m) (others_keep m)
    (Tk (stgX m)) Yk (Xk (stgX m)) Yk (entry (stgX m)) (region_in m) (region_out m)
    (fun c => by iintro H; imodintro; iexact H)
    (fun _ => 0)
    ⟨fun c w s => by rw [L_tc]; exact Finset.mem_range.mpr (by decide),
      fun c w s => le_of_eq (stage_level w s),
      fun c t g i h => cut_owed m c t g i h⟩
    (fun _ => iprop(emp))
    (arr_first m) (arr_last m)

/-- What a device carries from the launch into the region beside its arrays. -/
def Carry : sProp 𝕄 := iprop(Tk (stgX m) c ∗ (∃ r, prngReg c r) ∗ owe c (O₀ c))

theorem held_arrays (W : Valuation τ sig (Elt F)) : (StableHlo.held (c.tc : Thread nD τ) (Pipeline.ucRefs τ sig) W : sProp 𝕄)
    = iprop(StableHlo.held (c.tc : Thread nD τ) (Pipeline.arrRefs spec0) W ∗ StableHlo.held (c.tc : Thread nD τ) others W) :=
  StableHlo.held_sub_split (c.tc : Thread nD τ) (Pipeline.arrRefs_sub_ucRefs spec0 launch0.win.arr_unscoped) W

theorem reg_pre [∀ e, Nonempty (Elt F e)] : iprop(StableHlo.held (c.tc : Thread nD τ) (Pipeline.ucRefs τ sig) (V0 m c) ∗ Carry m c) ⊢ (reg m).pre c := by
  show _ ⊢ iprop(StableHlo.held (c.tc : Thread nD τ) (Pipeline.arrRefs spec0) (V0 m c) ∗ (∃ r, prngReg c r)
    ∗ (StableHlo.held (c.tc : Thread nD τ) others (V0 m c) ∗ emp) ∗ Tk (stgX m) c ∗ ∃ Wd, owes (c : Thread nD τ) (0 + O₀ c) Wd)
  rw [held_arrays, zero_add]
  unfold Carry owe
  iintro ⟨⟨HA, HR⟩, HT, HP, HO⟩
  isplitl [HA]; · iexact HA
  isplitl [HP]; · iexact HP
  isplitl [HR]
  · isplitl [HR]; · iexact HR
    iempintro
  isplitl [HT]; · iexact HT
  iexact HO

theorem reg_post [∀ e, Nonempty (Elt F e)] : (reg m).post c
    ⊢ iprop(StableHlo.held (c.tc : Thread nD τ) (Pipeline.ucRefs τ sig) (V1 m c) ∗ (semVal (barCell c) 0 ∗ owe c 0)) := by
  show iprop(StableHlo.held (c.tc : Thread nD τ) (Pipeline.arrRefs spec0) (V1 m c) ∗ (∃ r, prngReg c r)
    ∗ (StableHlo.held (c.tc : Thread nD τ) others (V1 m c) ∗ emp) ∗ Yk c ∗ ∃ Wd, owes (c : Thread nD τ) (0 : CellTallies nD τ sig ℕ) Wd) ⊢ _
  rw [held_arrays]
  unfold Yk owe
  iintro ⟨HA, -, ⟨HR, -⟩, HB, HO⟩
  isplitl [HA HR]
  · isplitl [HA]; · iexact HA
    iexact HR
  isplitl [HB]; · iexact HB
  iexact HO

end Cert.Proof

end
-- ==== Proof.Launch.lean ====
/-
  The launch: every cell and slot allocated in one step, their tokens dealt, and each device's state at the start of @main.
-/
module

public import proofs.«01_k».proof.Proof.Segment

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- The launch element of the resource algebra. -/
def u₀ : UU :=
  (initOf (Pipeline.cells (Pipeline.pin (pcfgs (F := F)) adm) cellOf_inj) (Pipeline.launchToks (Pipeline.pin (pcfgs (F := F)) adm) cellOf_inj),
    (launchOf barCells ownCells allToks, initSlots keys 1))

/-- The protocol's part of it. -/
def ghost : sProp 𝕄 := iprop(own (ER (launchOf barCells ownCells allToks)) ∗ own (ES (initSlots keys 1)))

/-- A resource of all devices, kept by the first until the common step of the launch. -/
def onFirst (X : sProp 𝕄) (c : Dev nD) : sProp 𝕄 := if c = 0 then X else iprop(emp)
omit [FloatOps F] in
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-! ## What a device is dealt -/

/-- Its tokens, counts and credit, -/
def Dealt : sProp 𝕄 :=
  iprop((bigSep Finset.univ fun b : Fin 4 => bigSep (Finset.range nStep) fun t => dutyTok ER (sendCell c b (k3 t)) (t / 3) 0)
    ∗ (bigSep Finset.univ fun b : Fin 4 => bigSep (Finset.range nStep) fun t => dutyTok ER (recvCell (peer b c) b (k3 (t + 1))) (t / 3) 0)
    ∗ (bigSep Finset.univ fun d : Fin 2 => bigSep (Finset.range nCred) (crOut d c))
    ∗ (bigSep Finset.univ fun d : Fin 2 => dutyTok ER (barCell (prevD d c)) 0 d.val)
    ∗ (bigSep Finset.univ fun b : Fin 4 => bigSep (Finset.range nStep) fun t => readerAt ES (c, b, t) 0)
    ∗ (bigSep Finset.univ fun b : Fin 4 => bigSep (Finset.range nStep) fun t => writeTok ES (peer b c, b, t) 1)
    ∗ bigSep Finset.univ (fun o : Own => openTok ER ((c : Thread nD τ), osem o))
    ∗ atPos ER (barCell c) 0 ∅ 0)
/-- and what is its own from the start. -/
def Base : sProp 𝕄 :=
  iprop(StableHlo.held (c.tc : Thread nD τ) (Pipeline.ucRefs τ sig) (fun b => m (c, b)) ∗ Credits c ∗ owe c (O₀ c) ∗ ∃ r, prngReg c r)

/-- What every device may consult. -/
def records (κ : GSem nD τ sig → ℕ) (ιs : Key → ℕ) : sProp 𝕄 := iprop(ctx (stgX m) κ ιs ∗ bigSep barCells (fun g => reached ER g 0))
instance records_persistent (κ : GSem nD τ sig → ℕ) (ιs : Key → ℕ) : Persistent (records m κ ιs) := by unfold records; infer_instance

omit [FloatOps F] in
theorem stocks : iprop((bigSep Finset.univ fun b : Fin 4 => bigSep (Finset.range nStep) fun t => dutyTok ER (sendCell c b (k3 t)) (t / 3) 0)
    ∗ (bigSep Finset.univ fun b : Fin 4 => bigSep (Finset.range nStep) fun t => dutyTok ER (recvCell (peer b c) b (k3 (t + 1))) (t / 3) 0)
    ∗ (bigSep Finset.univ fun b : Fin 4 => bigSep (Finset.range nStep) (credIn b c))
    ∗ (bigSep Finset.univ fun b : Fin 4 => bigSep (Finset.range nStep) fun t => writeTok ES (peer b c, b, t) 1)
    ∗ (bigSep Finset.univ fun b : Fin 4 => bigSep (Finset.range nStep) fun t => readerAt ES (c, b, t) 0))
    ⊢ (bigSep Finset.univ (Stock c) : sProp 𝕄) := by
  unfold Stock tok
  simp only [bigSep_sep']
  iintro ⟨HS, HR, HC, HW, HA⟩
  isplitl [HS HR HC HW]
  · isplitl [HS]; · iexact HS
    isplitl [HR]; · iexact HR
    isplitl [HC]; · iexact HC
    iexact HW
  iexact HA

omit [FloatOps F] in
theorem funds : iprop((bigSep Finset.univ fun d : Fin 2 => dutyTok ER (barCell (prevD d c)) 0 d.val)
    ∗ (bigSep Finset.univ fun d : Fin 2 => bigSep (Finset.range nCred) (crIn d c))
    ∗ (bigSep Finset.univ fun d : Fin 2 => bigSep (Finset.range nCred) (crOut d c)))
    ⊢ (bigSep Finset.univ (Fund c) : sProp 𝕄) := by
  unfold Fund
  simp only [bigSep_sep']
  iintro ⟨HB, HI, HO⟩
  isplitl [HB]; · iexact HB
  isplitl [HI]; · iexact HI
  iexact HO

/-- A device's state at the start of @main. -/
abbrev T₀ : sProp 𝕄 := iprop(StableHlo.held (c.tc : Thread nD τ) (Pipeline.ucRefs τ sig) (fun b => m (c, b)) ∗ Carry m c)

theorem T₀_intro (κ : GSem nD τ sig → ℕ) (ιs : Key → ℕ) : iprop(records m κ ιs ∗ (Dealt c ∗ Base m c)) ⊢ T₀ m c := by
  unfold records Dealt Base T₀ Carry Credits Tk
  iintro ⟨⟨#HC, #HR⟩, ⟨TS, TR, TO, TB, HA, HW, HO, HP⟩, HM, ⟨CB, CI, CC⟩, HD, HG⟩
  isplitl [HM]; · iexact HM
  isplitl [TS TR TO TB HA HW HO HP CB CI CC]
  · iexists κ, ιs
    isplitr; · iexact HC
    isplitr; · iexact HR
    isplitl [HO]; · iexact HO
    isplitl [TS TR CI HW HA]
    · iapply (stocks (F := F) c)
      isplitl [TS]; · iexact TS
      isplitl [TR]; · iexact TR
      isplitl [CI]; · iexact CI
      isplitl [HW]; · iexact HW
      iexact HA
    isplitl [TB CC TO]
    · iapply (funds (F := F) c)
      isplitl [TB]; · iexact TB
      isplitl [CC]; · iexact CC
      iexact TO
    isplitl [HP]; · iexact HP
    iexact CB
  isplitl [HG]; · iexact HG
  iexact HD

/-! ## The common step -/

omit [FloatOps F] in
theorem unscopedSems0_eq : (unscopedSems0 c : sProp 𝕄) = semVal (barCell c) 0 := by
  unfold unscopedSems0
  rw [show (Finset.univ.filter fun sm : SemLoc sig => ¬ sm.isScoped .tc) = {SemLoc.reg barS} from by decide, bigSep_singleton]

theorem writes_deal : bigSep (keys ×ˢ Finset.range 1) (fun x => (writeTok ES x.1 (x.2 + 1) : sProp 𝕄))
    ⊢ bigSep Finset.univ fun c : Dev nD => bigSep Finset.univ fun b : Fin 4 => bigSep (Finset.range nStep) fun t => writeTok ES (peer b c, b, t) 1 := by
  have h0 : bigSep (keys ×ˢ Finset.range 1) (fun x => (writeTok ES x.1 (x.2 + 1) : sProp 𝕄)) = bigSep keys fun k => writeTok ES (k.1, k.2.1, k.2.2) 1 := by
    rw [bigSep_prod']
    exact bigSep_congr fun k _ => by rw [Finset.range_one, bigSep_singleton]
  have h1 := over_keys (F := F) fun c b t => writeTok ES (c, b, t) 1
  have h2 := around_peer (F := F) fun c b => bigSep (Finset.range nStep) fun t => writeTok ES (c, b, t) 1
  exact (Entails.of_eq (h0.trans h1)).trans h2
theorem readers_deal : bigSep keys (fun k => (readerAt ES k 0 : sProp 𝕄))
    ⊢ bigSep Finset.univ fun c : Dev nD => bigSep Finset.univ fun b : Fin 4 => bigSep (Finset.range nStep) fun t => readerAt ES (c, b, t) 0 :=
  Entails.of_eq (over_keys (F := F) fun c b t => readerAt ES (c, b, t) 0)
omit [FloatOps F] in
theorem opens_deal : bigSep ownCells (fun g => (openTok ER g : sProp 𝕄))
    ⊢ bigSep Finset.univ fun c : Dev nD => bigSep Finset.univ fun o : Own => openTok ER ((c : Thread nD τ), osem o) := by
  unfold ownCells
  rw [bigSep_map, bigSep_univ_prod]; exact .rfl
omit [FloatOps F] in
theorem bars_deal : bigSep barCells (fun g => (atPos ER g 0 ∅ 0 : sProp 𝕄)) ⊢ bigSep Finset.univ fun c : Dev nD => atPos ER (barCell c) 0 ∅ 0 := by
  unfold barCells
  rw [bigSep_map]; exact .rfl
omit [FloatOps F] in
theorem vals_join : (bigSep Finset.univ fun c : Dev nD => (semVal (barCell c) 0 : sProp 𝕄)) ⊢ bigSep barCells (fun g => semVal g 0) := by
  unfold barCells
  rw [bigSep_map]; exact .rfl

/-- What a device has at launch. -/
def Start (ρ : Dev nD → PrngReg) (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ onFirst ghost c)

theorem start_split : Start m ρ c ⊢ (iprop(Base m c ∗ (semVal (barCell c) 0 ∗ onFirst ghost c)) : sProp 𝕄) := by
  have hb : (unscopedBufs (Ix := ℕ) (Name := ℕ) (U := UU) (Lvl := ℕ) c (fun b => m ((c : Thread nD τ).loc b)) : sProp 𝕄)
      = StableHlo.held (c.tc : Thread nD τ) (Pipeline.ucRefs τ sig) (fun b => m (c, b)) := Pipeline.unscopedBufs_held c (fun b => m (c, b))
  unfold Start Base owe
  rw [hb, unscopedSems0_eq]
  iintro ⟨Hh, Hs, HO, Hc, Hp, HG⟩
  ihave Hc := (creds (F := F) c) $$ Hc
  isplitl [Hh HO Hc Hp]
  · isplitl [Hh]; · iexact Hh
    isplitl [Hc]; · iexact Hc
    isplitl [HO]; · iexists ∅; iexact HO
    iexists (ρ c); iexact Hp
  isplitl [Hs]; · iexact Hs
  iexact HG

/-- The common step: all invariants allocated, everything dealt. -/
theorem init : iprop(bigSep Finset.univ (Start m ρ) ∗ levAts L lv) ⊢ (|={Set.univ}=> bigSep Finset.univ (T₀ m) : sProp 𝕄) := by
  have hs : bigSep Finset.univ (Start m ρ) ⊢ (bigSep Finset.univ fun c => iprop(Base m c ∗ (semVal (barCell c) 0 ∗ onFirst ghost c)) : sProp 𝕄) :=
    bigSep_mono fun c _ => start_split m ρ c
  have hg : (bigSep Finset.univ (onFirst (ghost (F := F))) : sProp 𝕄) ⊢ ghost := Entails.of_eq (bigSep_onFirst _)
  have hdeal : iprop(bigSep Finset.univ Dealt ∗ bigSep Finset.univ (Base m)) ⊢ (bigSep Finset.univ fun c => iprop(Dealt c ∗ Base m c) : sProp 𝕄) := pairUp
  iintro ⟨H, #HL⟩
  ihave H := hs $$ H
  ihave H := pairDown $$ H; icases H with ⟨HB, H⟩
  ihave H := pairDown $$ H; icases H with ⟨Hv, HG⟩
  ihave HG := hg $$ HG
  ihave HG := (Entails.of_eq (show (ghost : sProp 𝕄) = iprop(own (ER (launchOf barCells ownCells allToks)) ∗ own (ES (initSlots keys 1))) from rfl)) $$ HG
  icases HG with ⟨HR, HS⟩
  ihave Hv := (vals_join (F := F)) $$ Hv
  imod (fund_launch ER (rd (stgX m)) disjoint_cells (fun g _ h => h) allToks) $$ [Hv HR] with ⟨%κ, -, #Hinv, #Hr, Hat, Hopen, Htok⟩
  · isplitl [Hv]; · iexact Hv
    iexact HR
  imod (slots_init ES keys 1 (keySlot (F := F))) $$ HS with ⟨%ιs, -, #Hslot, Hread, Hwrite⟩
  ihave Htok := (toks_deal (F := F)) $$ Htok
  icases Htok with ⟨T1, T2, T3, T4⟩
  ihave Hread := (readers_deal (F := F)) $$ Hread
  ihave Hwrite := (writes_deal (F := F)) $$ Hwrite
  ihave Hopen := (opens_deal (F := F)) $$ Hopen
  ihave Hat := (bars_deal (F := F)) $$ Hat
  imodintro
  iapply (bigSep_with_persistent (R := records m κ ιs) (Φ := fun c => iprop(Dealt c ∗ Base m c)) fun c _ => T₀_intro m c κ ιs)
  isplitr
  · unfold records ctx
    isplitr
    · isplitr; · iexact Hinv
      isplitr; · iexact Hslot
      iexact HL
    iexact Hr
  iapply hdeal
  isplitr [HB]
  · unfold Dealt
    iapply pairUp; isplitl [T1]; · iexact T1
    iapply pairUp; isplitl [T2]; · iexact T2
    iapply pairUp; isplitl [T3]; · iexact T3
    iapply pairUp; isplitl [T4]; · iexact T4
    iapply pairUp; isplitl [Hread]; · iexact Hread
    iapply pairUp; isplitl [Hwrite]; · iexact Hwrite
    iapply pairUp; isplitl [Hopen]; · iexact Hopen
    iexact Hat
  iexact HB

end Cert.Proof

end
-- ==== Proof.Run.lean ====
/-
  The run of @main on all devices, over any float values: it ends with the arguments unchanged, every semaphore at zero and the
  result at what the host operations make of the kernel's.
-/
module

public import proofs.«01_k».proof.Proof.Launch

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- The arrays at the end of @main. -/
def VN : Valuation τ sig (Elt F) := StableHlo.after hostOps1 (V1 m c)

theorem unwritten (b : Ref sig .tc) (h : b ≠ main_v18) (hw : (hostOps1 : List (HloOp τ sig (Elt F))).Forall fun op => Proc.devRef .tc b ∉ op.writes) :
    VN m c (Proc.devRef .tc b) = V m c b :=
  (StableHlo.after_of_forall_not_mem (b := Proc.devRef .tc b) _ _ (List.forall_iff_forall_mem.mp hw)).trans (V1_ne m c h)

theorem kept_arg0 : VN m c (Proc.devRef .tc main_arg0) = m ((c : Thread nD τ).loc main_arg0) :=
  (unwritten m c main_arg0 (by decide) (by
    simp only [hostOps1, List.Forall, StableHlo.unary_writes, StableHlo.binary_writes, StableHlo.reshape_writes, Finset.mem_singleton]
    repeat' apply And.intro
    all_goals exact StableHlo.devRef_ne_of_ne (by decide))).trans (V_main_arg0 m c)
theorem kept_arg1 : VN m c (Proc.devRef .tc main_arg1) = m ((c : Thread nD τ).loc main_arg1) :=
  (unwritten m c main_arg1 (by decide) (by
    simp only [hostOps1, List.Forall, StableHlo.unary_writes, StableHlo.binary_writes, StableHlo.reshape_writes, Finset.mem_singleton]
    repeat' apply And.intro
    all_goals exact StableHlo.devRef_ne_of_ne (by decide))).trans (V_main_arg1 m c)
theorem kept_arg2 : VN m c (Proc.devRef .tc main_arg2) = m ((c : Thread nD τ).loc main_arg2) :=
  (unwritten m c main_arg2 (by decide) (by
    simp only [hostOps1, List.Forall, StableHlo.unary_writes, StableHlo.binary_writes, StableHlo.reshape_writes, Finset.mem_singleton]
    repeat' apply And.intro
    all_goals exact StableHlo.devRef_ne_of_ne (by decide))).trans (V_main_arg2 m c)
theorem kept_arg3 : VN m c (Proc.devRef .tc main_arg3) = m ((c : Thread nD τ).loc main_arg3) :=
  (unwritten m c main_arg3 (by decide) (by
    simp only [hostOps1, List.Forall, StableHlo.unary_writes, StableHlo.binary_writes, StableHlo.reshape_writes, Finset.mem_singleton]
    repeat' apply And.intro
    all_goals exact StableHlo.devRef_ne_of_ne (by decide))).trans (V_main_arg3 m c)
theorem kept_arg4 : VN m c (Proc.devRef .tc main_arg4) = m ((c : Thread nD τ).loc main_arg4) :=
  (unwritten m c main_arg4 (by decide) (by
    simp only [hostOps1, List.Forall, StableHlo.unary_writes, StableHlo.binary_writes, StableHlo.reshape_writes, Finset.mem_singleton]
    repeat' apply And.intro
    all_goals exact StableHlo.devRef_ne_of_ne (by decide))).trans (V_main_arg4 m c)

/-- The host operations before the region, -/
def seg0 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (fun c b => m (c, b)) (Carry m)
/-- and after it. -/
def seg1 : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (List.forall_iff_forall_mem.mp hostOps1_fresh) (V1 m) (fun c => iprop(semVal (barCell c) 0 ∗ owe c 0))

def segs [∀ e, Nonempty (Elt F e)] : List (Pipeline.Seg (pcfgs (F := F)) adm (pdats m) 0 defs₀ 𝒱₀ L lv) :=
  [.host (seg0 m), .region (reg m), .host (seg1 m)]

theorem main_eq [∀ e, Nonempty (Elt F e)] : main (F := F) c = Pipeline.Seg.run (segs m) :=
  main_segs adm (pdats m) 0 𝒱₀ L lv (seg0 m) (seg1 m) (reg m) rfl rfl c

/-- A device's state at the end. -/
abbrev Tₙ : sProp 𝕄 := iprop(StableHlo.held (c.tc : Thread nD τ) (Pipeline.ucRefs τ sig) (VN m c) ∗ semVal (barCell c) 0)

omit [FloatOps F] in
theorem read_held {b : DevRef τ sig} (hb : b ∈ Pipeline.ucRefs τ sig) (W : Valuation τ sig (Elt F)) (s' : Phys nD τ sig (Elt F)) :
    iprop(StableHlo.held (c.tc : Thread nD τ) (Pipeline.ucRefs τ sig) W ∗ SI s') ⊢ (<pers> ⌜s'.mem.mem (c, b) = W b⌝ : sProp 𝕄) := by
  have hel : (StableHlo.held (c.tc : Thread nD τ) (Pipeline.ucRefs τ sig) W : sProp 𝕄) ⊢ (((c, b) : Loc nD τ sig) ↦{fullShare} W b) := by
    unfold StableHlo.held; exact bigSep_elim hb
  have hp : iprop(StableHlo.held (c.tc : Thread nD τ) (Pipeline.ucRefs τ sig) W ∗ SI s') ⊢ (⌜s'.mem.mem (c, b) = W b⌝ : sProp 𝕄) := by
    iintro ⟨H, HS⟩
    ihave H := hel $$ H
    icombine HS H gives %hx
    ipureintro
    exact Buf.eq_of_forall_mem_univ hx
  exact hp.trans Laws.persistently_pure.2

theorem mem_uc (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

theorem unscoped_eq : ∀ sm : SemLoc sig, sm.isScoped .tc = false → sm = .reg barS := by decide

/-- What is read at the end. -/
def QY (c : Dev nD) (s : MemSt nD τ sig (Elt F)) : Prop :=
  (s.mem (c, Proc.devRef .tc main_v22) = VN m c (Proc.devRef .tc main_v22)
    ∧ s.mem (c, Proc.devRef .tc main_arg0) = VN m c (Proc.devRef .tc main_arg0)
    ∧ s.mem (c, Proc.devRef .tc main_arg1) = VN m c (Proc.devRef .tc main_arg1)
    ∧ s.mem (c, Proc.devRef .tc main_arg2) = VN m c (Proc.devRef .tc main_arg2)
    ∧ s.mem (c, Proc.devRef .tc main_arg3) = VN m c (Proc.devRef .tc main_arg3)
    ∧ s.mem (c, Proc.devRef .tc main_arg4) = VN m c (Proc.devRef .tc main_arg4))
  ∧ s.sem (barCell c) = 0

theorem read_end (s' : Phys nD τ sig (Elt F)) : iprop(Tₙ m c ∗ SI s') ⊢ (|={Set.univ}=> iprop(⌜QY m c s'.mem⌝ ∗ SI s') : sProp 𝕄) := by
  iintro ⟨⟨HH, HB⟩, HSI⟩
  icombine HSI HB gives %hb
  ihave %h0 := (read_held c (mem_uc main_v22 rfl) (VN m c) s') $$ [HH HSI]
  · isplitl [HH] <;> iassumption
  ihave %h1 := (read_held c (mem_uc main_arg0 rfl) (VN m c) s') $$ [HH HSI]
  · isplitl [HH] <;> iassumption
  ihave %h2 := (read_held c (mem_uc main_arg1 rfl) (VN m c) s') $$ [HH HSI]
  · isplitl [HH] <;> iassumption
  ihave %h3 := (read_held c (mem_uc main_arg2 rfl) (VN m c) s') $$ [HH HSI]
  · isplitl [HH] <;> iassumption
  ihave %h4 := (read_held c (mem_uc main_arg3 rfl) (VN m c) s') $$ [HH HSI]
  · isplitl [HH] <;> iassumption
  ihave %h5 := (read_held c (mem_uc main_arg4 rfl) (VN m c) s') $$ [HH HSI]
  · isplitl [HH] <;> iassumption
  imodintro
  isplitr
  · ipureintro; exact ⟨⟨h0, h1, h2, h3, h4, h5⟩, by simpa using hb⟩
  iexact HSI

set_option backward.isDefEq.respectTransparency.types false in
/-- The run. -/
theorem run_main [∀ e, Nonempty (Elt F e)] : θ_run defs (onTc (τ := τ) (main (F := F))) ⟨m, fun _ => 0, ρ⟩
    (fun r => (∀ c : Dev nD, r.2.mem ((c : Thread nD τ).loc main_v22) = VN m c (Proc.devRef .tc main_v22)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := onFirst ghost) (u₀ := u₀)
    (hu₀ := by
      unfold u₀
      iintro Hu
      ihave H := (ownU_pair _ _) $$ Hu
      icases H with ⟨HP, HX⟩
      ihave HX := (own_pair_emb _ _ _) $$ HX
      imodintro
      isplitl [HP]; · iexact HP
      rw [bigSep_onFirst]; unfold ghost ER ES; iexact HX)
    (T₀ := T₀ m) (Tₙ := Tₙ m)
    (hch := by
      refine ⟨fun c => .rfl, fun c => reg_pre m c, fun c => reg_post m c, fun c => ?_⟩
      show iprop(StableHlo.held (c : Thread nD τ) (Pipeline.ucRefs τ sig) (VN m c) ∗ (semVal (barCell c) 0 ∗ owe c 0))
        ⊢ iprop(Tₙ m c ∗ ∃ W, owes (c : Thread nD τ) (0 : CellTallies nD τ sig ℕ) W)
      unfold owe
      iintro ⟨Hh, Hb0, HO⟩
      isplitr [HO]
      · isplitl [Hh] <;> iassumption
      · iexact HO)
    (hinit := init m ρ)
    (QY := QY m)
    (hfin := fun c s' => read_end m c s')
    (hQ := fun s h hs => ⟨fun c => by
        obtain ⟨⟨h0, h1, h2, h3, h4, h5⟩, -⟩ := h c
        exact ⟨h0, h1.trans (kept_arg0 m c), h2.trans (kept_arg1 m c), h3.trans (kept_arg2 m c), h4.trans (kept_arg3 m c), h5.trans (kept_arg4 m c)⟩,
      sem_eq_zero hs fun c sm hsm => by
        obtain rfl := unscoped_eq sm hsm
        exact (h c).2⟩)

end Cert.Proof

end
-- ==== Proof.HostValue.lean ====
/-
  The kernel's @main around the ring, over the extended reals, read at an index: what a device stages of its arguments, and its
  result as the product of the attention's output with the last weight.
-/
module

public import proofs.«01_k».proof.Proof.RingValue
public import proofs.«01_k».proof.Proof.RefValue
public import proofs.«01_k».proof.Proof.Run

@[expose] public section

set_option maxRecDepth 10000

noncomputable section

namespace Cert.Proof

open Cert.KernelIdeal Cert.KernelIdeal.Gen
open Cert.Proof.Ref (col hd ln scl)

open Idealize.ShloMosaic
open Idealize.ShloMosaic.TcCoe
open Idealize.ShloMosaic.ValueIdx
open Idealize.ShloMosaic.Pipeline (Dat)

/-! ## The product with a weight -/

abbrev dMM : DotDims S512x1024 S1024x1024 S512x1024 := dot_S512x1024_S1024x1024_S512x1024_1_0_0_1_n_n

theorem dMM_lhs0 (i : S512x1024.Idx) (q : dMM.contr.Idx) : (dMM.lhsIdx i q 0).val = (i 0).val := by
  unfold DotDims.lhsIdx
  rw [dif_neg (show ¬(0 : Fin S512x1024.rank) ∈ dMM.lhsBatch by decide), dif_pos (show (0 : Fin S512x1024.rank) ∈ dMM.lhsNonContracting by decide)]
  rfl
theorem dMM_rhs1 (i : S512x1024.Idx) (q : dMM.contr.Idx) : (dMM.rhsIdx i q 1).val = (i 1).val := by
  unfold DotDims.rhsIdx
  rw [dif_neg (show ¬(1 : Fin S1024x1024.rank) ∈ dMM.rhsBatch by decide), dif_pos (show (1 : Fin S1024x1024.rank) ∈ dMM.rhsNonContracting by decide)]
  rfl

theorem mm_apply (x : FVec Ideal S512x1024 .f32) (w : FVec Ideal S1024x1024 .f32) (i : Fin 512) (n : Fin 1024) :
    Host.dotGeneral (F := Ideal) dMM none x w (ix2 i n) = (∑ k : Fin 1024, x (ix2 i k) * w (ix2 k n) : EReal) := by
  simp only [Host.dotGeneral]
  rw [Ideal.dotGeneral_apply, ← Equiv.sum_comp (contrEquiv1 dMM 1024 rfl rfl).symm]
  refine Finset.sum_congr rfl fun k _ => ?_
  have hk := contrEquiv1_symm_val dMM 1024 rfl rfl k
  have el : dMM.lhsIdx (ix2 i n) ((contrEquiv1 dMM 1024 rfl rfl).symm k) = ix2 i k := funext fun a => Fin.ext (by
    match a with
    | ⟨0, _⟩ => exact dMM_lhs0 _ _
    | ⟨1, _⟩ => exact (dMM.lhsIdx_val_of_single rfl _ _).trans hk)
  have er : dMM.rhsIdx (ix2 i n) ((contrEquiv1 dMM 1024 rfl rfl).symm k) = ix2 k n := funext fun a => Fin.ext (by
    match a with
    | ⟨0, _⟩ => exact (dMM.rhsIdx_val_of_single rfl _ _).trans hk
    | ⟨1, _⟩ => exact dMM_rhs1 _ _)
  rw [el, er]

/-! ## Before the ring -/

/-- The query rows, head by head. -/
def qHost (a0 : FVec Ideal S1x512x1024 .f32) (a1 : FVec Ideal S1024x1024 .f32) : FVec Ideal S8x512x128 .f32 :=
  transpose S8x512x128 [1, 0, 2] (shapeCast S512x8x128
    (mulf (Host.dotGeneral dMM none (shapeCast S512x1024 a0 shapeCasts_S1x512x1024_S512x1024) a1)
      (broadcastInDim S512x1024 ![] bcast_S_S512x1024 (constant S_ .f32 0x3DB504F3#32)))
    shapeCasts_S512x1024_S512x8x128) transposes_S512x8x128_S8x512x128_1_0_2
/-- The keys or the values, head by head. -/
def kHost (a : FVec Ideal S1x2048x8x128 .f32) : FVec Ideal S8x2048x128 .f32 :=
  transpose S8x2048x128 [1, 0, 2] (shapeCast S2048x8x128 a shapeCasts_S1x2048x8x128_S2048x8x128) transposes_S2048x8x128_S8x2048x128_1_0_2

theorem qHost_at (a0 : FVec Ideal S1x512x1024 .f32) (a1 : FVec Ideal S1024x1024 .f32) (h : Fin 8) (i : Fin 512) (d : Fin 128) :
    qHost a0 a1 (ix3 h i d) = (∑ k : Fin 1024, a0 (ix3 z1 i k) * a1 (ix2 k (col h d))) * scl := by
  unfold qHost
  rw [transpose_apply [1, 0, 2] _ transposes_S512x8x128_S8x512x128_1_0_2 (ix3 h i d) (ix3 i h d) (fun b => by
      match b with
      | ⟨0, _⟩ => rfl
      | ⟨1, _⟩ => rfl
      | ⟨2, _⟩ => rfl),
    shapeCast_apply _ shapeCasts_S512x1024_S512x8x128 (ix3 i h d) (ix2 i (col h d))
      (by rw [Shape.rowMajor_val_two, Shape.rowMajor_val_three]; show i.val * 1024 + (h.val * 128 + d.val) = (i.val * 8 + h.val) * 128 + d.val; omega)]
  show Host.dotGeneral (F := Ideal) dMM none (shapeCast S512x1024 a0 shapeCasts_S1x512x1024_S512x1024) a1 (ix2 i (col h d)) * scl = _
  rw [mm_apply]
  refine congrArg (· * scl) (Finset.sum_congr rfl fun k _ => congrArg (· * a1 (ix2 k (col h d))) ?_)
  exact shapeCast_apply a0 shapeCasts_S1x512x1024_S512x1024 (ix2 i k) (ix3 z1 i k)
    (by rw [Shape.rowMajor_val_two, Shape.rowMajor_val_three]; show (0 * 512 + i.val) * 1024 + k.val = i.val * 1024 + k.val; omega)

theorem kHost_at (a : FVec Ideal S1x2048x8x128 .f32) (h : Fin 8) (j : Fin 2048) (d : Fin 128) : kHost a (ix3 h j d) = a (ix4 z1 j h d) := by
  unfold kHost
  rw [transpose_apply [1, 0, 2] _ transposes_S2048x8x128_S8x2048x128_1_0_2 (ix3 h j d) (ix3 j h d) (fun b => by
      match b with
      | ⟨0, _⟩ => rfl
      | ⟨1, _⟩ => rfl
      | ⟨2, _⟩ => rfl)]
  exact shapeCast_apply a shapeCasts_S1x2048x8x128_S2048x8x128 (ix3 j h d) (ix4 z1 j h d)
    (by rw [Shape.rowMajor_val_three, Shape.rowMajor_val_four]
        show ((0 * 2048 + j.val) * 8 + h.val) * 128 + d.val = (j.val * 8 + h.val) * 128 + d.val; omega)

set_option backward.proofsInPublic true in
/-- A key of a block's first half, -/
abbrev lo (j : Fin 1024) : Fin 2048 := ⟨j.val, by omega⟩
set_option backward.proofsInPublic true in
/-- and of its second. -/
abbrev hi (j : Fin 1024) : Fin 2048 := ⟨1024 + j.val, by omega⟩

theorem lo_at (x : FVec Ideal S8x2048x128 .f32) (h : Fin 8) (j : Fin 1024) (d : Fin 128) :
    extractStridedSlice S8x1024x128 ![0, 0, 0] x slices_S8x2048x128_S8x1024x128_0_0_0 (ix3 h j d) = x (ix3 h (lo j) d) :=
  extractStridedSlice_apply _ x slices_S8x2048x128_S8x1024x128_0_0_0 (ix3 h j d) (ix3 h (lo j) d) (fun a => by
    match a with
    | ⟨0, _⟩ => show h.val = 0 + h.val; omega
    | ⟨1, _⟩ => show j.val = 0 + j.val; omega
    | ⟨2, _⟩ => show d.val = 0 + d.val; omega)
theorem hi_at (x : FVec Ideal S8x2048x128 .f32) (h : Fin 8) (j : Fin 1024) (d : Fin 128) :
    extractStridedSlice S8x1024x128 ![0, 1024, 0] x slices_S8x2048x128_S8x1024x128_0_1024_0 (ix3 h j d) = x (ix3 h (hi j) d) :=
  extractStridedSlice_apply _ x slices_S8x2048x128_S8x1024x128_0_1024_0 (ix3 h j d) (ix3 h (hi j) d) (fun a => by
    match a with
    | ⟨0, _⟩ => show h.val = 0 + h.val; omega
    | ⟨1, _⟩ => show 1024 + j.val = 1024 + j.val; omega
    | ⟨2, _⟩ => show d.val = 0 + d.val; omega)

variable (m : (ℓ : Loc nD τ sig) → Buf (Elt Ideal) ℓ) (c : Dev nD)

/-- A device's arguments. -/
abbrev A0 : FVec Ideal S1x512x1024 .f32 := m ((c : Thread nD τ).loc main_arg0)
abbrev A1 : FVec Ideal S1024x1024 .f32 := m ((c : Thread nD τ).loc main_arg1)
abbrev A2 : FVec Ideal S1x2048x8x128 .f32 := m ((c : Thread nD τ).loc main_arg2)
abbrev A3 : FVec Ideal S1x2048x8x128 .f32 := m ((c : Thread nD τ).loc main_arg3)
abbrev A4 : FVec Ideal S1024x1024 .f32 := m ((c : Thread nD τ).loc main_arg4)

theorem V_v7 : V m c main_v7 = qHost (A0 m c) (A1 m c) := by
  show StableHlo.after hostOps0 (fun b => m (c, b)) (Proc.devRef .tc main_v7) = _
  after_results <;> rfl
theorem V_v14 : V m c main_v14 = extractStridedSlice S8x1024x128 ![0, 0, 0] (kHost (A2 m c)) slices_S8x2048x128_S8x1024x128_0_0_0 := by
  show StableHlo.after hostOps0 (fun b => m (c, b)) (Proc.devRef .tc main_v14) = _
  after_results <;> rfl
theorem V_v15 : V m c main_v15 = extractStridedSlice S8x1024x128 ![0, 1024, 0] (kHost (A2 m c)) slices_S8x2048x128_S8x1024x128_0_1024_0 := by
  show StableHlo.after hostOps0 (fun b => m (c, b)) (Proc.devRef .tc main_v15) = _
  after_results <;> rfl
theorem V_v16 : V m c main_v16 = extractStridedSlice S8x1024x128 ![0, 0, 0] (kHost (A3 m c)) slices_S8x2048x128_S8x1024x128_0_0_0 := by
  show StableHlo.after hostOps0 (fun b => m (c, b)) (Proc.devRef .tc main_v16) = _
  after_results <;> rfl
theorem V_v17 : V m c main_v17 = extractStridedSlice S8x1024x128 ![0, 1024, 0] (kHost (A3 m c)) slices_S8x2048x128_S8x1024x128_0_1024_0 := by
  show StableHlo.after hostOps0 (fun b => m (c, b)) (Proc.devRef .tc main_v17) = _
  after_results <;> rfl

/-! ## The windows are whole arrays -/

theorem blk0 (f : Buf (Elt Ideal) ((c : Thread nD τ).loc main_v7)) : ((cfg0.win 0).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem blk1 (f : Buf (Elt Ideal) ((c : Thread nD τ).loc main_v14)) : ((cfg0.win 1).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem blk2 (f : Buf (Elt Ideal) ((c : Thread nD τ).loc main_v15)) : ((cfg0.win 2).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem blk3 (f : Buf (Elt Ideal) ((c : Thread nD τ).loc main_v16)) : ((cfg0.win 3).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem blk4 (f : Buf (Elt Ideal) ((c : Thread nD τ).loc main_v17)) : ((cfg0.win 4).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem blk5 (f : Buf (Elt Ideal) ((c : Thread nD τ).loc main_v18)) : ((cfg0.win 5).blk t0_0).view.read (Elt Ideal) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))

/-- The staged queries, -/
theorem stgQ_at (h : Fin 8) (i : Fin 512) (d : Fin 128) : stgQ m c (ix3 h i d)
    = ((∑ k : Fin 1024, A0 m c (ix3 z1 i k) * A1 m c (ix2 k (col h d))) * scl : EReal) := by
  unfold stgQ
  rw [blk0, V_v7]
  exact qHost_at _ _ h i d
/-- and the four streams' blocks. -/
theorem stgX0_at (h : Fin 8) (j : Fin 1024) (d : Fin 128) : stgX m 0 c (ix3 h j d) = A2 m c (ix4 z1 (lo j) h d) := by
  show ((cfg0.win 1).blk t0_0).view.read (Elt Ideal) (V m c main_v14) (ix3 h j d) = _
  rw [blk1, V_v14]
  exact (lo_at _ h j d).trans (kHost_at _ h (lo j) d)
theorem stgX1_at (h : Fin 8) (j : Fin 1024) (d : Fin 128) : stgX m 1 c (ix3 h j d) = A3 m c (ix4 z1 (lo j) h d) := by
  show ((cfg0.win 3).blk t0_0).view.read (Elt Ideal) (V m c main_v16) (ix3 h j d) = _
  rw [blk3, V_v16]
  exact (lo_at _ h j d).trans (kHost_at _ h (lo j) d)
theorem stgX2_at (h : Fin 8) (j : Fin 1024) (d : Fin 128) : stgX m 2 c (ix3 h j d) = A2 m c (ix4 z1 (hi j) h d) := by
  show ((cfg0.win 2).blk t0_0).view.read (Elt Ideal) (V m c main_v15) (ix3 h j d) = _
  rw [blk2, V_v15]
  exact (hi_at _ h j d).trans (kHost_at _ h (hi j) d)
theorem stgX3_at (h : Fin 8) (j : Fin 1024) (d : Fin 128) : stgX m 3 c (ix3 h j d) = A3 m c (ix4 z1 (hi j) h d) := by
  show ((cfg0.win 4).blk t0_0).view.read (Elt Ideal) (V m c main_v17) (ix3 h j d) = _
  rw [blk4, V_v17]
  exact (hi_at _ h j d).trans (kHost_at _ h (hi j) d)

/-! ## After the ring -/

theorem cover (i : S8x512x128.Idx) : ∃ t : Fin cfg0.N, (cfg0.win 5).flush t = true ∧ i ∈ ((cfg0.win 5).blk t).view.set := by
  refine ⟨t0_0, flush0_5 _, ?_⟩
  show i ∈ ((View.whole main_v18).slice (win0_5.rect t0_0)).set
  rw [View.set_slice_whole, Rect.mem_set_unit]
  intro a
  match a with
  | ⟨0, _⟩ => exact ⟨Nat.zero_le _, by show (i 0).val < 0 + 8; have : (i 0).val < 8 := (i 0).isLt; omega⟩
  | ⟨1, _⟩ => exact ⟨Nat.zero_le _, by show (i 1).val < 0 + 512; have : (i 1).val < 512 := (i 1).isLt; omega⟩
  | ⟨2, _⟩ => exact ⟨Nat.zero_le _, by show (i 2).val < 0 + 128; have : (i 2).val < 128 := (i 2).isLt; omega⟩

theorem arr_result : (dat m c).arrAt 5 cfg0.N = stgO m c :=
  (dat m c).arrAt_eq_of_cover 5 (stgO m c) (fun t _ => by
    obtain rfl := fin_N0 t
    have ha : (dat m c).after 5 t0_0 = stgO m c := by dsimp only [dat]
    unfold Dat.flushed
    rw [ha, blk5 c (stgO m c)]
    rfl) cover

/-- The result of @main, from the attention's output. -/
def oHost (o : FVec Ideal S8x512x128 .f32) (a4 : FVec Ideal S1024x1024 .f32) : FVec Ideal S1x512x1024 .f32 :=
  shapeCast S1x512x1024 (Host.dotGeneral dMM none (shapeCast S512x1024
    (transpose S512x8x128 [1, 0, 2] o transposes_S8x512x128_S512x8x128_1_0_2) shapeCasts_S512x8x128_S512x1024) a4)
    shapeCasts_S512x1024_S1x512x1024

theorem oHost_at (o : FVec Ideal S8x512x128 .f32) (a4 : FVec Ideal S1024x1024 .f32) (i : Fin 512) (n : Fin 1024) :
    oHost o a4 (ix3 z1 i n) = (∑ k : Fin 1024, o (ix3 (hd k) i (ln k)) * a4 (ix2 k n) : EReal) := by
  unfold oHost
  rw [shapeCast_apply _ shapeCasts_S512x1024_S1x512x1024 (ix3 z1 i n) (ix2 i n)
    (by rw [Shape.rowMajor_val_two, Shape.rowMajor_val_three]; show i.val * 1024 + n.val = (0 * 512 + i.val) * 1024 + n.val; omega), mm_apply]
  refine Finset.sum_congr rfl fun k _ => congrArg (· * a4 (ix2 k n)) ?_
  rw [shapeCast_apply _ shapeCasts_S512x8x128_S512x1024 (ix2 i k) (ix3 i (hd k) (ln k))
    (by rw [Shape.rowMajor_val_two, Shape.rowMajor_val_three]; show (i.val * 8 + k.val / 128) * 128 + k.val % 128 = i.val * 1024 + k.val; omega)]
  exact transpose_apply [1, 0, 2] o transposes_S8x512x128_S512x8x128_1_0_2 (ix3 i (hd k) (ln k)) (ix3 (hd k) i (ln k)) (fun b => by
    match b with
    | ⟨0, _⟩ => rfl
    | ⟨1, _⟩ => rfl
    | ⟨2, _⟩ => rfl)

theorem V1_v18 : V1 m c (Proc.devRef .tc main_v18) = stgO m c :=
  (Function.update_self (Proc.devRef .tc main_v18 : DevRef τ sig) _ (V0 m c)).trans (arr_result m c)
theorem V1_arg4 : V1 m c (Proc.devRef .tc main_arg4) = A4 m c := (V1_ne m c (by decide)).trans (V_main_arg4 m c)

theorem VN_v22 : VN m c (Proc.devRef .tc main_v22) = oHost (stgO m c) (A4 m c) := by
  rw [← V1_v18, ← V1_arg4]
  show StableHlo.after hostOps1 (V1 m c) (Proc.devRef .tc main_v22) = _
  generalize V1 m c = W
  after_results <;> rfl

end Cert.Proof

end
-- ==== Proof.Same.lean ====
/-
  The printed kernel and its idealization are one text.
-/
module

public import proofs.«01_k».proof.Proof.Gen.Kernel
public import proofs.«01_k».proof.Proof.Gen.KernelIdeal
public import Idealize.ShloMosaic.PureOps.BitExact

@[expose] public section

set_option maxRecDepth 10000

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The two bodies are one. -/
theorem same_body : @Cert.Kernel.cc0_body F _ _ = @Cert.KernelIdeal.cc0_body F _ _ := rfl
theorem same_labels : @Cert.Kernel.defs₀ F _ _ = @Cert.KernelIdeal.defs₀ F _ _ := by
  unfold Cert.Kernel.defs₀ Cert.KernelIdeal.defs₀
  refine congrArg (Defs.onTc (nD := 16) (τ := Topo.v7x) (sig := Cert.KernelIdeal.sig) (Λ := Cert.KernelIdeal.Λ₀)) ?_
  funext l a
  match l, a with
  | ⟨0, _⟩, (t, s) => rfl
/-- The two body tables are one. -/
theorem same_defs : @Cert.Kernel.defs F _ _ = @Cert.KernelIdeal.defs F _ _ := by
  unfold Cert.Kernel.defs Cert.KernelIdeal.defs
  rw [same_labels]
  rfl
theorem same_main : @Cert.Kernel.main F _ _ = @Cert.KernelIdeal.main F _ _ := rfl

end Cert.Proof
end
-- ==== Proof.Frames.lean ====
/-
  The frames: the printed kernel and its idealization are one text, so both are the one run with the values dropped; the
  reference is host operations alone.
-/
module

public import proofs.«01_k».proof.Defs
public import proofs.«01_k».proof.Proof.Same
public import proofs.«01_k».proof.Proof.Gen.ReferenceIdeal.Run
public import proofs.«01_k».proof.Proof.Gen.ReferenceIdeal.Read
public import proofs.«01_k».proof.Proof.Run
public import Idealize.ShloMosaic.Lib.Quiescent

@[expose] public section

set_option maxRecDepth 10000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat BodyObligation)

variable {F : FTy → Type} [FloatOps F]

local notation "𝕄" => MT nD τ sig ℕ (Elt F) ℕ UU ℕ

theorem frame_ideal : Cert.quiescent_KernelIdeal := fun m g _ =>
  (θ_run Cert.KernelIdeal.defs _ _).mono (fun _ h => ⟨fun c => (h.1 c).2, h.2⟩) (run_main (F := Ideal) m g)

theorem frame_kernel : Cert.quiescent_Kernel := fun m g _ => by
  have h : θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
    (θ_run Cert.KernelIdeal.defs _ _).mono (fun _ h => ⟨fun c => (h.1 c).2, h.2⟩) (run_main (F := Bits) m g)
  rw [← same_defs] at h
  exact h

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Algebra.lean ====
/-
  The value claim: over the extended reals, with finite activations, query weights and keys, every device's result is its block
  of the reference's result.
-/
module

public import proofs.«01_k».proof.Proof.HostValue
public import proofs.«01_k».proof.Proof.Frames

@[expose] public section

set_option maxRecDepth 10000

noncomputable section

namespace Cert.Proof

open Cert.KernelIdeal Cert.KernelIdeal.Gen
open Cert.Proof.Ref (col hd ln scl qry scr att)

open Idealize.ShloMosaic
open Idealize.ShloMosaic.TcCoe
open Idealize.ShloMosaic.ValueIdx
open Idealize.SL.Sem

/-! ## Where a device's rows and keys lie -/

set_option backward.proofsInPublic true in
/-- A row of device `c`, among all, -/
abbrev rowOf (c : Dev nD) (i : Fin 512) : Fin 8192 := ⟨c.val * 512 + i.val, by have : c.val < 16 := c.isLt; omega⟩
set_option backward.proofsInPublic true in
/-- and a key. -/
abbrev keyOf (c : Dev nD) (j : Fin 2048) : Fin 32768 := ⟨c.val * 2048 + j.val, by have : c.val < 16 := c.isLt; omega⟩

abbrev WX : Shape := ⟨3, ![1, 8192, 1024]⟩
abbrev WK : Shape := ⟨4, ![1, 32768, 8, 128]⟩

theorem block_row (c : Dev nD) (v : WX.Idx → EReal) (i : Fin 512) (n : Fin 1024) :
    Layout.block S1x512x1024 WX 1 16 c v (by decide) (ix3 z1 i n) = v (ix3 z1 (rowOf c i) n) := by
  rw [Layout.block_apply]
  refine congrArg v (funext fun a => Fin.ext ?_)
  match a with
  | ⟨0, _⟩ => rfl
  | ⟨1, _⟩ => rfl
  | ⟨2, _⟩ => rfl
theorem block_key (c : Dev nD) (v : WK.Idx → EReal) (j : Fin 2048) (h : Fin 8) (d : Fin 128) :
    Layout.block S1x2048x8x128 WK 1 16 c v (by decide) (ix4 z1 j h d) = v (ix4 z1 (keyOf c j) h d) := by
  rw [Layout.block_apply]
  refine congrArg v (funext fun a => Fin.ext ?_)
  match a with
  | ⟨0, _⟩ => rfl
  | ⟨1, _⟩ => rfl
  | ⟨2, _⟩ => rfl
  | ⟨3, _⟩ => rfl

/-- A sum over all keys, device by device and half by half. -/
theorem sum_keys (f : Fin 32768 → EReal) :
    ∑ j, f j = ∑ c : Dev nD, (∑ j : Fin 1024, f (keyOf c (lo j)) + ∑ j : Fin 1024, f (keyOf c (hi j))) := by
  have e := Equiv.sum_comp (finProdFinEquiv (m := 16) (n := 2048)) (fun j : Fin (16 * 2048) => f j)
  rw [Fintype.sum_prod_type] at e
  refine e.symm.trans (Finset.sum_congr rfl fun c _ => ?_)
  refine (Fin.sum_univ_add (a := 1024) (b := 1024) (fun j : Fin (1024 + 1024) => f (finProdFinEquiv (c, j)))).trans ?_
  refine congrArg₂ (· + ·) (Finset.sum_congr rfl fun j _ => congrArg f (Fin.ext ?_)) (Finset.sum_congr rfl fun j _ => congrArg f (Fin.ext ?_))
  · show j.val + 2048 * c.val = c.val * 2048 + j.val; omega
  · show (1024 + j.val) + 2048 * c.val = c.val * 2048 + (1024 + j.val); omega

/-! ## The precondition -/

theorem preK : Cert.Pre_finite_inputs_KernelIdeal.Facts := ⟨by decide, by decide, by decide⟩
theorem preR : Cert.Pre_finite_inputs_ReferenceIdeal.Facts := ⟨by decide, by decide, by decide⟩

theorem top_word : Ideal.ofBits .f32 0x7F800000#32 = (⊤ : EReal) := by simp [Ideal.ofBits, Ideal.ieee]

/-- An element the precondition accepts is real. -/
theorem real_of_word {x : EReal} (h : Ideal.cmp .olt (max x (-x)) (Ideal.ofBits .f32 0x7F800000#32) = 1#1) : IsR x := by
  rw [top_word] at h
  refine fin_of_abs_lt ?_
  by_contra hn
  have e : Ideal.cmp .olt (max x (-x)) ⊤ = BitVec.ofBool (decide (max x (-x) < ⊤)) := rfl
  rw [e, decide_eq_false hn] at h
  exact absurd h (by decide)

section Value

variable (m : (ℓ : Loc nD τ sig) → Buf (Elt Ideal) ℓ)

theorem real_args (h : Cert.Pre_KernelIdeal_finite_inputs_KernelIdeal (hPre_finite_inputs_KernelIdeal := preK) m) (c : Dev nD) :
    (∀ j, IsR (A0 m c j)) ∧ (∀ j, IsR (A1 m c j)) ∧ ∀ j, IsR (A2 m c j) :=
  ⟨fun j => real_of_word (congrFun (h c).1 j), fun j => real_of_word (congrFun (h c).2.1 j), fun j => real_of_word (congrFun (h c).2.2 j)⟩

variable {m} {x0 : WX.Idx → EReal} {x1 : S1024x1024.Idx → EReal} {x2 x3 : WK.Idx → EReal} {x4 : S1024x1024.Idx → EReal}
  (e0 : ∀ c i k, A0 m c (ix3 z1 i k) = x0 (ix3 z1 (rowOf c i) k)) (e1 : ∀ c, A1 m c = x1)
  (e2 : ∀ c j h d, A2 m c (ix4 z1 j h d) = x2 (ix4 z1 (keyOf c j) h d))
  (e3 : ∀ c j h d, A3 m c (ix4 z1 j h d) = x3 (ix4 z1 (keyOf c j) h d)) (e4 : ∀ c, A4 m c = x4)
  (h0 : ∀ j, IsR (x0 j)) (h1 : ∀ j, IsR (x1 j)) (h2 : ∀ j, IsR (x2 j))

include e0 e1 in
theorem stgQ_eq (c : Dev nD) (h : Fin 8) (i : Fin 512) (d : Fin 128) : stgQ m c (ix3 h i d) = (qry x0 x1 (rowOf c i) h d * scl : EReal) := by
  rw [stgQ_at, e1]
  exact congrArg (· * scl) (Finset.sum_congr rfl fun k _ => congrArg (· * x1 (ix2 k (col h d))) (e0 c i k))

include e0 e1 h0 h1 h2 in
/-- A score of the kernel is the reference's. -/
theorem sc_eq (c : Dev nD) (K : Blk Ideal) (h : Fin 8) (i : Fin 512) (j : Fin 1024) (J : Fin 32768)
    (hK : ∀ d, K (ix3 h j d) = x2 (ix4 z1 J h d)) : sc (stgQ m c) K h i j = scr x0 x1 x2 h (rowOf c i) J := by
  unfold sc scr
  rw [← sum_scaled (q := fun d : Fin 128 => qry x0 x1 (rowOf c i) h d) (k := fun d => x2 (ix4 z1 J h d)) (c := scl)
    (fun d => Ref.qry_real h0 h1 _ h d) (fun d => h2 _) Ref.scl_real]
  exact Finset.sum_congr rfl fun d _ => congrArg₂ (· * ·) (stgQ_eq e0 e1 c h i d) (hK d)

include e0 e1 e2 e3 h0 h1 h2 in
/-- What the ring leaves on a device is its rows of the attention. -/
theorem stgO_eq (c : Dev nD) (h : Fin 8) (i : Fin 512) (d : Fin 128) : stgO m c (ix3 h i d) = att x0 x1 x2 x3 h (rowOf c i) d := by
  unfold stgO att
  rw [outO_apply, sum_keys, sum_keys]
  have s0 := fun (c' : Dev nD) (j : Fin 1024) => sc_eq e0 e1 h0 h1 h2 c (stgX m 0 c') h i j (keyOf c' (lo j)) fun d => (stgX0_at m c' h j d).trans (e2 c' (lo j) h d)
  have s2 := fun (c' : Dev nD) (j : Fin 1024) => sc_eq e0 e1 h0 h1 h2 c (stgX m 2 c') h i j (keyOf c' (hi j)) fun d => (stgX2_at m c' h j d).trans (e2 c' (hi j) h d)
  have v1 := fun (c' : Dev nD) (j : Fin 1024) => (stgX1_at m c' h j d).trans (e3 c' (lo j) h d)
  have v3 := fun (c' : Dev nD) (j : Fin 1024) => (stgX3_at m c' h j d).trans (e3 c' (hi j) h d)
  refine congrArg₂ Ideal.div (Finset.sum_congr rfl fun c' _ => congrArg₂ (· + ·) ?_ ?_) (Finset.sum_congr rfl fun c' _ => congrArg₂ (· + ·) ?_ ?_)
  · exact Finset.sum_congr rfl fun j _ => congrArg₂ (Ideal.exp · * ·) (s0 c' j) (v1 c' j)
  · exact Finset.sum_congr rfl fun j _ => congrArg₂ (Ideal.exp · * ·) (s2 c' j) (v3 c' j)
  · exact Finset.sum_congr rfl fun j _ => congrArg Ideal.exp (s0 c' j)
  · exact Finset.sum_congr rfl fun j _ => congrArg Ideal.exp (s2 c' j)

include e0 e1 e2 e3 e4 h0 h1 h2 in
/-- A device's result is its block of the reference's. -/
theorem result_eq (c : Dev nD) : VN m c (Proc.devRef .tc main_v22)
    = Layout.block S1x512x1024 WX 1 16 c (Cert.ReferenceIdeal.Read.val_main_v19 (F := Ideal) x0 x1 x2 x3 x4) (by decide) := by
  rw [VN_v22]
  funext y
  obtain ⟨a, i, n, rfl⟩ : ∃ (a : Fin 1) (i : Fin 512) (n : Fin 1024), y = ix3 a i n := ⟨_, _, _, eq_ix3 y⟩
  obtain rfl : a = z1 := Subsingleton.elim _ _
  rw [block_row, Ref.v19_at x3 x4 h0 h1 h2, oHost_at, e4]
  exact Finset.sum_congr rfl fun k _ => congrArg (· * x4 (ix2 k n)) (stgO_eq e0 e1 e2 e3 h0 h1 h2 c (hd k) i (ln k))

end Value

/-! ## The claim -/

theorem frame_ideal_pre : Cert.quiescent_KernelIdeal_pre_finite_inputs_KernelIdeal (hPre_finite_inputs_KernelIdeal := preK) :=
  fun m g _ => frame_ideal m g trivial
theorem frame_reference_pre : Cert.quiescent_ReferenceIdeal_pre_finite_inputs_ReferenceIdeal (hPre_finite_inputs_ReferenceIdeal := preR) :=
  fun m g _ => frame_reference m g trivial

theorem value : Cert.algebraic_KernelIdeal_ReferenceIdeal_pre_finite_inputs_KernelIdeal (hPre_finite_inputs_KernelIdeal := preK) :=
  fun m g m' g' pre args => by
  have re := real_args m pre
  have e0 : ∀ (c : Dev nD) i k, A0 m c (ix3 z1 i k) = m' (((0 : Dev Cert.ReferenceIdeal.nD).tc : Thread Cert.ReferenceIdeal.nD Cert.ReferenceIdeal.τ).loc Cert.ReferenceIdeal.main_arg0) (ix3 z1 (rowOf c i) k) :=
    fun c i k => (congrFun (args c).1 (ix3 z1 i k)).trans (block_row c _ i k)
  have e2 : ∀ (c : Dev nD) j h d, A2 m c (ix4 z1 j h d) = m' (((0 : Dev Cert.ReferenceIdeal.nD).tc : Thread Cert.ReferenceIdeal.nD Cert.ReferenceIdeal.τ).loc Cert.ReferenceIdeal.main_arg2) (ix4 z1 (keyOf c j) h d) :=
    fun c j h d => (congrFun (args c).2.2.1 (ix4 z1 j h d)).trans (block_key c _ j h d)
  have e3 : ∀ (c : Dev nD) j h d, A3 m c (ix4 z1 j h d) = m' (((0 : Dev Cert.ReferenceIdeal.nD).tc : Thread Cert.ReferenceIdeal.nD Cert.ReferenceIdeal.τ).loc Cert.ReferenceIdeal.main_arg3) (ix4 z1 (keyOf c j) h d) :=
    fun c j h d => (congrFun (args c).2.2.2.1 (ix4 z1 j h d)).trans (block_key c _ j h d)
  have h0 : ∀ j, IsR (m' (((0 : Dev Cert.ReferenceIdeal.nD).tc : Thread Cert.ReferenceIdeal.nD Cert.ReferenceIdeal.τ).loc Cert.ReferenceIdeal.main_arg0) j) := fun j => by
    obtain ⟨a, i, k, rfl⟩ : ∃ (a : Fin 1) (i : Fin 8192) (k : Fin 1024), j = ix3 a i k := ⟨_, _, _, eq_ix3 j⟩
    obtain rfl : a = z1 := Subsingleton.elim _ _
    have e : i = rowOf ⟨i.val / 512, by show _ < 16; omega⟩ ⟨i.val % 512, by omega⟩ := Fin.ext (by show i.val = i.val / 512 * 512 + i.val % 512; omega)
    rw [e, ← e0]
    exact (re _).1 _
  have h1 : ∀ j, IsR (m' (((0 : Dev Cert.ReferenceIdeal.nD).tc : Thread Cert.ReferenceIdeal.nD Cert.ReferenceIdeal.τ).loc Cert.ReferenceIdeal.main_arg1) j) := fun j => by
    rw [← (args 0).2.1]
    exact (re 0).2.1 j
  have h2 : ∀ j, IsR (m' (((0 : Dev Cert.ReferenceIdeal.nD).tc : Thread Cert.ReferenceIdeal.nD Cert.ReferenceIdeal.τ).loc Cert.ReferenceIdeal.main_arg2) j) := fun j => by
    obtain ⟨a, i, h, d, rfl⟩ : ∃ (a : Fin 1) (i : Fin 32768) (h : Fin 8) (d : Fin 128), j = ix4 a i h d := ⟨_, _, _, _, eq_ix4 j⟩
    obtain rfl : a = z1 := Subsingleton.elim _ _
    have e : i = keyOf ⟨i.val / 2048, by show _ < 16; omega⟩ ⟨i.val % 2048, by omega⟩ := Fin.ext (by show i.val = i.val / 2048 * 2048 + i.val % 2048; omega)
    rw [e, ← e2]
    exact (re _).2.2 _
  refine ⟨_, (θ_run Cert.KernelIdeal.defs _ _).mono (fun r h c => ⟨((h.1 c).1).trans
      (result_eq e0 (fun c => (args c).2.1) e2 e3 (fun c => (args c).2.2.2.2) h0 h1 h2 c), (h.1 c).2⟩) (run_main (F := Ideal) m g), ?_⟩
  exact (θ_run Cert.ReferenceIdeal.defs _ _).mono (fun r h => ⟨(h 0).1.trans (Cert.ReferenceIdeal.Read.val_main_v19_eq ..), (h 0).2⟩)
    (Cert.ReferenceIdeal.Value.run (F := Ideal) m' g')

end Cert.Proof

end
-- ==== Proof.lean ====
/-
  The certificate: each claim is proved in its own module.
-/
module

public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, preK, preR,
    frame_kernel, frame_ideal, frame_ideal_pre, frame_reference, frame_reference_pre, trivial, value⟩

end Cert.Proof

end
